-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.Statement Cert.KernelIdeal.S32x128 Cert.KernelIdeal.S16x128
  ∧ IdealRules.bf16_pair.SelectZeroStatement Cert.KernelIdeal.S16x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x24x32x1024 : Shape := ⟨4, ![2, 24, 32, 1024]⟩
abbrev S2 : Shape := ⟨1, ![2]⟩
abbrev S2x1024 : Shape := ⟨2, ![2, 1024]⟩
abbrev S3x3x1024x640 : Shape := ⟨4, ![3, 3, 1024, 640]⟩
abbrev S640 : Shape := ⟨1, ![640]⟩
abbrev S1536x1024 : Shape := ⟨2, ![1536, 1024]⟩
abbrev S9x1024x640 : Shape := ⟨3, ![9, 1024, 640]⟩
abbrev S1x640 : Shape := ⟨2, ![1, 640]⟩
abbrev S1536x640 : Shape := ⟨2, ![1536, 640]⟩
abbrev S2x640 : Shape := ⟨2, ![2, 640]⟩
abbrev S3x1536x1024 : Shape := ⟨3, ![3, 1536, 1024]⟩
abbrev S2x1024x128 : Shape := ⟨3, ![2, 1024, 128]⟩
abbrev S1x128 : Shape := ⟨2, ![1, 128]⟩
abbrev S128x128 : Shape := ⟨2, ![128, 128]⟩
abbrev S1x128x128 : Shape := ⟨3, ![1, 128, 128]⟩
abbrev S1 : Shape := ⟨1, ![1]⟩
abbrev S32x128 : Shape := ⟨2, ![32, 128]⟩
abbrev S1x32x128 : Shape := ⟨3, ![1, 32, 128]⟩
abbrev S16x128 : Shape := ⟨2, ![16, 128]⟩
abbrev S8x256 : Shape := ⟨2, ![8, 256]⟩
abbrev S32x256 : Shape := ⟨2, ![32, 256]⟩
abbrev S1x32x256 : Shape := ⟨3, ![1, 32, 256]⟩
abbrev S4x8x256 : Shape := ⟨3, ![4, 8, 256]⟩
abbrev S1x256 : Shape := ⟨2, ![1, 256]⟩
abbrev S256 : Shape := ⟨1, ![256]⟩
abbrev S1x736x1024 : Shape := ⟨3, ![1, 736, 1024]⟩
abbrev S736x1024 : Shape := ⟨2, ![736, 1024]⟩
abbrev S1x1024x256 : Shape := ⟨3, ![1, 1024, 256]⟩
abbrev S1024x256 : Shape := ⟨2, ![1024, 256]⟩
abbrev S736x256 : Shape := ⟨2, ![736, 256]⟩
abbrev S768x256 : Shape := ⟨2, ![768, 256]⟩
abbrev S1x768x1024 : Shape := ⟨3, ![1, 768, 1024]⟩
abbrev S768x1024 : Shape := ⟨2, ![768, 1024]⟩
abbrev S8x128 : Shape := ⟨2, ![8, 128]⟩
abbrev S4x8x128 : Shape := ⟨3, ![4, 8, 128]⟩
abbrev S128 : Shape := ⟨1, ![128]⟩
abbrev S1x1024x128 : Shape := ⟨3, ![1, 1024, 128]⟩
abbrev S1024x128 : Shape := ⟨2, ![1024, 128]⟩
abbrev S736x128 : Shape := ⟨2, ![736, 128]⟩
abbrev S768x128 : Shape := ⟨2, ![768, 128]⟩

abbrev nBuf : Space → Nat
  | .hbm => 10
  | .vmem => 8
  | .smem => 1
  | _ => 0

abbrev bufTy : (tb : Table) → Fin (tcTables nBuf tb) → BufTy
  | .hbm, ⟨0, _⟩ => ⟨S2x24x32x1024, .fp8e4m3⟩
  | .hbm, ⟨1, _⟩ => ⟨S2, .f32⟩
  | .hbm, ⟨2, _⟩ => ⟨S2x1024, .f32⟩
  | .hbm, ⟨3, _⟩ => ⟨S3x3x1024x640, .fp8e4m3⟩
  | .hbm, ⟨4, _⟩ => ⟨S640, .f32⟩
  | .hbm, ⟨5, _⟩ => ⟨S1536x1024, .fp8e4m3⟩
  | .hbm, ⟨6, _⟩ => ⟨S9x1024x640, .fp8e4m3⟩
  | .hbm, ⟨7, _⟩ => ⟨S1x640, .f32⟩
  | .hbm, ⟨8, _⟩ => ⟨S1536x640, .bf16⟩
  | .hbm, ⟨9, _⟩ => ⟨S2x640, .f32⟩
  | .local _ .vmem, ⟨0, _⟩ => ⟨S1536x1024, .fp8e4m3⟩
  | .local _ .vmem, ⟨1, _⟩ => ⟨S2x1024, .f32⟩
  | .local _ .vmem, ⟨2, _⟩ => ⟨S9x1024x640, .fp8e4m3⟩
  | .local _ .vmem, ⟨3, _⟩ => ⟨S1x640, .f32⟩
  | .local _ .vmem, ⟨4, _⟩ => ⟨S1536x640, .bf16⟩
  | .local _ .vmem, ⟨5, _⟩ => ⟨S2x640, .f32⟩
  | .local _ .vmem, ⟨6, _⟩ => ⟨S3x1536x1024, .bf16⟩
  | .local _ .vmem, ⟨7, _⟩ => ⟨S2x1024x128, .f32⟩
  | .local _ .smem, ⟨0, _⟩ => ⟨S2, .f32⟩
  | _, _ => ⟨S2x24x32x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_scratch0 : Ref sig .tc := ⟨.vmem, 6, rfl⟩
abbrev cc0_scratch1 : Ref sig .tc := ⟨.vmem, 7, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c24_i32 : BitVec 32 := 24#32
  let v12 : BitVec 32 := Scalar.addi c0_i32 c24_i32
  let c1_i32 : BitVec 32 := 1#32
  ⟨c0_i32, v12, c1_i32⟩
def k0_mult1 (k0_t1 : Fin k0_t1_loop.trips) : BitVec 32 :=
  let c0_i32_612 : BitVec 32 := 0#32
  let c0_i32 : BitVec 32 := 0#32
  let c1_i32 : BitVec 32 := 1#32
  let arg9 : BitVec 32 := Scf.iv c0_i32 c1_i32 k0_t1
  let c32_i32_611 : BitVec 32 := 32#32
  let v754 : BitVec 32 := Scalar.muli arg9 c32_i32_611
  let v755 : BitVec 32 := Scalar.addi c0_i32_612 v754
  v755
def k0_off1 (k0_t1 : Fin k0_t1_loop.trips) : Fin 2 → Nat :=
  let c0_i32_612 : BitVec 32 := 0#32
  let c0_i32 : BitVec 32 := 0#32
  let c1_i32 : BitVec 32 := 1#32
  let arg9 : BitVec 32 := Scf.iv c0_i32 c1_i32 k0_t1
  let c32_i32_611 : BitVec 32 := 32#32
  let v754 : BitVec 32 := Scalar.muli arg9 c32_i32_611
  let v755 : BitVec 32 := Scalar.addi c0_i32_612 v754
  let v756 : BitVec 32 := v755
  let v757 : Index := Scalar.indexCast v756
  let c0_613 : Index := 0#32
  ![v757.toNat, 0]
def k0_off2 (k0_t1 : Fin k0_t1_loop.trips) : Fin 3 → Nat :=
  let c1_614 : Index := 1#32
  let c0_i32_612 : BitVec 32 := 0#32
  let c0_i32 : BitVec 32 := 0#32
  let c1_i32 : BitVec 32 := 1#32
  let arg9 : BitVec 32 := Scf.iv c0_i32 c1_i32 k0_t1
  let c32_i32_611 : BitVec 32 := 32#32
  let v754 : BitVec 32 := Scalar.muli arg9 c32_i32_611
  let v755 : BitVec 32 := Scalar.addi c0_i32_612 v754
  let v756 : BitVec 32 := v755
  let v763 : Index := Scalar.indexCast v756
  let c0_615 : Index := 0#32
  ![1, v763.toNat, 0]
def k0_off3 (k0_t1 : Fin k0_t1_loop.trips) : Fin 3 → Nat :=
  let c0_620 : Index := 0#32
  let c0_i32_612 : BitVec 32 := 0#32
  let c0_i32 : BitVec 32 := 0#32
  let c1_i32 : BitVec 32 := 1#32
  let arg9 : BitVec 32 := Scf.iv c0_i32 c1_i32 k0_t1
  let c32_i32_611 : BitVec 32 := 32#32
  let v754 : BitVec 32 := Scalar.muli arg9 c32_i32_611
  let v755 : BitVec 32 := Scalar.addi c0_i32_612 v754
  let v756 : BitVec 32 := v755
  let v780 : Index := Scalar.indexCast v756
  let c0_621 : Index := 0#32
  ![0, v780.toNat, 0]
def k0_off4 (k0_t1 : Fin k0_t1_loop.trips) : Fin 3 → Nat :=
  let c2_626 : Index := 2#32
  let c0_i32_612 : BitVec 32 := 0#32
  let c0_i32 : BitVec 32 := 0#32
  let c1_i32 : BitVec 32 := 1#32
  let arg9 : BitVec 32 := Scf.iv c0_i32 c1_i32 k0_t1
  let c32_i32_611 : BitVec 32 := 32#32
  let v754 : BitVec 32 := Scalar.muli arg9 c32_i32_611
  let v755 : BitVec 32 := Scalar.addi c0_i32_612 v754
  let v756 : BitVec 32 := v755
  let v797 : Index := Scalar.indexCast v756
  let c0_627 : Index := 0#32
  ![2, v797.toNat, 0]
@[reducible] def k0_t2_loop : Scf.Loop 32 :=
  let c0_i32_11 : BitVec 32 := 0#32
  let c24_i32_12 : BitVec 32 := 24#32
  let v25 : BitVec 32 := Scalar.addi c0_i32_11 c24_i32_12
  let c1_i32_13 : BitVec 32 := 1#32
  ⟨c0_i32_11, v25, c1_i32_13⟩
def k0_mult2 (k0_t2 : Fin k0_t2_loop.trips) : BitVec 32 :=
  let c0_i32_612 : BitVec 32 := 0#32
  let c0_i32_11 : BitVec 32 := 0#32
  let c1_i32_13 : BitVec 32 := 1#32
  let arg9 : BitVec 32 := Scf.iv c0_i32_11 c1_i32_13 k0_t2
  let c32_i32_611 : BitVec 32 := 32#32
  let v754 : BitVec 32 := Scalar.muli arg9 c32_i32_611
  let v755 : BitVec 32 := Scalar.addi c0_i32_612 v754
  v755
def k0_off5 (k0_t2 : Fin k0_t2_loop.trips) : Fin 2 → Nat :=
  let c0_i32_612 : BitVec 32 := 0#32
  let c0_i32_11 : BitVec 32 := 0#32
  let c1_i32_13 : BitVec 32 := 1#32
  let arg9 : BitVec 32 := Scf.iv c0_i32_11 c1_i32_13 k0_t2
  let c32_i32_611 : BitVec 32 := 32#32
  let v754 : BitVec 32 := Scalar.muli arg9 c32_i32_611
  let v755 : BitVec 32 := Scalar.addi c0_i32_612 v754
  let v756 : BitVec 32 := v755
  let v757 : Index := Scalar.indexCast v756
  let c128_613 : Index := 128#32
  ![v757.toNat, 128]
def k0_off6 (k0_t2 : Fin k0_t2_loop.trips) : Fin 3 → Nat :=
  let c1_614 : Index := 1#32
  let c0_i32_612 : BitVec 32 := 0#32
  let c0_i32_11 : BitVec 32 := 0#32
  let c1_i32_13 : BitVec 32 := 1#32
  let arg9 : BitVec 32 := Scf.iv c0_i32_11 c1_i32_13 k0_t2
  let c32_i32_611 : BitVec 32 := 32#32
  let v754 : BitVec 32 := Scalar.muli arg9 c32_i32_611
  let v755 : BitVec 32 := Scalar.addi c0_i32_612 v754
  let v756 : BitVec 32 := v755
  let v763 : Index := Scalar.indexCast v756
  let c128_615 : Index := 128#32
  ![1, v763.toNat, 128]
def k0_off7 (k0_t2 : Fin k0_t2_loop.trips) : Fin 3 → Nat :=
  let c0_620 : Index := 0#32
  let c0_i32_612 : BitVec 32 := 0#32
  let c0_i32_11 : BitVec 32 := 0#32
  let c1_i32_13 : BitVec 32 := 1#32
  let arg9 : BitVec 32 := Scf.iv c0_i32_11 c1_i32_13 k0_t2
  let c32_i32_611 : BitVec 32 := 32#32
  let v754 : BitVec 32 := Scalar.muli arg9 c32_i32_611
  let v755 : BitVec 32 := Scalar.addi c0_i32_612 v754
  let v756 : BitVec 32 := v755
  let v780 : Index := Scalar.indexCast v756
  let c128_621 : Index := 128#32
  ![0, v780.toNat, 128]
def k0_off8 (k0_t2 : Fin k0_t2_loop.trips) : Fin 3 → Nat :=
  let c2_626 : Index := 2#32
  let c0_i32_612 : BitVec 32 := 0#32
  let c0_i32_11 : BitVec 32 := 0#32
  let c1_i32_13 : BitVec 32 := 1#32
  let arg9 : BitVec 32 := Scf.iv c0_i32_11 c1_i32_13 k0_t2
  let c32_i32_611 : BitVec 32 := 32#32
  let v754 : BitVec 32 := Scalar.muli arg9 c32_i32_611
  let v755 : BitVec 32 := Scalar.addi c0_i32_612 v754
  let v756 : BitVec 32 := v755
  let v797 : Index := Scalar.indexCast v756
  let c128_627 : Index := 128#32
  ![2, v797.toNat, 128]
@[reducible] def k0_t3_loop : Scf.Loop 32 :=
  let c0_i32_20 : BitVec 32 := 0#32
  let c24_i32_21 : BitVec 32 := 24#32
  let v38 : BitVec 32 := Scalar.addi c0_i32_20 c24_i32_21
  let c1_i32_22 : BitVec 32 := 1#32
  ⟨c0_i32_20, v38, c1_i32_22⟩
def k0_mult3 (k0_t3 : Fin k0_t3_loop.trips) : BitVec 32 :=
  let c0_i32_612 : BitVec 32 := 0#32
  let c0_i32_20 : BitVec 32 := 0#32
  let c1_i32_22 : BitVec 32 := 1#32
  let arg9 : BitVec 32 := Scf.iv c0_i32_20 c1_i32_22 k0_t3
  let c32_i32_611 : BitVec 32 := 32#32
  let v754 : BitVec 32 := Scalar.muli arg9 c32_i32_611
  let v755 : BitVec 32 := Scalar.addi c0_i32_612 v754
  v755
def k0_off9 (k0_t3 : Fin k0_t3_loop.trips) : Fin 2 → Nat :=
  let c0_i32_612 : BitVec 32 := 0#32
  let c0_i32_20 : BitVec 32 := 0#32
  let c1_i32_22 : BitVec 32 := 1#32
  let arg9 : BitVec 32 := Scf.iv c0_i32_20 c1_i32_22 k0_t3
  let c32_i32_611 : BitVec 32 := 32#32
  let v754 : BitVec 32 := Scalar.muli arg9 c32_i32_611
  let v755 : BitVec 32 := Scalar.addi c0_i32_612 v754
  let v756 : BitVec 32 := v755
  let v757 : Index := Scalar.indexCast v756
  let c256_613 : Index := 256#32
  ![v757.toNat, 256]
def k0_off10 (k0_t3 : Fin k0_t3_loop.trips) : Fin 3 → Nat :=
  let c1_614 : Index := 1#32
  let c0_i32_612 : BitVec 32 := 0#32
  let c0_i32_20 : BitVec 32 := 0#32
  let c1_i32_22 : BitVec 32 := 1#32
  let arg9 : BitVec 32 := Scf.iv c0_i32_20 c1_i32_22 k0_t3
  let c32_i32_611 : BitVec 32 := 32#32
  let v754 : BitVec 32 := Scalar.muli arg9 c32_i32_611
  let v755 : BitVec 32 := Scalar.addi c0_i32_612 v754
  let v756 : BitVec 32 := v755
  let v763 : Index := Scalar.indexCast v756
  let c256_615 : Index := 256#32
  ![1, v763.toNat, 256]
def k0_off11 (k0_t3 : Fin k0_t3_loop.trips) : Fin 3 → Nat :=
  let c0_620 : Index := 0#32
  let c0_i32_612 : BitVec 32 := 0#32
  let c0_i32_20 : BitVec 32 := 0#32
  let c1_i32_22 : BitVec 32 := 1#32
  let arg9 : BitVec 32 := Scf.iv c0_i32_20 c1_i32_22 k0_t3
  let c32_i32_611 : BitVec 32 := 32#32
  let v754 : BitVec 32 := Scalar.muli arg9 c32_i32_611
  let v755 : BitVec 32 := Scalar.addi c0_i32_612 v754
  let v756 : BitVec 32 := v755
  let v780 : Index := Scalar.indexCast v756
  let c256_621 : Index := 256#32
  ![0, v780.toNat, 256]
def k0_off12 (k0_t3 : Fin k0_t3_loop.trips) : Fin 3 → Nat :=
  let c2_626 : Index := 2#32
  let c0_i32_612 : BitVec 32 := 0#32
  let c0_i32_20 : BitVec 32 := 0#32
  let c1_i32_22 : BitVec 32 := 1#32
  let arg9 : BitVec 32 := Scf.iv c0_i32_20 c1_i32_22 k0_t3
  let c32_i32_611 : BitVec 32 := 32#32
  let v754 : BitVec 32 := Scalar.muli arg9 c32_i32_611
  let v755 : BitVec 32 := Scalar.addi c0_i32_612 v754
  let v756 : BitVec 32 := v755
  let v797 : Index := Scalar.indexCast v756
  let c256_627 : Index := 256#32
  ![2, v797.toNat, 256]
@[reducible] def k0_t4_loop : Scf.Loop 32 :=
  let c0_i32_29 : BitVec 32 := 0#32
  let c24_i32_30 : BitVec 32 := 24#32
  let v51 : BitVec 32 := Scalar.addi c0_i32_29 c24_i32_30
  let c1_i32_31 : BitVec 32 := 1#32
  ⟨c0_i32_29, v51, c1_i32_31⟩
def k0_mult4 (k0_t4 : Fin k0_t4_loop.trips) : BitVec 32 :=
  let c0_i32_612 : BitVec 32 := 0#32
  let c0_i32_29 : BitVec 32 := 0#32
  let c1_i32_31 : BitVec 32 := 1#32
  let arg9 : BitVec 32 := Scf.iv c0_i32_29 c1_i32_31 k0_t4
  let c32_i32_611 : BitVec 32 := 32#32
  let v754 : BitVec 32 := Scalar.muli arg9 c32_i32_611
  let v755 : BitVec 32 := Scalar.addi c0_i32_612 v754
  v755
def k0_off13 (k0_t4 : Fin k0_t4_loop.trips) : Fin 2 → Nat :=
  let c0_i32_612 : BitVec 32 := 0#32
  let c0_i32_29 : BitVec 32 := 0#32
  let c1_i32_31 : BitVec 32 := 1#32
  let arg9 : BitVec 32 := Scf.iv c0_i32_29 c1_i32_31 k0_t4
  let c32_i32_611 : BitVec 32 := 32#32
  let v754 : BitVec 32 := Scalar.muli arg9 c32_i32_611
  let v755 : BitVec 32 := Scalar.addi c0_i32_612 v754
  let v756 : BitVec 32 := v755
  let v757 : Index := Scalar.indexCast v756
  let c384_613 : Index := 384#32
  ![v757.toNat, 384]
def k0_off14 (k0_t4 : Fin k0_t4_loop.trips) : Fin 3 → Nat :=
  let c1_614 : Index := 1#32
  let c0_i32_612 : BitVec 32 := 0#32
  let c0_i32_29 : BitVec 32 := 0#32
  let c1_i32_31 : BitVec 32 := 1#32
  let arg9 : BitVec 32 := Scf.iv c0_i32_29 c1_i32_31 k0_t4
  let c32_i32_611 : BitVec 32 := 32#32
  let v754 : BitVec 32 := Scalar.muli arg9 c32_i32_611
  let v755 : BitVec 32 := Scalar.addi c0_i32_612 v754
  let v756 : BitVec 32 := v755
  let v763 : Index := Scalar.indexCast v756
  let c384_615 : Index := 384#32
  ![1, v763.toNat, 384]
def k0_off15 (k0_t4 : Fin k0_t4_loop.trips) : Fin 3 → Nat :=
  let c0_620 : Index := 0#32
  let c0_i32_612 : BitVec 32 := 0#32
  let c0_i32_29 : BitVec 32 := 0#32
  let c1_i32_31 : BitVec 32 := 1#32
  let arg9 : BitVec 32 := Scf.iv c0_i32_29 c1_i32_31 k0_t4
  let c32_i32_611 : BitVec 32 := 32#32
  let v754 : BitVec 32 := Scalar.muli arg9 c32_i32_611
  let v755 : BitVec 32 := Scalar.addi c0_i32_612 v754
  let v756 : BitVec 32 := v755
  let v780 : Index := Scalar.indexCast v756
  let c384_621 : Index := 384#32
  ![0, v780.toNat, 384]
def k0_off16 (k0_t4 : Fin k0_t4_loop.trips) : Fin 3 → Nat :=
  let c2_626 : Index := 2#32
  let c0_i32_612 : BitVec 32 := 0#32
  let c0_i32_29 : BitVec 32 := 0#32
  let c1_i32_31 : BitVec 32 := 1#32
  let arg9 : BitVec 32 := Scf.iv c0_i32_29 c1_i32_31 k0_t4
  let c32_i32_611 : BitVec 32 := 32#32
  let v754 : BitVec 32 := Scalar.muli arg9 c32_i32_611
  let v755 : BitVec 32 := Scalar.addi c0_i32_612 v754
  let v756 : BitVec 32 := v755
  let v797 : Index := Scalar.indexCast v756
  let c384_627 : Index := 384#32
  ![2, v797.toNat, 384]
@[reducible] def k0_t5_loop : Scf.Loop 32 :=
  let c0_i32_38 : BitVec 32 := 0#32
  let c24_i32_39 : BitVec 32 := 24#32
  let v64 : BitVec 32 := Scalar.addi c0_i32_38 c24_i32_39
  let c1_i32_40 : BitVec 32 := 1#32
  ⟨c0_i32_38, v64, c1_i32_40⟩
def k0_mult5 (k0_t5 : Fin k0_t5_loop.trips) : BitVec 32 :=
  let c0_i32_612 : BitVec 32 := 0#32
  let c0_i32_38 : BitVec 32 := 0#32
  let c1_i32_40 : BitVec 32 := 1#32
  let arg9 : BitVec 32 := Scf.iv c0_i32_38 c1_i32_40 k0_t5
  let c32_i32_611 : BitVec 32 := 32#32
  let v754 : BitVec 32 := Scalar.muli arg9 c32_i32_611
  let v755 : BitVec 32 := Scalar.addi c0_i32_612 v754
  v755
def k0_off17 (k0_t5 : Fin k0_t5_loop.trips) : Fin 2 → Nat :=
  let c0_i32_612 : BitVec 32 := 0#32
  let c0_i32_38 : BitVec 32 := 0#32
  let c1_i32_40 : BitVec 32 := 1#32
  let arg9 : BitVec 32 := Scf.iv c0_i32_38 c1_i32_40 k0_t5
  let c32_i32_611 : BitVec 32 := 32#32
  let v754 : BitVec 32 := Scalar.muli arg9 c32_i32_611
  let v755 : BitVec 32 := Scalar.addi c0_i32_612 v754
  let v756 : BitVec 32 := v755
  let v757 : Index := Scalar.indexCast v756
  let c512_613 : Index := 512#32
  ![v757.toNat, 512]
def k0_off18 (k0_t5 : Fin k0_t5_loop.trips) : Fin 3 → Nat :=
  let c1_614 : Index := 1#32
  let c0_i32_612 : BitVec 32 := 0#32
  let c0_i32_38 : BitVec 32 := 0#32
  let c1_i32_40 : BitVec 32 := 1#32
  let arg9 : BitVec 32 := Scf.iv c0_i32_38 c1_i32_40 k0_t5
  let c32_i32_611 : BitVec 32 := 32#32
  let v754 : BitVec 32 := Scalar.muli arg9 c32_i32_611
  let v755 : BitVec 32 := Scalar.addi c0_i32_612 v754
  let v756 : BitVec 32 := v755
  let v763 : Index := Scalar.indexCast v756
  let c512_615 : Index := 512#32
  ![1, v763.toNat, 512]
def k0_off19 (k0_t5 : Fin k0_t5_loop.trips) : Fin 3 → Nat :=
  let c0_620 : Index := 0#32
  let c0_i32_612 : BitVec 32 := 0#32
  let c0_i32_38 : BitVec 32 := 0#32
  let c1_i32_40 : BitVec 32 := 1#32
  let arg9 : BitVec 32 := Scf.iv c0_i32_38 c1_i32_40 k0_t5
  let c32_i32_611 : BitVec 32 := 32#32
  let v754 : BitVec 32 := Scalar.muli arg9 c32_i32_611
  let v755 : BitVec 32 := Scalar.addi c0_i32_612 v754
  let v756 : BitVec 32 := v755
  let v780 : Index := Scalar.indexCast v756
  let c512_621 : Index := 512#32
  ![0, v780.toNat, 512]
def k0_off20 (k0_t5 : Fin k0_t5_loop.trips) : Fin 3 → Nat :=
  let c2_626 : Index := 2#32
  let c0_i32_612 : BitVec 32 := 0#32
  let c0_i32_38 : BitVec 32 := 0#32
  let c1_i32_40 : BitVec 32 := 1#32
  let arg9 : BitVec 32 := Scf.iv c0_i32_38 c1_i32_40 k0_t5
  let c32_i32_611 : BitVec 32 := 32#32
  let v754 : BitVec 32 := Scalar.muli arg9 c32_i32_611
  let v755 : BitVec 32 := Scalar.addi c0_i32_612 v754
  let v756 : BitVec 32 := v755
  let v797 : Index := Scalar.indexCast v756
  let c512_627 : Index := 512#32
  ![2, v797.toNat, 512]
@[reducible] def k0_t6_loop : Scf.Loop 32 :=
  let c0_i32_47 : BitVec 32 := 0#32
  let c24_i32_48 : BitVec 32 := 24#32
  let v77 : BitVec 32 := Scalar.addi c0_i32_47 c24_i32_48
  let c1_i32_49 : BitVec 32 := 1#32
  ⟨c0_i32_47, v77, c1_i32_49⟩
def k0_mult6 (k0_t6 : Fin k0_t6_loop.trips) : BitVec 32 :=
  let c0_i32_612 : BitVec 32 := 0#32
  let c0_i32_47 : BitVec 32 := 0#32
  let c1_i32_49 : BitVec 32 := 1#32
  let arg9 : BitVec 32 := Scf.iv c0_i32_47 c1_i32_49 k0_t6
  let c32_i32_611 : BitVec 32 := 32#32
  let v754 : BitVec 32 := Scalar.muli arg9 c32_i32_611
  let v755 : BitVec 32 := Scalar.addi c0_i32_612 v754
  v755
def k0_off21 (k0_t6 : Fin k0_t6_loop.trips) : Fin 2 → Nat :=
  let c0_i32_612 : BitVec 32 := 0#32
  let c0_i32_47 : BitVec 32 := 0#32
  let c1_i32_49 : BitVec 32 := 1#32
  let arg9 : BitVec 32 := Scf.iv c0_i32_47 c1_i32_49 k0_t6
  let c32_i32_611 : BitVec 32 := 32#32
  let v754 : BitVec 32 := Scalar.muli arg9 c32_i32_611
  let v755 : BitVec 32 := Scalar.addi c0_i32_612 v754
  let v756 : BitVec 32 := v755
  let v757 : Index := Scalar.indexCast v756
  let c640_613 : Index := 640#32
  ![v757.toNat, 640]
def k0_off22 (k0_t6 : Fin k0_t6_loop.trips) : Fin 3 → Nat :=
  let c1_614 : Index := 1#32
  let c0_i32_612 : BitVec 32 := 0#32
  let c0_i32_47 : BitVec 32 := 0#32
  let c1_i32_49 : BitVec 32 := 1#32
  let arg9 : BitVec 32 := Scf.iv c0_i32_47 c1_i32_49 k0_t6
  let c32_i32_611 : BitVec 32 := 32#32
  let v754 : BitVec 32 := Scalar.muli arg9 c32_i32_611
  let v755 : BitVec 32 := Scalar.addi c0_i32_612 v754
  let v756 : BitVec 32 := v755
  let v763 : Index := Scalar.indexCast v756
  let c640_615 : Index := 640#32
  ![1, v763.toNat, 640]
def k0_off23 (k0_t6 : Fin k0_t6_loop.trips) : Fin 3 → Nat :=
  let c0_620 : Index := 0#32
  let c0_i32_612 : BitVec 32 := 0#32
  let c0_i32_47 : BitVec 32 := 0#32
  let c1_i32_49 : BitVec 32 := 1#32
  let arg9 : BitVec 32 := Scf.iv c0_i32_47 c1_i32_49 k0_t6
  let c32_i32_611 : BitVec 32 := 32#32
  let v754 : BitVec 32 := Scalar.muli arg9 c32_i32_611
  let v755 : BitVec 32 := Scalar.addi c0_i32_612 v754
  let v756 : BitVec 32 := v755
  let v780 : Index := Scalar.indexCast v756
  let c640_621 : Index := 640#32
  ![0, v780.toNat, 640]
def k0_off24 (k0_t6 : Fin k0_t6_loop.trips) : Fin 3 → Nat :=
  let c2_626 : Index := 2#32
  let c0_i32_612 : BitVec 32 := 0#32
  let c0_i32_47 : BitVec 32 := 0#32
  let c1_i32_49 : BitVec 32 := 1#32
  let arg9 : BitVec 32 := Scf.iv c0_i32_47 c1_i32_49 k0_t6
  let c32_i32_611 : BitVec 32 := 32#32
  let v754 : BitVec 32 := Scalar.muli arg9 c32_i32_611
  let v755 : BitVec 32 := Scalar.addi c0_i32_612 v754
  let v756 : BitVec 32 := v755
  let v797 : Index := Scalar.indexCast v756
  let c640_627 : Index := 640#32
  ![2, v797.toNat, 640]
@[reducible] def k0_t7_loop : Scf.Loop 32 :=
  let c0_i32_56 : BitVec 32 := 0#32
  let c24_i32_57 : BitVec 32 := 24#32
  let v90 : BitVec 32 := Scalar.addi c0_i32_56 c24_i32_57
  let c1_i32_58 : BitVec 32 := 1#32
  ⟨c0_i32_56, v90, c1_i32_58⟩
def k0_mult7 (k0_t7 : Fin k0_t7_loop.trips) : BitVec 32 :=
  let c0_i32_612 : BitVec 32 := 0#32
  let c0_i32_56 : BitVec 32 := 0#32
  let c1_i32_58 : BitVec 32 := 1#32
  let arg9 : BitVec 32 := Scf.iv c0_i32_56 c1_i32_58 k0_t7
  let c32_i32_611 : BitVec 32 := 32#32
  let v754 : BitVec 32 := Scalar.muli arg9 c32_i32_611
  let v755 : BitVec 32 := Scalar.addi c0_i32_612 v754
  v755
def k0_off25 (k0_t7 : Fin k0_t7_loop.trips) : Fin 2 → Nat :=
  let c0_i32_612 : BitVec 32 := 0#32
  let c0_i32_56 : BitVec 32 := 0#32
  let c1_i32_58 : BitVec 32 := 1#32
  let arg9 : BitVec 32 := Scf.iv c0_i32_56 c1_i32_58 k0_t7
  let c32_i32_611 : BitVec 32 := 32#32
  let v754 : BitVec 32 := Scalar.muli arg9 c32_i32_611
  let v755 : BitVec 32 := Scalar.addi c0_i32_612 v754
  let v756 : BitVec 32 := v755
  let v757 : Index := Scalar.indexCast v756
  let c768_613 : Index := 768#32
  ![v757.toNat, 768]
def k0_off26 (k0_t7 : Fin k0_t7_loop.trips) : Fin 3 → Nat :=
  let c1_614 : Index := 1#32
  let c0_i32_612 : BitVec 32 := 0#32
  let c0_i32_56 : BitVec 32 := 0#32
  let c1_i32_58 : BitVec 32 := 1#32
  let arg9 : BitVec 32 := Scf.iv c0_i32_56 c1_i32_58 k0_t7
  let c32_i32_611 : BitVec 32 := 32#32
  let v754 : BitVec 32 := Scalar.muli arg9 c32_i32_611
  let v755 : BitVec 32 := Scalar.addi c0_i32_612 v754
  let v756 : BitVec 32 := v755
  let v763 : Index := Scalar.indexCast v756
  let c768_615 : Index := 768#32
  ![1, v763.toNat, 768]
def k0_off27 (k0_t7 : Fin k0_t7_loop.trips) : Fin 3 → Nat :=
  let c0_620 : Index := 0#32
  let c0_i32_612 : BitVec 32 := 0#32
  let c0_i32_56 : BitVec 32 := 0#32
  let c1_i32_58 : BitVec 32 := 1#32
  let arg9 : BitVec 32 := Scf.iv c0_i32_56 c1_i32_58 k0_t7
  let c32_i32_611 : BitVec 32 := 32#32
  let v754 : BitVec 32 := Scalar.muli arg9 c32_i32_611
  let v755 : BitVec 32 := Scalar.addi c0_i32_612 v754
  let v756 : BitVec 32 := v755
  let v780 : Index := Scalar.indexCast v756
  let c768_621 : Index := 768#32
  ![0, v780.toNat, 768]
def k0_off28 (k0_t7 : Fin k0_t7_loop.trips) : Fin 3 → Nat :=
  let c2_626 : Index := 2#32
  let c0_i32_612 : BitVec 32 := 0#32
  let c0_i32_56 : BitVec 32 := 0#32
  let c1_i32_58 : BitVec 32 := 1#32
  let arg9 : BitVec 32 := Scf.iv c0_i32_56 c1_i32_58 k0_t7
  let c32_i32_611 : BitVec 32 := 32#32
  let v754 : BitVec 32 := Scalar.muli arg9 c32_i32_611
  let v755 : BitVec 32 := Scalar.addi c0_i32_612 v754
  let v756 : BitVec 32 := v755
  let v797 : Index := Scalar.indexCast v756
  let c768_627 : Index := 768#32
  ![2, v797.toNat, 768]
@[reducible] def k0_t8_loop : Scf.Loop 32 :=
  let c0_i32_65 : BitVec 32 := 0#32
  let c24_i32_66 : BitVec 32 := 24#32
  let v103 : BitVec 32 := Scalar.addi c0_i32_65 c24_i32_66
  let c1_i32_67 : BitVec 32 := 1#32
  ⟨c0_i32_65, v103, c1_i32_67⟩
def k0_mult8 (k0_t8 : Fin k0_t8_loop.trips) : BitVec 32 :=
  let c0_i32_612 : BitVec 32 := 0#32
  let c0_i32_65 : BitVec 32 := 0#32
  let c1_i32_67 : BitVec 32 := 1#32
  let arg9 : BitVec 32 := Scf.iv c0_i32_65 c1_i32_67 k0_t8
  let c32_i32_611 : BitVec 32 := 32#32
  let v754 : BitVec 32 := Scalar.muli arg9 c32_i32_611
  let v755 : BitVec 32 := Scalar.addi c0_i32_612 v754
  v755
def k0_off29 (k0_t8 : Fin k0_t8_loop.trips) : Fin 2 → Nat :=
  let c0_i32_612 : BitVec 32 := 0#32
  let c0_i32_65 : BitVec 32 := 0#32
  let c1_i32_67 : BitVec 32 := 1#32
  let arg9 : BitVec 32 := Scf.iv c0_i32_65 c1_i32_67 k0_t8
  let c32_i32_611 : BitVec 32 := 32#32
  let v754 : BitVec 32 := Scalar.muli arg9 c32_i32_611
  let v755 : BitVec 32 := Scalar.addi c0_i32_612 v754
  let v756 : BitVec 32 := v755
  let v757 : Index := Scalar.indexCast v756
  let c896_613 : Index := 896#32
  ![v757.toNat, 896]
def k0_off30 (k0_t8 : Fin k0_t8_loop.trips) : Fin 3 → Nat :=
  let c1_614 : Index := 1#32
  let c0_i32_612 : BitVec 32 := 0#32
  let c0_i32_65 : BitVec 32 := 0#32
  let c1_i32_67 : BitVec 32 := 1#32
  let arg9 : BitVec 32 := Scf.iv c0_i32_65 c1_i32_67 k0_t8
  let c32_i32_611 : BitVec 32 := 32#32
  let v754 : BitVec 32 := Scalar.muli arg9 c32_i32_611
  let v755 : BitVec 32 := Scalar.addi c0_i32_612 v754
  let v756 : BitVec 32 := v755
  let v763 : Index := Scalar.indexCast v756
  let c896_615 : Index := 896#32
  ![1, v763.toNat, 896]
def k0_off31 (k0_t8 : Fin k0_t8_loop.trips) : Fin 3 → Nat :=
  let c0_620 : Index := 0#32
  let c0_i32_612 : BitVec 32 := 0#32
  let c0_i32_65 : BitVec 32 := 0#32
  let c1_i32_67 : BitVec 32 := 1#32
  let arg9 : BitVec 32 := Scf.iv c0_i32_65 c1_i32_67 k0_t8
  let c32_i32_611 : BitVec 32 := 32#32
  let v754 : BitVec 32 := Scalar.muli arg9 c32_i32_611
  let v755 : BitVec 32 := Scalar.addi c0_i32_612 v754
  let v756 : BitVec 32 := v755
  let v780 : Index := Scalar.indexCast v756
  let c896_621 : Index := 896#32
  ![0, v780.toNat, 896]
def k0_off32 (k0_t8 : Fin k0_t8_loop.trips) : Fin 3 → Nat :=
  let c2_626 : Index := 2#32
  let c0_i32_612 : BitVec 32 := 0#32
  let c0_i32_65 : BitVec 32 := 0#32
  let c1_i32_67 : BitVec 32 := 1#32
  let arg9 : BitVec 32 := Scf.iv c0_i32_65 c1_i32_67 k0_t8
  let c32_i32_611 : BitVec 32 := 32#32
  let v754 : BitVec 32 := Scalar.muli arg9 c32_i32_611
  let v755 : BitVec 32 := Scalar.addi c0_i32_612 v754
  let v756 : BitVec 32 := v755
  let v797 : Index := Scalar.indexCast v756
  let c896_627 : Index := 896#32
  ![2, v797.toNat, 896]
@[reducible] def k0_t9_loop : Scf.Loop 32 :=
  let c0_i32_74 : BitVec 32 := 0#32
  let c24_i32_75 : BitVec 32 := 24#32
  let v116 : BitVec 32 := Scalar.addi c0_i32_74 c24_i32_75
  let c1_i32_76 : BitVec 32 := 1#32
  ⟨c0_i32_74, v116, c1_i32_76⟩
def k0_mult9 (k0_t9 : Fin k0_t9_loop.trips) : BitVec 32 :=
  let c768_i32 : BitVec 32 := 768#32
  let c0_i32_74 : BitVec 32 := 0#32
  let c1_i32_76 : BitVec 32 := 1#32
  let arg9 : BitVec 32 := Scf.iv c0_i32_74 c1_i32_76 k0_t9
  let c32_i32_611 : BitVec 32 := 32#32
  let v754 : BitVec 32 := Scalar.muli arg9 c32_i32_611
  let v755 : BitVec 32 := Scalar.addi c768_i32 v754
  v755
def k0_off33 (k0_t9 : Fin k0_t9_loop.trips) : Fin 2 → Nat :=
  let c768_i32 : BitVec 32 := 768#32
  let c0_i32_74 : BitVec 32 := 0#32
  let c1_i32_76 : BitVec 32 := 1#32
  let arg9 : BitVec 32 := Scf.iv c0_i32_74 c1_i32_76 k0_t9
  let c32_i32_611 : BitVec 32 := 32#32
  let v754 : BitVec 32 := Scalar.muli arg9 c32_i32_611
  let v755 : BitVec 32 := Scalar.addi c768_i32 v754
  let v756 : BitVec 32 := v755
  let v757 : Index := Scalar.indexCast v756
  let c0_612 : Index := 0#32
  ![v757.toNat, 0]
def k0_off34 (k0_t9 : Fin k0_t9_loop.trips) : Fin 3 → Nat :=
  let c1_613 : Index := 1#32
  let c768_i32 : BitVec 32 := 768#32
  let c0_i32_74 : BitVec 32 := 0#32
  let c1_i32_76 : BitVec 32 := 1#32
  let arg9 : BitVec 32 := Scf.iv c0_i32_74 c1_i32_76 k0_t9
  let c32_i32_611 : BitVec 32 := 32#32
  let v754 : BitVec 32 := Scalar.muli arg9 c32_i32_611
  let v755 : BitVec 32 := Scalar.addi c768_i32 v754
  let v756 : BitVec 32 := v755
  let v763 : Index := Scalar.indexCast v756
  let c0_614 : Index := 0#32
  ![1, v763.toNat, 0]
def k0_off35 (k0_t9 : Fin k0_t9_loop.trips) : Fin 3 → Nat :=
  let c0_619 : Index := 0#32
  let c768_i32 : BitVec 32 := 768#32
  let c0_i32_74 : BitVec 32 := 0#32
  let c1_i32_76 : BitVec 32 := 1#32
  let arg9 : BitVec 32 := Scf.iv c0_i32_74 c1_i32_76 k0_t9
  let c32_i32_611 : BitVec 32 := 32#32
  let v754 : BitVec 32 := Scalar.muli arg9 c32_i32_611
  let v755 : BitVec 32 := Scalar.addi c768_i32 v754
  let v756 : BitVec 32 := v755
  let v780 : Index := Scalar.indexCast v756
  let c0_620 : Index := 0#32
  ![0, v780.toNat, 0]
def k0_off36 (k0_t9 : Fin k0_t9_loop.trips) : Fin 3 → Nat :=
  let c2_625 : Index := 2#32
  let c768_i32 : BitVec 32 := 768#32
  let c0_i32_74 : BitVec 32 := 0#32
  let c1_i32_76 : BitVec 32 := 1#32
  let arg9 : BitVec 32 := Scf.iv c0_i32_74 c1_i32_76 k0_t9
  let c32_i32_611 : BitVec 32 := 32#32
  let v754 : BitVec 32 := Scalar.muli arg9 c32_i32_611
  let v755 : BitVec 32 := Scalar.addi c768_i32 v754
  let v756 : BitVec 32 := v755
  let v797 : Index := Scalar.indexCast v756
  let c0_626 : Index := 0#32
  ![2, v797.toNat, 0]
@[reducible] def k0_t10_loop : Scf.Loop 32 :=
  let c0_i32_84 : BitVec 32 := 0#32
  let c24_i32_85 : BitVec 32 := 24#32
  let v129 : BitVec 32 := Scalar.addi c0_i32_84 c24_i32_85
  let c1_i32_86 : BitVec 32 := 1#32
  ⟨c0_i32_84, v129, c1_i32_86⟩
def k0_mult10 (k0_t10 : Fin k0_t10_loop.trips) : BitVec 32 :=
  let c768_i32 : BitVec 32 := 768#32
  let c0_i32_84 : BitVec 32 := 0#32
  let c1_i32_86 : BitVec 32 := 1#32
  let arg9 : BitVec 32 := Scf.iv c0_i32_84 c1_i32_86 k0_t10
  let c32_i32_611 : BitVec 32 := 32#32
  let v754 : BitVec 32 := Scalar.muli arg9 c32_i32_611
  let v755 : BitVec 32 := Scalar.addi c768_i32 v754
  v755
def k0_off37 (k0_t10 : Fin k0_t10_loop.trips) : Fin 2 → Nat :=
  let c768_i32 : BitVec 32 := 768#32
  let c0_i32_84 : BitVec 32 := 0#32
  let c1_i32_86 : BitVec 32 := 1#32
  let arg9 : BitVec 32 := Scf.iv c0_i32_84 c1_i32_86 k0_t10
  let c32_i32_611 : BitVec 32 := 32#32
  let v754 : BitVec 32 := Scalar.muli arg9 c32_i32_611
  let v755 : BitVec 32 := Scalar.addi c768_i32 v754
  let v756 : BitVec 32 := v755
  let v757 : Index := Scalar.indexCast v756
  let c128_612 : Index := 128#32
  ![v757.toNat, 128]
def k0_off38 (k0_t10 : Fin k0_t10_loop.trips) : Fin 3 → Nat :=
  let c1_613 : Index := 1#32
  let c768_i32 : BitVec 32 := 768#32
  let c0_i32_84 : BitVec 32 := 0#32
  let c1_i32_86 : BitVec 32 := 1#32
  let arg9 : BitVec 32 := Scf.iv c0_i32_84 c1_i32_86 k0_t10
  let c32_i32_611 : BitVec 32 := 32#32
  let v754 : BitVec 32 := Scalar.muli arg9 c32_i32_611
  let v755 : BitVec 32 := Scalar.addi c768_i32 v754
  let v756 : BitVec 32 := v755
  let v763 : Index := Scalar.indexCast v756
  let c128_614 : Index := 128#32
  ![1, v763.toNat, 128]
def k0_off39 (k0_t10 : Fin k0_t10_loop.trips) : Fin 3 → Nat :=
  let c0_619 : Index := 0#32
  let c768_i32 : BitVec 32 := 768#32
  let c0_i32_84 : BitVec 32 := 0#32
  let c1_i32_86 : BitVec 32 := 1#32
  let arg9 : BitVec 32 := Scf.iv c0_i32_84 c1_i32_86 k0_t10
  let c32_i32_611 : BitVec 32 := 32#32
  let v754 : BitVec 32 := Scalar.muli arg9 c32_i32_611
  let v755 : BitVec 32 := Scalar.addi c768_i32 v754
  let v756 : BitVec 32 := v755
  let v780 : Index := Scalar.indexCast v756
  let c128_620 : Index := 128#32
  ![0, v780.toNat, 128]
def k0_off40 (k0_t10 : Fin k0_t10_loop.trips) : Fin 3 → Nat :=
  let c2_625 : Index := 2#32
  let c768_i32 : BitVec 32 := 768#32
  let c0_i32_84 : BitVec 32 := 0#32
  let c1_i32_86 : BitVec 32 := 1#32
  let arg9 : BitVec 32 := Scf.iv c0_i32_84 c1_i32_86 k0_t10
  let c32_i32_611 : BitVec 32 := 32#32
  let v754 : BitVec 32 := Scalar.muli arg9 c32_i32_611
  let v755 : BitVec 32 := Scalar.addi c768_i32 v754
  let v756 : BitVec 32 := v755
  let v797 : Index := Scalar.indexCast v756
  let c128_626 : Index := 128#32
  ![2, v797.toNat, 128]
@[reducible] def k0_t11_loop : Scf.Loop 32 :=
  let c0_i32_94 : BitVec 32 := 0#32
  let c24_i32_95 : BitVec 32 := 24#32
  let v142 : BitVec 32 := Scalar.addi c0_i32_94 c24_i32_95
  let c1_i32_96 : BitVec 32 := 1#32
  ⟨c0_i32_94, v142, c1_i32_96⟩
def k0_mult11 (k0_t11 : Fin k0_t11_loop.trips) : BitVec 32 :=
  let c768_i32 : BitVec 32 := 768#32
  let c0_i32_94 : BitVec 32 := 0#32
  let c1_i32_96 : BitVec 32 := 1#32
  let arg9 : BitVec 32 := Scf.iv c0_i32_94 c1_i32_96 k0_t11
  let c32_i32_611 : BitVec 32 := 32#32
  let v754 : BitVec 32 := Scalar.muli arg9 c32_i32_611
  let v755 : BitVec 32 := Scalar.addi c768_i32 v754
  v755
def k0_off41 (k0_t11 : Fin k0_t11_loop.trips) : Fin 2 → Nat :=
  let c768_i32 : BitVec 32 := 768#32
  let c0_i32_94 : BitVec 32 := 0#32
  let c1_i32_96 : BitVec 32 := 1#32
  let arg9 : BitVec 32 := Scf.iv c0_i32_94 c1_i32_96 k0_t11
  let c32_i32_611 : BitVec 32 := 32#32
  let v754 : BitVec 32 := Scalar.muli arg9 c32_i32_611
  let v755 : BitVec 32 := Scalar.addi c768_i32 v754
  let v756 : BitVec 32 := v755
  let v757 : Index := Scalar.indexCast v756
  let c256_612 : Index := 256#32
  ![v757.toNat, 256]
def k0_off42 (k0_t11 : Fin k0_t11_loop.trips) : Fin 3 → Nat :=
  let c1_613 : Index := 1#32
  let c768_i32 : BitVec 32 := 768#32
  let c0_i32_94 : BitVec 32 := 0#32
  let c1_i32_96 : BitVec 32 := 1#32
  let arg9 : BitVec 32 := Scf.iv c0_i32_94 c1_i32_96 k0_t11
  let c32_i32_611 : BitVec 32 := 32#32
  let v754 : BitVec 32 := Scalar.muli arg9 c32_i32_611
  let v755 : BitVec 32 := Scalar.addi c768_i32 v754
  let v756 : BitVec 32 := v755
  let v763 : Index := Scalar.indexCast v756
  let c256_614 : Index := 256#32
  ![1, v763.toNat, 256]
def k0_off43 (k0_t11 : Fin k0_t11_loop.trips) : Fin 3 → Nat :=
  let c0_619 : Index := 0#32
  let c768_i32 : BitVec 32 := 768#32
  let c0_i32_94 : BitVec 32 := 0#32
  let c1_i32_96 : BitVec 32 := 1#32
  let arg9 : BitVec 32 := Scf.iv c0_i32_94 c1_i32_96 k0_t11
  let c32_i32_611 : BitVec 32 := 32#32
  let v754 : BitVec 32 := Scalar.muli arg9 c32_i32_611
  let v755 : BitVec 32 := Scalar.addi c768_i32 v754
  let v756 : BitVec 32 := v755
  let v780 : Index := Scalar.indexCast v756
  let c256_620 : Index := 256#32
  ![0, v780.toNat, 256]
def k0_off44 (k0_t11 : Fin k0_t11_loop.trips) : Fin 3 → Nat :=
  let c2_625 : Index := 2#32
  let c768_i32 : BitVec 32 := 768#32
  let c0_i32_94 : BitVec 32 := 0#32
  let c1_i32_96 : BitVec 32 := 1#32
  let arg9 : BitVec 32 := Scf.iv c0_i32_94 c1_i32_96 k0_t11
  let c32_i32_611 : BitVec 32 := 32#32
  let v754 : BitVec 32 := Scalar.muli arg9 c32_i32_611
  let v755 : BitVec 32 := Scalar.addi c768_i32 v754
  let v756 : BitVec 32 := v755
  let v797 : Index := Scalar.indexCast v756
  let c256_626 : Index := 256#32
  ![2, v797.toNat, 256]
@[reducible] def k0_t12_loop : Scf.Loop 32 :=
  let c0_i32_104 : BitVec 32 := 0#32
  let c24_i32_105 : BitVec 32 := 24#32
  let v155 : BitVec 32 := Scalar.addi c0_i32_104 c24_i32_105
  let c1_i32_106 : BitVec 32 := 1#32
  ⟨c0_i32_104, v155, c1_i32_106⟩
def k0_mult12 (k0_t12 : Fin k0_t12_loop.trips) : BitVec 32 :=
  let c768_i32 : BitVec 32 := 768#32
  let c0_i32_104 : BitVec 32 := 0#32
  let c1_i32_106 : BitVec 32 := 1#32
  let arg9 : BitVec 32 := Scf.iv c0_i32_104 c1_i32_106 k0_t12
  let c32_i32_611 : BitVec 32 := 32#32
  let v754 : BitVec 32 := Scalar.muli arg9 c32_i32_611
  let v755 : BitVec 32 := Scalar.addi c768_i32 v754
  v755
def k0_off45 (k0_t12 : Fin k0_t12_loop.trips) : Fin 2 → Nat :=
  let c768_i32 : BitVec 32 := 768#32
  let c0_i32_104 : BitVec 32 := 0#32
  let c1_i32_106 : BitVec 32 := 1#32
  let arg9 : BitVec 32 := Scf.iv c0_i32_104 c1_i32_106 k0_t12
  let c32_i32_611 : BitVec 32 := 32#32
  let v754 : BitVec 32 := Scalar.muli arg9 c32_i32_611
  let v755 : BitVec 32 := Scalar.addi c768_i32 v754
  let v756 : BitVec 32 := v755
  let v757 : Index := Scalar.indexCast v756
  let c384_612 : Index := 384#32
  ![v757.toNat, 384]
def k0_off46 (k0_t12 : Fin k0_t12_loop.trips) : Fin 3 → Nat :=
  let c1_613 : Index := 1#32
  let c768_i32 : BitVec 32 := 768#32
  let c0_i32_104 : BitVec 32 := 0#32
  let c1_i32_106 : BitVec 32 := 1#32
  let arg9 : BitVec 32 := Scf.iv c0_i32_104 c1_i32_106 k0_t12
  let c32_i32_611 : BitVec 32 := 32#32
  let v754 : BitVec 32 := Scalar.muli arg9 c32_i32_611
  let v755 : BitVec 32 := Scalar.addi c768_i32 v754
  let v756 : BitVec 32 := v755
  let v763 : Index := Scalar.indexCast v756
  let c384_614 : Index := 384#32
  ![1, v763.toNat, 384]
def k0_off47 (k0_t12 : Fin k0_t12_loop.trips) : Fin 3 → Nat :=
  let c0_619 : Index := 0#32
  let c768_i32 : BitVec 32 := 768#32
  let c0_i32_104 : BitVec 32 := 0#32
  let c1_i32_106 : BitVec 32 := 1#32
  let arg9 : BitVec 32 := Scf.iv c0_i32_104 c1_i32_106 k0_t12
  let c32_i32_611 : BitVec 32 := 32#32
  let v754 : BitVec 32 := Scalar.muli arg9 c32_i32_611
  let v755 : BitVec 32 := Scalar.addi c768_i32 v754
  let v756 : BitVec 32 := v755
  let v780 : Index := Scalar.indexCast v756
  let c384_620 : Index := 384#32
  ![0, v780.toNat, 384]
def k0_off48 (k0_t12 : Fin k0_t12_loop.trips) : Fin 3 → Nat :=
  let c2_625 : Index := 2#32
  let c768_i32 : BitVec 32 := 768#32
  let c0_i32_104 : BitVec 32 := 0#32
  let c1_i32_106 : BitVec 32 := 1#32
  let arg9 : BitVec 32 := Scf.iv c0_i32_104 c1_i32_106 k0_t12
  let c32_i32_611 : BitVec 32 := 32#32
  let v754 : BitVec 32 := Scalar.muli arg9 c32_i32_611
  let v755 : BitVec 32 := Scalar.addi c768_i32 v754
  let v756 : BitVec 32 := v755
  let v797 : Index := Scalar.indexCast v756
  let c384_626 : Index := 384#32
  ![2, v797.toNat, 384]
@[reducible] def k0_t13_loop : Scf.Loop 32 :=
  let c0_i32_114 : BitVec 32 := 0#32
  let c24_i32_115 : BitVec 32 := 24#32
  let v168 : BitVec 32 := Scalar.addi c0_i32_114 c24_i32_115
  let c1_i32_116 : BitVec 32 := 1#32
  ⟨c0_i32_114, v168, c1_i32_116⟩
def k0_mult13 (k0_t13 : Fin k0_t13_loop.trips) : BitVec 32 :=
  let c768_i32 : BitVec 32 := 768#32
  let c0_i32_114 : BitVec 32 := 0#32
  let c1_i32_116 : BitVec 32 := 1#32
  let arg9 : BitVec 32 := Scf.iv c0_i32_114 c1_i32_116 k0_t13
  let c32_i32_611 : BitVec 32 := 32#32
  let v754 : BitVec 32 := Scalar.muli arg9 c32_i32_611
  let v755 : BitVec 32 := Scalar.addi c768_i32 v754
  v755
def k0_off49 (k0_t13 : Fin k0_t13_loop.trips) : Fin 2 → Nat :=
  let c768_i32 : BitVec 32 := 768#32
  let c0_i32_114 : BitVec 32 := 0#32
  let c1_i32_116 : BitVec 32 := 1#32
  let arg9 : BitVec 32 := Scf.iv c0_i32_114 c1_i32_116 k0_t13
  let c32_i32_611 : BitVec 32 := 32#32
  let v754 : BitVec 32 := Scalar.muli arg9 c32_i32_611
  let v755 : BitVec 32 := Scalar.addi c768_i32 v754
  let v756 : BitVec 32 := v755
  let v757 : Index := Scalar.indexCast v756
  let c512_612 : Index := 512#32
  ![v757.toNat, 512]
def k0_off50 (k0_t13 : Fin k0_t13_loop.trips) : Fin 3 → Nat :=
  let c1_613 : Index := 1#32
  let c768_i32 : BitVec 32 := 768#32
  let c0_i32_114 : BitVec 32 := 0#32
  let c1_i32_116 : BitVec 32 := 1#32
  let arg9 : BitVec 32 := Scf.iv c0_i32_114 c1_i32_116 k0_t13
  let c32_i32_611 : BitVec 32 := 32#32
  let v754 : BitVec 32 := Scalar.muli arg9 c32_i32_611
  let v755 : BitVec 32 := Scalar.addi c768_i32 v754
  let v756 : BitVec 32 := v755
  let v763 : Index := Scalar.indexCast v756
  let c512_614 : Index := 512#32
  ![1, v763.toNat, 512]
def k0_off51 (k0_t13 : Fin k0_t13_loop.trips) : Fin 3 → Nat :=
  let c0_619 : Index := 0#32
  let c768_i32 : BitVec 32 := 768#32
  let c0_i32_114 : BitVec 32 := 0#32
  let c1_i32_116 : BitVec 32 := 1#32
  let arg9 : BitVec 32 := Scf.iv c0_i32_114 c1_i32_116 k0_t13
  let c32_i32_611 : BitVec 32 := 32#32
  let v754 : BitVec 32 := Scalar.muli arg9 c32_i32_611
  let v755 : BitVec 32 := Scalar.addi c768_i32 v754
  let v756 : BitVec 32 := v755
  let v780 : Index := Scalar.indexCast v756
  let c512_620 : Index := 512#32
  ![0, v780.toNat, 512]
def k0_off52 (k0_t13 : Fin k0_t13_loop.trips) : Fin 3 → Nat :=
  let c2_625 : Index := 2#32
  let c768_i32 : BitVec 32 := 768#32
  let c0_i32_114 : BitVec 32 := 0#32
  let c1_i32_116 : BitVec 32 := 1#32
  let arg9 : BitVec 32 := Scf.iv c0_i32_114 c1_i32_116 k0_t13
  let c32_i32_611 : BitVec 32 := 32#32
  let v754 : BitVec 32 := Scalar.muli arg9 c32_i32_611
  let v755 : BitVec 32 := Scalar.addi c768_i32 v754
  let v756 : BitVec 32 := v755
  let v797 : Index := Scalar.indexCast v756
  let c512_626 : Index := 512#32
  ![2, v797.toNat, 512]
@[reducible] def k0_t14_loop : Scf.Loop 32 :=
  let c0_i32_124 : BitVec 32 := 0#32
  let c24_i32_125 : BitVec 32 := 24#32
  let v181 : BitVec 32 := Scalar.addi c0_i32_124 c24_i32_125
  let c1_i32_126 : BitVec 32 := 1#32
  ⟨c0_i32_124, v181, c1_i32_126⟩
def k0_mult14 (k0_t14 : Fin k0_t14_loop.trips) : BitVec 32 :=
  let c768_i32 : BitVec 32 := 768#32
  let c0_i32_124 : BitVec 32 := 0#32
  let c1_i32_126 : BitVec 32 := 1#32
  let arg9 : BitVec 32 := Scf.iv c0_i32_124 c1_i32_126 k0_t14
  let c32_i32_611 : BitVec 32 := 32#32
  let v754 : BitVec 32 := Scalar.muli arg9 c32_i32_611
  let v755 : BitVec 32 := Scalar.addi c768_i32 v754
  v755
def k0_off53 (k0_t14 : Fin k0_t14_loop.trips) : Fin 2 → Nat :=
  let c768_i32 : BitVec 32 := 768#32
  let c0_i32_124 : BitVec 32 := 0#32
  let c1_i32_126 : BitVec 32 := 1#32
  let arg9 : BitVec 32 := Scf.iv c0_i32_124 c1_i32_126 k0_t14
  let c32_i32_611 : BitVec 32 := 32#32
  let v754 : BitVec 32 := Scalar.muli arg9 c32_i32_611
  let v755 : BitVec 32 := Scalar.addi c768_i32 v754
  let v756 : BitVec 32 := v755
  let v757 : Index := Scalar.indexCast v756
  let c640_612 : Index := 640#32
  ![v757.toNat, 640]
def k0_off54 (k0_t14 : Fin k0_t14_loop.trips) : Fin 3 → Nat :=
  let c1_613 : Index := 1#32
  let c768_i32 : BitVec 32 := 768#32
  let c0_i32_124 : BitVec 32 := 0#32
  let c1_i32_126 : BitVec 32 := 1#32
  let arg9 : BitVec 32 := Scf.iv c0_i32_124 c1_i32_126 k0_t14
  let c32_i32_611 : BitVec 32 := 32#32
  let v754 : BitVec 32 := Scalar.muli arg9 c32_i32_611
  let v755 : BitVec 32 := Scalar.addi c768_i32 v754
  let v756 : BitVec 32 := v755
  let v763 : Index := Scalar.indexCast v756
  let c640_614 : Index := 640#32
  ![1, v763.toNat, 640]
def k0_off55 (k0_t14 : Fin k0_t14_loop.trips) : Fin 3 → Nat :=
  let c0_619 : Index := 0#32
  let c768_i32 : BitVec 32 := 768#32
  let c0_i32_124 : BitVec 32 := 0#32
  let c1_i32_126 : BitVec 32 := 1#32
  let arg9 : BitVec 32 := Scf.iv c0_i32_124 c1_i32_126 k0_t14
  let c32_i32_611 : BitVec 32 := 32#32
  let v754 : BitVec 32 := Scalar.muli arg9 c32_i32_611
  let v755 : BitVec 32 := Scalar.addi c768_i32 v754
  let v756 : BitVec 32 := v755
  let v780 : Index := Scalar.indexCast v756
  let c640_620 : Index := 640#32
  ![0, v780.toNat, 640]
def k0_off56 (k0_t14 : Fin k0_t14_loop.trips) : Fin 3 → Nat :=
  let c2_625 : Index := 2#32
  let c768_i32 : BitVec 32 := 768#32
  let c0_i32_124 : BitVec 32 := 0#32
  let c1_i32_126 : BitVec 32 := 1#32
  let arg9 : BitVec 32 := Scf.iv c0_i32_124 c1_i32_126 k0_t14
  let c32_i32_611 : BitVec 32 := 32#32
  let v754 : BitVec 32 := Scalar.muli arg9 c32_i32_611
  let v755 : BitVec 32 := Scalar.addi c768_i32 v754
  let v756 : BitVec 32 := v755
  let v797 : Index := Scalar.indexCast v756
  let c640_626 : Index := 640#32
  ![2, v797.toNat, 640]
@[reducible] def k0_t15_loop : Scf.Loop 32 :=
  let c0_i32_134 : BitVec 32 := 0#32
  let c24_i32_135 : BitVec 32 := 24#32
  let v194 : BitVec 32 := Scalar.addi c0_i32_134 c24_i32_135
  let c1_i32_136 : BitVec 32 := 1#32
  ⟨c0_i32_134, v194, c1_i32_136⟩
def k0_mult15 (k0_t15 : Fin k0_t15_loop.trips) : BitVec 32 :=
  let c768_i32 : BitVec 32 := 768#32
  let c0_i32_134 : BitVec 32 := 0#32
  let c1_i32_136 : BitVec 32 := 1#32
  let arg9 : BitVec 32 := Scf.iv c0_i32_134 c1_i32_136 k0_t15
  let c32_i32_611 : BitVec 32 := 32#32
  let v754 : BitVec 32 := Scalar.muli arg9 c32_i32_611
  let v755 : BitVec 32 := Scalar.addi c768_i32 v754
  v755
def k0_off57 (k0_t15 : Fin k0_t15_loop.trips) : Fin 2 → Nat :=
  let c768_i32 : BitVec 32 := 768#32
  let c0_i32_134 : BitVec 32 := 0#32
  let c1_i32_136 : BitVec 32 := 1#32
  let arg9 : BitVec 32 := Scf.iv c0_i32_134 c1_i32_136 k0_t15
  let c32_i32_611 : BitVec 32 := 32#32
  let v754 : BitVec 32 := Scalar.muli arg9 c32_i32_611
  let v755 : BitVec 32 := Scalar.addi c768_i32 v754
  let v756 : BitVec 32 := v755
  let v757 : Index := Scalar.indexCast v756
  let c768_612 : Index := 768#32
  ![v757.toNat, 768]
def k0_off58 (k0_t15 : Fin k0_t15_loop.trips) : Fin 3 → Nat :=
  let c1_613 : Index := 1#32
  let c768_i32 : BitVec 32 := 768#32
  let c0_i32_134 : BitVec 32 := 0#32
  let c1_i32_136 : BitVec 32 := 1#32
  let arg9 : BitVec 32 := Scf.iv c0_i32_134 c1_i32_136 k0_t15
  let c32_i32_611 : BitVec 32 := 32#32
  let v754 : BitVec 32 := Scalar.muli arg9 c32_i32_611
  let v755 : BitVec 32 := Scalar.addi c768_i32 v754
  let v756 : BitVec 32 := v755
  let v763 : Index := Scalar.indexCast v756
  let c768_614 : Index := 768#32
  ![1, v763.toNat, 768]
def k0_off59 (k0_t15 : Fin k0_t15_loop.trips) : Fin 3 → Nat :=
  let c0_619 : Index := 0#32
  let c768_i32 : BitVec 32 := 768#32
  let c0_i32_134 : BitVec 32 := 0#32
  let c1_i32_136 : BitVec 32 := 1#32
  let arg9 : BitVec 32 := Scf.iv c0_i32_134 c1_i32_136 k0_t15
  let c32_i32_611 : BitVec 32 := 32#32
  let v754 : BitVec 32 := Scalar.muli arg9 c32_i32_611
  let v755 : BitVec 32 := Scalar.addi c768_i32 v754
  let v756 : BitVec 32 := v755
  let v780 : Index := Scalar.indexCast v756
  let c768_620 : Index := 768#32
  ![0, v780.toNat, 768]
def k0_off60 (k0_t15 : Fin k0_t15_loop.trips) : Fin 3 → Nat :=
  let c2_625 : Index := 2#32
  let c768_i32 : BitVec 32 := 768#32
  let c0_i32_134 : BitVec 32 := 0#32
  let c1_i32_136 : BitVec 32 := 1#32
  let arg9 : BitVec 32 := Scf.iv c0_i32_134 c1_i32_136 k0_t15
  let c32_i32_611 : BitVec 32 := 32#32
  let v754 : BitVec 32 := Scalar.muli arg9 c32_i32_611
  let v755 : BitVec 32 := Scalar.addi c768_i32 v754
  let v756 : BitVec 32 := v755
  let v797 : Index := Scalar.indexCast v756
  let c768_626 : Index := 768#32
  ![2, v797.toNat, 768]
@[reducible] def k0_t16_loop : Scf.Loop 32 :=
  let c0_i32_144 : BitVec 32 := 0#32
  let c24_i32_145 : BitVec 32 := 24#32
  let v207 : BitVec 32 := Scalar.addi c0_i32_144 c24_i32_145
  let c1_i32_146 : BitVec 32 := 1#32
  ⟨c0_i32_144, v207, c1_i32_146⟩
def k0_mult16 (k0_t16 : Fin k0_t16_loop.trips) : BitVec 32 :=
  let c768_i32 : BitVec 32 := 768#32
  let c0_i32_144 : BitVec 32 := 0#32
  let c1_i32_146 : BitVec 32 := 1#32
  let arg9 : BitVec 32 := Scf.iv c0_i32_144 c1_i32_146 k0_t16
  let c32_i32_611 : BitVec 32 := 32#32
  let v754 : BitVec 32 := Scalar.muli arg9 c32_i32_611
  let v755 : BitVec 32 := Scalar.addi c768_i32 v754
  v755
def k0_off61 (k0_t16 : Fin k0_t16_loop.trips) : Fin 2 → Nat :=
  let c768_i32 : BitVec 32 := 768#32
  let c0_i32_144 : BitVec 32 := 0#32
  let c1_i32_146 : BitVec 32 := 1#32
  let arg9 : BitVec 32 := Scf.iv c0_i32_144 c1_i32_146 k0_t16
  let c32_i32_611 : BitVec 32 := 32#32
  let v754 : BitVec 32 := Scalar.muli arg9 c32_i32_611
  let v755 : BitVec 32 := Scalar.addi c768_i32 v754
  let v756 : BitVec 32 := v755
  let v757 : Index := Scalar.indexCast v756
  let c896_612 : Index := 896#32
  ![v757.toNat, 896]
def k0_off62 (k0_t16 : Fin k0_t16_loop.trips) : Fin 3 → Nat :=
  let c1_613 : Index := 1#32
  let c768_i32 : BitVec 32 := 768#32
  let c0_i32_144 : BitVec 32 := 0#32
  let c1_i32_146 : BitVec 32 := 1#32
  let arg9 : BitVec 32 := Scf.iv c0_i32_144 c1_i32_146 k0_t16
  let c32_i32_611 : BitVec 32 := 32#32
  let v754 : BitVec 32 := Scalar.muli arg9 c32_i32_611
  let v755 : BitVec 32 := Scalar.addi c768_i32 v754
  let v756 : BitVec 32 := v755
  let v763 : Index := Scalar.indexCast v756
  let c896_614 : Index := 896#32
  ![1, v763.toNat, 896]
def k0_off63 (k0_t16 : Fin k0_t16_loop.trips) : Fin 3 → Nat :=
  let c0_619 : Index := 0#32
  let c768_i32 : BitVec 32 := 768#32
  let c0_i32_144 : BitVec 32 := 0#32
  let c1_i32_146 : BitVec 32 := 1#32
  let arg9 : BitVec 32 := Scf.iv c0_i32_144 c1_i32_146 k0_t16
  let c32_i32_611 : BitVec 32 := 32#32
  let v754 : BitVec 32 := Scalar.muli arg9 c32_i32_611
  let v755 : BitVec 32 := Scalar.addi c768_i32 v754
  let v756 : BitVec 32 := v755
  let v780 : Index := Scalar.indexCast v756
  let c896_620 : Index := 896#32
  ![0, v780.toNat, 896]
def k0_off64 (k0_t16 : Fin k0_t16_loop.trips) : Fin 3 → Nat :=
  let c2_625 : Index := 2#32
  let c768_i32 : BitVec 32 := 768#32
  let c0_i32_144 : BitVec 32 := 0#32
  let c1_i32_146 : BitVec 32 := 1#32
  let arg9 : BitVec 32 := Scf.iv c0_i32_144 c1_i32_146 k0_t16
  let c32_i32_611 : BitVec 32 := 32#32
  let v754 : BitVec 32 := Scalar.muli arg9 c32_i32_611
  let v755 : BitVec 32 := Scalar.addi c768_i32 v754
  let v756 : BitVec 32 := v755
  let v797 : Index := Scalar.indexCast v756
  let c896_626 : Index := 896#32
  ![2, v797.toNat, 896]
@[reducible] def k0_t17_loop : Scf.Loop 32 :=
  let c0_i32_149 : BitVec 32 := 0#32
  let c32_i32 : BitVec 32 := 32#32
  let v210 : BitVec 32 := Scalar.addi c0_i32_149 c32_i32
  let c1_i32_150 : BitVec 32 := 1#32
  ⟨c0_i32_149, v210, c1_i32_150⟩
def k0_mult17 (k0_t17 : Fin k0_t17_loop.trips) : BitVec 32 :=
  let c0_i32_149 : BitVec 32 := 0#32
  let c1_i32_150 : BitVec 32 := 1#32
  let arg9 : BitVec 32 := Scf.iv c0_i32_149 c1_i32_150 k0_t17
  let c32_i32_611 : BitVec 32 := 32#32
  let v754 : BitVec 32 := Scalar.muli arg9 c32_i32_611
  v754
def k0_off65 (k0_t17 : Fin k0_t17_loop.trips) : Fin 3 → Nat :=
  let c0_613 : Index := 0#32
  let c0_i32_149 : BitVec 32 := 0#32
  let c1_i32_150 : BitVec 32 := 1#32
  let arg9 : BitVec 32 := Scf.iv c0_i32_149 c1_i32_150 k0_t17
  let c32_i32_611 : BitVec 32 := 32#32
  let v754 : BitVec 32 := Scalar.muli arg9 c32_i32_611
  let v755 : BitVec 32 := v754
  let v757 : Index := Scalar.indexCast v755
  let c0_614 : Index := 0#32
  ![0, v757.toNat, 0]
def k0_off66 (k0_t17 : Fin k0_t17_loop.trips) : Fin 3 → Nat :=
  let c1_615 : Index := 1#32
  let c0_i32_149 : BitVec 32 := 0#32
  let c1_i32_150 : BitVec 32 := 1#32
  let arg9 : BitVec 32 := Scf.iv c0_i32_149 c1_i32_150 k0_t17
  let c32_i32_611 : BitVec 32 := 32#32
  let v754 : BitVec 32 := Scalar.muli arg9 c32_i32_611
  let v755 : BitVec 32 := v754
  let v763 : Index := Scalar.indexCast v755
  let c0_616 : Index := 0#32
  ![1, v763.toNat, 0]
def k0_off67 (k0_t17 : Fin k0_t17_loop.trips) : Fin 3 → Nat :=
  let c2_617 : Index := 2#32
  let c0_i32_149 : BitVec 32 := 0#32
  let c1_i32_150 : BitVec 32 := 1#32
  let arg9 : BitVec 32 := Scf.iv c0_i32_149 c1_i32_150 k0_t17
  let c32_i32_611 : BitVec 32 := 32#32
  let v754 : BitVec 32 := Scalar.muli arg9 c32_i32_611
  let v755 : BitVec 32 := v754
  let v769 : Index := Scalar.indexCast v755
  let c0_618 : Index := 0#32
  ![2, v769.toNat, 0]
def k0_off68 (k0_t17 : Fin k0_t17_loop.trips) : Fin 3 → Nat :=
  let c3_619 : Index := 3#32
  let c0_i32_149 : BitVec 32 := 0#32
  let c1_i32_150 : BitVec 32 := 1#32
  let arg9 : BitVec 32 := Scf.iv c0_i32_149 c1_i32_150 k0_t17
  let c32_i32_611 : BitVec 32 := 32#32
  let v754 : BitVec 32 := Scalar.muli arg9 c32_i32_611
  let v755 : BitVec 32 := v754
  let v775 : Index := Scalar.indexCast v755
  let c0_620 : Index := 0#32
  ![3, v775.toNat, 0]
def k0_off69 (k0_t17 : Fin k0_t17_loop.trips) : Fin 3 → Nat :=
  let c4_621 : Index := 4#32
  let c0_i32_149 : BitVec 32 := 0#32
  let c1_i32_150 : BitVec 32 := 1#32
  let arg9 : BitVec 32 := Scf.iv c0_i32_149 c1_i32_150 k0_t17
  let c32_i32_611 : BitVec 32 := 32#32
  let v754 : BitVec 32 := Scalar.muli arg9 c32_i32_611
  let v755 : BitVec 32 := v754
  let v781 : Index := Scalar.indexCast v755
  let c0_622 : Index := 0#32
  ![4, v781.toNat, 0]
def k0_off70 (k0_t17 : Fin k0_t17_loop.trips) : Fin 3 → Nat :=
  let c5_623 : Index := 5#32
  let c0_i32_149 : BitVec 32 := 0#32
  let c1_i32_150 : BitVec 32 := 1#32
  let arg9 : BitVec 32 := Scf.iv c0_i32_149 c1_i32_150 k0_t17
  let c32_i32_611 : BitVec 32 := 32#32
  let v754 : BitVec 32 := Scalar.muli arg9 c32_i32_611
  let v755 : BitVec 32 := v754
  let v787 : Index := Scalar.indexCast v755
  let c0_624 : Index := 0#32
  ![5, v787.toNat, 0]
def k0_off71 (k0_t17 : Fin k0_t17_loop.trips) : Fin 3 → Nat :=
  let c6_625 : Index := 6#32
  let c0_i32_149 : BitVec 32 := 0#32
  let c1_i32_150 : BitVec 32 := 1#32
  let arg9 : BitVec 32 := Scf.iv c0_i32_149 c1_i32_150 k0_t17
  let c32_i32_611 : BitVec 32 := 32#32
  let v754 : BitVec 32 := Scalar.muli arg9 c32_i32_611
  let v755 : BitVec 32 := v754
  let v793 : Index := Scalar.indexCast v755
  let c0_626 : Index := 0#32
  ![6, v793.toNat, 0]
def k0_off72 (k0_t17 : Fin k0_t17_loop.trips) : Fin 3 → Nat :=
  let c7_627 : Index := 7#32
  let c0_i32_149 : BitVec 32 := 0#32
  let c1_i32_150 : BitVec 32 := 1#32
  let arg9 : BitVec 32 := Scf.iv c0_i32_149 c1_i32_150 k0_t17
  let c32_i32_611 : BitVec 32 := 32#32
  let v754 : BitVec 32 := Scalar.muli arg9 c32_i32_611
  let v755 : BitVec 32 := v754
  let v799 : Index := Scalar.indexCast v755
  let c0_628 : Index := 0#32
  ![7, v799.toNat, 0]
def k0_off73 (k0_t17 : Fin k0_t17_loop.trips) : Fin 3 → Nat :=
  let c8_629 : Index := 8#32
  let c0_i32_149 : BitVec 32 := 0#32
  let c1_i32_150 : BitVec 32 := 1#32
  let arg9 : BitVec 32 := Scf.iv c0_i32_149 c1_i32_150 k0_t17
  let c32_i32_611 : BitVec 32 := 32#32
  let v754 : BitVec 32 := Scalar.muli arg9 c32_i32_611
  let v755 : BitVec 32 := v754
  let v805 : Index := Scalar.indexCast v755
  let c0_630 : Index := 0#32
  ![8, v805.toNat, 0]
def k0_off74 (k0_t17 : Fin k0_t17_loop.trips) : Fin 3 → Nat :=
  let c0_631 : Index := 0#32
  let c0_i32_149 : BitVec 32 := 0#32
  let c1_i32_150 : BitVec 32 := 1#32
  let arg9 : BitVec 32 := Scf.iv c0_i32_149 c1_i32_150 k0_t17
  let c32_i32_611 : BitVec 32 := 32#32
  let v754 : BitVec 32 := Scalar.muli arg9 c32_i32_611
  let v755 : BitVec 32 := v754
  let v811 : Index := Scalar.indexCast v755
  let c0_632 : Index := 0#32
  ![0, v811.toNat, 0]
def k0_off75 (k0_t17 : Fin k0_t17_loop.trips) : Fin 3 → Nat :=
  let c1_634 : Index := 1#32
  let c0_i32_149 : BitVec 32 := 0#32
  let c1_i32_150 : BitVec 32 := 1#32
  let arg9 : BitVec 32 := Scf.iv c0_i32_149 c1_i32_150 k0_t17
  let c32_i32_611 : BitVec 32 := 32#32
  let v754 : BitVec 32 := Scalar.muli arg9 c32_i32_611
  let v755 : BitVec 32 := v754
  let v819 : Index := Scalar.indexCast v755
  let c0_635 : Index := 0#32
  ![1, v819.toNat, 0]
@[reducible] def k0_t18_loop : Scf.Loop 32 :=
  let c0_i32_297 : BitVec 32 := 0#32
  let c32_i32_298 : BitVec 32 := 32#32
  let v392 : BitVec 32 := Scalar.addi c0_i32_297 c32_i32_298
  let c1_i32_299 : BitVec 32 := 1#32
  ⟨c0_i32_297, v392, c1_i32_299⟩
def k0_mult18 (k0_t18 : Fin k0_t18_loop.trips) : BitVec 32 :=
  let c0_i32_297 : BitVec 32 := 0#32
  let c1_i32_299 : BitVec 32 := 1#32
  let arg9 : BitVec 32 := Scf.iv c0_i32_297 c1_i32_299 k0_t18
  let c32_i32_611 : BitVec 32 := 32#32
  let v754 : BitVec 32 := Scalar.muli arg9 c32_i32_611
  v754
def k0_off76 (k0_t18 : Fin k0_t18_loop.trips) : Fin 3 → Nat :=
  let c0_613 : Index := 0#32
  let c0_i32_297 : BitVec 32 := 0#32
  let c1_i32_299 : BitVec 32 := 1#32
  let arg9 : BitVec 32 := Scf.iv c0_i32_297 c1_i32_299 k0_t18
  let c32_i32_611 : BitVec 32 := 32#32
  let v754 : BitVec 32 := Scalar.muli arg9 c32_i32_611
  let v755 : BitVec 32 := v754
  let v757 : Index := Scalar.indexCast v755
  let c256_614 : Index := 256#32
  ![0, v757.toNat, 256]
def k0_off77 (k0_t18 : Fin k0_t18_loop.trips) : Fin 3 → Nat :=
  let c1_615 : Index := 1#32
  let c0_i32_297 : BitVec 32 := 0#32
  let c1_i32_299 : BitVec 32 := 1#32
  let arg9 : BitVec 32 := Scf.iv c0_i32_297 c1_i32_299 k0_t18
  let c32_i32_611 : BitVec 32 := 32#32
  let v754 : BitVec 32 := Scalar.muli arg9 c32_i32_611
  let v755 : BitVec 32 := v754
  let v763 : Index := Scalar.indexCast v755
  let c256_616 : Index := 256#32
  ![1, v763.toNat, 256]
def k0_off78 (k0_t18 : Fin k0_t18_loop.trips) : Fin 3 → Nat :=
  let c2_617 : Index := 2#32
  let c0_i32_297 : BitVec 32 := 0#32
  let c1_i32_299 : BitVec 32 := 1#32
  let arg9 : BitVec 32 := Scf.iv c0_i32_297 c1_i32_299 k0_t18
  let c32_i32_611 : BitVec 32 := 32#32
  let v754 : BitVec 32 := Scalar.muli arg9 c32_i32_611
  let v755 : BitVec 32 := v754
  let v769 : Index := Scalar.indexCast v755
  let c256_618 : Index := 256#32
  ![2, v769.toNat, 256]
def k0_off79 (k0_t18 : Fin k0_t18_loop.trips) : Fin 3 → Nat :=
  let c3_619 : Index := 3#32
  let c0_i32_297 : BitVec 32 := 0#32
  let c1_i32_299 : BitVec 32 := 1#32
  let arg9 : BitVec 32 := Scf.iv c0_i32_297 c1_i32_299 k0_t18
  let c32_i32_611 : BitVec 32 := 32#32
  let v754 : BitVec 32 := Scalar.muli arg9 c32_i32_611
  let v755 : BitVec 32 := v754
  let v775 : Index := Scalar.indexCast v755
  let c256_620 : Index := 256#32
  ![3, v775.toNat, 256]
def k0_off80 (k0_t18 : Fin k0_t18_loop.trips) : Fin 3 → Nat :=
  let c4_621 : Index := 4#32
  let c0_i32_297 : BitVec 32 := 0#32
  let c1_i32_299 : BitVec 32 := 1#32
  let arg9 : BitVec 32 := Scf.iv c0_i32_297 c1_i32_299 k0_t18
  let c32_i32_611 : BitVec 32 := 32#32
  let v754 : BitVec 32 := Scalar.muli arg9 c32_i32_611
  let v755 : BitVec 32 := v754
  let v781 : Index := Scalar.indexCast v755
  let c256_622 : Index := 256#32
  ![4, v781.toNat, 256]
def k0_off81 (k0_t18 : Fin k0_t18_loop.trips) : Fin 3 → Nat :=
  let c5_623 : Index := 5#32
  let c0_i32_297 : BitVec 32 := 0#32
  let c1_i32_299 : BitVec 32 := 1#32
  let arg9 : BitVec 32 := Scf.iv c0_i32_297 c1_i32_299 k0_t18
  let c32_i32_611 : BitVec 32 := 32#32
  let v754 : BitVec 32 := Scalar.muli arg9 c32_i32_611
  let v755 : BitVec 32 := v754
  let v787 : Index := Scalar.indexCast v755
  let c256_624 : Index := 256#32
  ![5, v787.toNat, 256]
def k0_off82 (k0_t18 : Fin k0_t18_loop.trips) : Fin 3 → Nat :=
  let c6_625 : Index := 6#32
  let c0_i32_297 : BitVec 32 := 0#32
  let c1_i32_299 : BitVec 32 := 1#32
  let arg9 : BitVec 32 := Scf.iv c0_i32_297 c1_i32_299 k0_t18
  let c32_i32_611 : BitVec 32 := 32#32
  let v754 : BitVec 32 := Scalar.muli arg9 c32_i32_611
  let v755 : BitVec 32 := v754
  let v793 : Index := Scalar.indexCast v755
  let c256_626 : Index := 256#32
  ![6, v793.toNat, 256]
def k0_off83 (k0_t18 : Fin k0_t18_loop.trips) : Fin 3 → Nat :=
  let c7_627 : Index := 7#32
  let c0_i32_297 : BitVec 32 := 0#32
  let c1_i32_299 : BitVec 32 := 1#32
  let arg9 : BitVec 32 := Scf.iv c0_i32_297 c1_i32_299 k0_t18
  let c32_i32_611 : BitVec 32 := 32#32
  let v754 : BitVec 32 := Scalar.muli arg9 c32_i32_611
  let v755 : BitVec 32 := v754
  let v799 : Index := Scalar.indexCast v755
  let c256_628 : Index := 256#32
  ![7, v799.toNat, 256]
def k0_off84 (k0_t18 : Fin k0_t18_loop.trips) : Fin 3 → Nat :=
  let c8_629 : Index := 8#32
  let c0_i32_297 : BitVec 32 := 0#32
  let c1_i32_299 : BitVec 32 := 1#32
  let arg9 : BitVec 32 := Scf.iv c0_i32_297 c1_i32_299 k0_t18
  let c32_i32_611 : BitVec 32 := 32#32
  let v754 : BitVec 32 := Scalar.muli arg9 c32_i32_611
  let v755 : BitVec 32 := v754
  let v805 : Index := Scalar.indexCast v755
  let c256_630 : Index := 256#32
  ![8, v805.toNat, 256]
def k0_off85 (k0_t18 : Fin k0_t18_loop.trips) : Fin 3 → Nat :=
  let c0_631 : Index := 0#32
  let c0_i32_297 : BitVec 32 := 0#32
  let c1_i32_299 : BitVec 32 := 1#32
  let arg9 : BitVec 32 := Scf.iv c0_i32_297 c1_i32_299 k0_t18
  let c32_i32_611 : BitVec 32 := 32#32
  let v754 : BitVec 32 := Scalar.muli arg9 c32_i32_611
  let v755 : BitVec 32 := v754
  let v811 : Index := Scalar.indexCast v755
  let c0_632 : Index := 0#32
  ![0, v811.toNat, 0]
def k0_off86 (k0_t18 : Fin k0_t18_loop.trips) : Fin 3 → Nat :=
  let c1_634 : Index := 1#32
  let c0_i32_297 : BitVec 32 := 0#32
  let c1_i32_299 : BitVec 32 := 1#32
  let arg9 : BitVec 32 := Scf.iv c0_i32_297 c1_i32_299 k0_t18
  let c32_i32_611 : BitVec 32 := 32#32
  let v754 : BitVec 32 := Scalar.muli arg9 c32_i32_611
  let v755 : BitVec 32 := v754
  let v819 : Index := Scalar.indexCast v755
  let c0_635 : Index := 0#32
  ![1, v819.toNat, 0]
@[reducible] def k0_t19_loop : Scf.Loop 32 :=
  let c0_i32_455 : BitVec 32 := 0#32
  let c32_i32_456 : BitVec 32 := 32#32
  let v574 : BitVec 32 := Scalar.addi c0_i32_455 c32_i32_456
  let c1_i32_457 : BitVec 32 := 1#32
  ⟨c0_i32_455, v574, c1_i32_457⟩
def k0_mult19 (k0_t19 : Fin k0_t19_loop.trips) : BitVec 32 :=
  let c0_i32_455 : BitVec 32 := 0#32
  let c1_i32_457 : BitVec 32 := 1#32
  let arg9 : BitVec 32 := Scf.iv c0_i32_455 c1_i32_457 k0_t19
  let c32_i32_611 : BitVec 32 := 32#32
  let v754 : BitVec 32 := Scalar.muli arg9 c32_i32_611
  v754
def k0_off87 (k0_t19 : Fin k0_t19_loop.trips) : Fin 3 → Nat :=
  let c0_613 : Index := 0#32
  let c0_i32_455 : BitVec 32 := 0#32
  let c1_i32_457 : BitVec 32 := 1#32
  let arg9 : BitVec 32 := Scf.iv c0_i32_455 c1_i32_457 k0_t19
  let c32_i32_611 : BitVec 32 := 32#32
  let v754 : BitVec 32 := Scalar.muli arg9 c32_i32_611
  let v755 : BitVec 32 := v754
  let v757 : Index := Scalar.indexCast v755
  let c512_614 : Index := 512#32
  ![0, v757.toNat, 512]
def k0_off88 (k0_t19 : Fin k0_t19_loop.trips) : Fin 3 → Nat :=
  let c1_615 : Index := 1#32
  let c0_i32_455 : BitVec 32 := 0#32
  let c1_i32_457 : BitVec 32 := 1#32
  let arg9 : BitVec 32 := Scf.iv c0_i32_455 c1_i32_457 k0_t19
  let c32_i32_611 : BitVec 32 := 32#32
  let v754 : BitVec 32 := Scalar.muli arg9 c32_i32_611
  let v755 : BitVec 32 := v754
  let v763 : Index := Scalar.indexCast v755
  let c512_616 : Index := 512#32
  ![1, v763.toNat, 512]
def k0_off89 (k0_t19 : Fin k0_t19_loop.trips) : Fin 3 → Nat :=
  let c2_617 : Index := 2#32
  let c0_i32_455 : BitVec 32 := 0#32
  let c1_i32_457 : BitVec 32 := 1#32
  let arg9 : BitVec 32 := Scf.iv c0_i32_455 c1_i32_457 k0_t19
  let c32_i32_611 : BitVec 32 := 32#32
  let v754 : BitVec 32 := Scalar.muli arg9 c32_i32_611
  let v755 : BitVec 32 := v754
  let v769 : Index := Scalar.indexCast v755
  let c512_618 : Index := 512#32
  ![2, v769.toNat, 512]
def k0_off90 (k0_t19 : Fin k0_t19_loop.trips) : Fin 3 → Nat :=
  let c3_619 : Index := 3#32
  let c0_i32_455 : BitVec 32 := 0#32
  let c1_i32_457 : BitVec 32 := 1#32
  let arg9 : BitVec 32 := Scf.iv c0_i32_455 c1_i32_457 k0_t19
  let c32_i32_611 : BitVec 32 := 32#32
  let v754 : BitVec 32 := Scalar.muli arg9 c32_i32_611
  let v755 : BitVec 32 := v754
  let v775 : Index := Scalar.indexCast v755
  let c512_620 : Index := 512#32
  ![3, v775.toNat, 512]
def k0_off91 (k0_t19 : Fin k0_t19_loop.trips) : Fin 3 → Nat :=
  let c4_621 : Index := 4#32
  let c0_i32_455 : BitVec 32 := 0#32
  let c1_i32_457 : BitVec 32 := 1#32
  let arg9 : BitVec 32 := Scf.iv c0_i32_455 c1_i32_457 k0_t19
  let c32_i32_611 : BitVec 32 := 32#32
  let v754 : BitVec 32 := Scalar.muli arg9 c32_i32_611
  let v755 : BitVec 32 := v754
  let v781 : Index := Scalar.indexCast v755
  let c512_622 : Index := 512#32
  ![4, v781.toNat, 512]
def k0_off92 (k0_t19 : Fin k0_t19_loop.trips) : Fin 3 → Nat :=
  let c5_623 : Index := 5#32
  let c0_i32_455 : BitVec 32 := 0#32
  let c1_i32_457 : BitVec 32 := 1#32
  let arg9 : BitVec 32 := Scf.iv c0_i32_455 c1_i32_457 k0_t19
  let c32_i32_611 : BitVec 32 := 32#32
  let v754 : BitVec 32 := Scalar.muli arg9 c32_i32_611
  let v755 : BitVec 32 := v754
  let v787 : Index := Scalar.indexCast v755
  let c512_624 : Index := 512#32
  ![5, v787.toNat, 512]
def k0_off93 (k0_t19 : Fin k0_t19_loop.trips) : Fin 3 → Nat :=
  let c6_625 : Index := 6#32
  let c0_i32_455 : BitVec 32 := 0#32
  let c1_i32_457 : BitVec 32 := 1#32
  let arg9 : BitVec 32 := Scf.iv c0_i32_455 c1_i32_457 k0_t19
  let c32_i32_611 : BitVec 32 := 32#32
  let v754 : BitVec 32 := Scalar.muli arg9 c32_i32_611
  let v755 : BitVec 32 := v754
  let v793 : Index := Scalar.indexCast v755
  let c512_626 : Index := 512#32
  ![6, v793.toNat, 512]
def k0_off94 (k0_t19 : Fin k0_t19_loop.trips) : Fin 3 → Nat :=
  let c7_627 : Index := 7#32
  let c0_i32_455 : BitVec 32 := 0#32
  let c1_i32_457 : BitVec 32 := 1#32
  let arg9 : BitVec 32 := Scf.iv c0_i32_455 c1_i32_457 k0_t19
  let c32_i32_611 : BitVec 32 := 32#32
  let v754 : BitVec 32 := Scalar.muli arg9 c32_i32_611
  let v755 : BitVec 32 := v754
  let v799 : Index := Scalar.indexCast v755
  let c512_628 : Index := 512#32
  ![7, v799.toNat, 512]
def k0_off95 (k0_t19 : Fin k0_t19_loop.trips) : Fin 3 → Nat :=
  let c8_629 : Index := 8#32
  let c0_i32_455 : BitVec 32 := 0#32
  let c1_i32_457 : BitVec 32 := 1#32
  let arg9 : BitVec 32 := Scf.iv c0_i32_455 c1_i32_457 k0_t19
  let c32_i32_611 : BitVec 32 := 32#32
  let v754 : BitVec 32 := Scalar.muli arg9 c32_i32_611
  let v755 : BitVec 32 := v754
  let v805 : Index := Scalar.indexCast v755
  let c512_630 : Index := 512#32
  ![8, v805.toNat, 512]
def k0_off96 (k0_t19 : Fin k0_t19_loop.trips) : Fin 3 → Nat :=
  let c0_631 : Index := 0#32
  let c0_i32_455 : BitVec 32 := 0#32
  let c1_i32_457 : BitVec 32 := 1#32
  let arg9 : BitVec 32 := Scf.iv c0_i32_455 c1_i32_457 k0_t19
  let c32_i32_611 : BitVec 32 := 32#32
  let v754 : BitVec 32 := Scalar.muli arg9 c32_i32_611
  let v755 : BitVec 32 := v754
  let v811 : Index := Scalar.indexCast v755
  let c0_632 : Index := 0#32
  ![0, v811.toNat, 0]
def k0_off97 (k0_t19 : Fin k0_t19_loop.trips) : Fin 3 → Nat :=
  let c1_634 : Index := 1#32
  let c0_i32_455 : BitVec 32 := 0#32
  let c1_i32_457 : BitVec 32 := 1#32
  let arg9 : BitVec 32 := Scf.iv c0_i32_455 c1_i32_457 k0_t19
  let c32_i32_611 : BitVec 32 := 32#32
  let v754 : BitVec 32 := Scalar.muli arg9 c32_i32_611
  let v755 : BitVec 32 := v754
  let v818 : Index := Scalar.indexCast v755
  let c0_635 : Index := 0#32
  ![1, v818.toNat, 0]
abbrev stage0_0 : Fin 1 → Memref sig .tc .vmem S1536x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9x1024x640 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x640 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelIdeal.lean ====
variable {F : FTy → Type} [FloatOps F]
-- ==== ReferenceIdeal.lean ====
abbrev S2x24x32x1024 : Shape := ⟨4, ![2, 24, 32, 1024]⟩
abbrev S2 : Shape := ⟨1, ![2]⟩
abbrev S2x1024 : Shape := ⟨2, ![2, 1024]⟩
abbrev S3x3x1024x640 : Shape := ⟨4, ![3, 3, 1024, 640]⟩
abbrev S640 : Shape := ⟨1, ![640]⟩
abbrev S1536x640 : Shape := ⟨2, ![1536, 640]⟩
abbrev S2x640 : Shape := ⟨2, ![2, 640]⟩
abbrev S1x1x1x640 : Shape := ⟨4, ![1, 1, 1, 640]⟩
abbrev S1024x640 : Shape := ⟨2, ![1024, 640]⟩
abbrev S2x1 : Shape := ⟨2, ![2, 1]⟩
abbrev S2x1x1x1024 : Shape := ⟨4, ![2, 1, 1, 1024]⟩
abbrev S2x1x32x1024 : Shape := ⟨4, ![2, 1, 32, 1024]⟩
abbrev S2x25x32x1024 : Shape := ⟨4, ![2, 25, 32, 1024]⟩
abbrev S2x26x32x1024 : Shape := ⟨4, ![2, 26, 32, 1024]⟩
abbrev S2x26x1x1024 : Shape := ⟨4, ![2, 26, 1, 1024]⟩
abbrev S2x26x33x1024 : Shape := ⟨4, ![2, 26, 33, 1024]⟩
abbrev S2x26x34x1024 : Shape := ⟨4, ![2, 26, 34, 1024]⟩
abbrev S2x24x32x640 : Shape := ⟨4, ![2, 24, 32, 640]⟩
abbrev S1536x1024 : Shape := ⟨2, ![1536, 1024]⟩
abbrev S1x1x1024x640 : Shape := ⟨4, ![1, 1, 1024, 640]⟩
abbrev S2x1x1x640 : Shape := ⟨4, ![2, 1, 1, 640]⟩

abbrev nBuf : Space → Nat
  | .hbm => 7
  | .vmem => 7
  | .smem => 0
  | _ => 0

abbrev bufTy : (tb : Table) → Fin (tcTables nBuf tb) → BufTy
  | .hbm, ⟨0, _⟩ => ⟨S2x24x32x1024, .fp8e4m3⟩
  | .hbm, ⟨1, _⟩ => ⟨S2, .f32⟩
  | .hbm, ⟨2, _⟩ => ⟨S2x1024, .f32⟩
  | .hbm, ⟨3, _⟩ => ⟨S3x3x1024x640, .fp8e4m3⟩
  | .hbm, ⟨4, _⟩ => ⟨S640, .f32⟩
  | .hbm, ⟨5, _⟩ => ⟨S1536x640, .bf16⟩
  | .hbm, ⟨6, _⟩ => ⟨S2x640, .f32⟩
  | .local _ .vmem, ⟨0, _⟩ => ⟨S2x24x32x1024, .fp8e4m3⟩
  | .local _ .vmem, ⟨1, _⟩ => ⟨S2, .f32⟩
  | .local _ .vmem, ⟨2, _⟩ => ⟨S2x1024, .f32⟩
  | .local _ .vmem, ⟨3, _⟩ => ⟨S3x3x1024x640, .fp8e4m3⟩
  | .local _ .vmem, ⟨4, _⟩ => ⟨S640, .f32⟩
  | .local _ .vmem, ⟨5, _⟩ => ⟨S1536x640, .bf16⟩
  | .local _ .vmem, ⟨6, _⟩ => ⟨S2x640, .f32⟩
  | _, _ => ⟨S2x24x32x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x24x32x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x3x1024x640 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x640 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelRun.lean ====
module

public import proofs.«01_k».proof.Proof.Gen.Kernel.Frame
public import proofs.«01_k».proof.Proof.Gen.Kernel.Skeleton
public import proofs.«01_k».proof.Proof.Gen.Kernel.Loops

@[expose] public section

/-! The run of the kernel's body on words: it ends, whatever the inputs hold. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 2140000 in
/-- The body's triple: from the five inputs at their contents, the two results and the two scratch arrays at anything, the body
    runs without fault to the inputs as they were, the results and the scratch arrays at anything. -/
theorem body_runs (c : Dev nD) (arg0 : Memref sig .tc .vmem S1536x1024 .fp8e4m3) (harg0 : arg0.IsWhole) (arg1 : Memref sig .tc .smem S2 .f32) (harg1 : arg1.IsWhole) (arg2 : Memref sig .tc .vmem S2x1024 .f32) (harg2 : arg2.IsWhole) (arg3 : Memref sig .tc .vmem S9x1024x640 .fp8e4m3) (harg3 : arg3.IsWhole) (arg4 : Memref sig .tc .vmem S1x640 .f32) (harg4 : arg4.IsWhole) (arg5 : Memref sig .tc .vmem S1536x640 .bf16) (harg5 : arg5.IsWhole) (arg6 : Memref sig .tc .vmem S2x640 .f32) (harg6 : arg6.IsWhole) (arg7 : Memref sig .tc .vmem S3x1536x1024 .bf16) (harg7 : arg7.IsWhole) (arg8 : Memref sig .tc .vmem S2x1024x128 .f32) (harg8 : arg8.IsWhole)
    (x0 : Vec F S1536x1024 .fp8e4m3) (x1 : Vec F S2 .f32) (x2 : Vec F S2x1024 .f32) (x3 : Vec F S9x1024x640 .fp8e4m3) (x4 : Vec F S1x640 .f32) :
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_modconv arg0 harg0 arg1 harg1 arg2 harg2 arg3 harg3 arg4 harg4 arg5 harg5 arg6 harg6 arg7 harg7 arg8 harg8) K := by
    intro E K
    simp only [cc0_modconv_eq_skeleton]; unfold cc0_modconv_skel
    simp only [k0_part43_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, Hk⟩
    obtain rfl := harg0.eq_unread hf0; obtain rfl := harg1.eq_unread hf1; obtain rfl := harg2.eq_unread hf2; obtain rfl := harg3.eq_unread hf3; obtain rfl := harg4.eq_unread hf4
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    iexists _, _; isplitr; swap; · iexact HS1
    ipureintro; rfl

end Cert.Kernel.Hand

end
-- ==== Proof.KernelFrame.lean ====
module

public import proofs.«01_k».proof.Proof.KernelRun
public import Idealize.ShloMosaic.Lib.Claim

@[expose] public section

/-! The launch of the kernel on words: it ends with its arguments unchanged and every semaphore at zero. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- If the launch ends with every input array of the pipeline and every buffer outside of it as the region found them, then the
    five arguments end unchanged. -/
theorem unchanged_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-- Window 0's buffer at point `t`. -/
abbrev ms0_0 (t : Fin cfg0.N) : Memref sig .tc .vmem S1536x1024 .fp8e4m3 := win0_0.stage (cfg0.slots t 0)
/-- It is a whole buffer. -/
abbrev hs0_0 (t : Fin cfg0.N) : (ms0_0 t).IsWhole := hstage0_0 0
/-- Window 1's buffer at point `t`. -/
abbrev ms0_1 (t : Fin cfg0.N) : Memref sig .tc .smem S2 .f32 := win0_1.stage (cfg0.slots t 1)
/-- It is a whole buffer. -/
abbrev hs0_1 (t : Fin cfg0.N) : (ms0_1 t).IsWhole := hstage0_1 0
/-- Window 2's buffer at point `t`. -/
abbrev ms0_2 (t : Fin cfg0.N) : Memref sig .tc .vmem S2x1024 .f32 := win0_2.stage (cfg0.slots t 2)
/-- It is a whole buffer. -/
abbrev hs0_2 (t : Fin cfg0.N) : (ms0_2 t).IsWhole := hstage0_2 0
/-- Window 3's buffer at point `t`. -/
abbrev ms0_3 (t : Fin cfg0.N) : Memref sig .tc .vmem S9x1024x640 .fp8e4m3 := win0_3.stage (cfg0.slots t 3)
/-- It is a whole buffer. -/
abbrev hs0_3 (t : Fin cfg0.N) : (ms0_3 t).IsWhole := hstage0_3 0
/-- Window 4's buffer at point `t`. -/
abbrev ms0_4 (t : Fin cfg0.N) : Memref sig .tc .vmem S1x640 .f32 := win0_4.stage (cfg0.slots t 4)
/-- It is a whole buffer. -/
abbrev hs0_4 (t : Fin cfg0.N) : (ms0_4 t).IsWhole := hstage0_4 0
/-- Window 5's buffer at point `t`. -/
abbrev ms0_5 (t : Fin cfg0.N) : Memref sig .tc .vmem S1536x640 .bf16 := win0_5.stage (cfg0.slots t 5)
/-- It is a whole buffer. -/
abbrev hs0_5 (t : Fin cfg0.N) : (ms0_5 t).IsWhole := hstage0_5 0
/-- Window 6's buffer at point `t`. -/
abbrev ms0_6 (t : Fin cfg0.N) : Memref sig .tc .vmem S2x640 .f32 := win0_6.stage (cfg0.slots t 6)
/-- It is a whole buffer. -/
abbrev hs0_6 (t : Fin cfg0.N) : (ms0_6 t).IsWhole := hstage0_6 0
/-- The first scratch array. -/
abbrev scM0_0 : Memref sig .tc .vmem S3x1536x1024 .bf16 := Memref.whole cc0_scratch0
/-- The second scratch array. -/
abbrev scM0_1 : Memref sig .tc .vmem S2x1024x128 .f32 := Memref.whole cc0_scratch1

/-- The launch's invariant: the scratch arrays at anything, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The two result windows, of whose contents nothing is stated here. -/
def forgets0 : Fin 7 → Bool := fun w => w.val == 5 || w.val == 6

/-- The proof data of the pipeline: the arrays as the region finds them, after the body each input's buffer at its block, the
    results at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The arrays are those that the region finds. -/
theorem A_eq (c : Dev nD) (w : Fin cfg0.W) : (dats m 0 c).A w = V m c (Pipeline.arrRef spec0 w) := by
  dsimp only [dats]

/-- After the body, input 0's buffer holds its block; -/
theorem after0_0 (c : Dev nD) (t : Fin cfg0.N) : (dats m 0 c).after 0 t = iblk m c 0 t := by dsimp only [dats]
/-- and input 1's. -/
theorem after0_1 (c : Dev nD) (t : Fin cfg0.N) : (dats m 0 c).after 1 t = iblk m c 1 t := by dsimp only [dats]
/-- and input 2's. -/
theorem after0_2 (c : Dev nD) (t : Fin cfg0.N) : (dats m 0 c).after 2 t = iblk m c 2 t := by dsimp only [dats]
/-- and input 3's. -/
theorem after0_3 (c : Dev nD) (t : Fin cfg0.N) : (dats m 0 c).after 3 t = iblk m c 3 t := by dsimp only [dats]
/-- and input 4's. -/
theorem after0_4 (c : Dev nD) (t : Fin cfg0.N) : (dats m 0 c).after 4 t = iblk m c 4 t := by dsimp only [dats]

/-- Before the body, input 0's buffer holds its block; -/
theorem before0_0 (c : Dev nD) (t : Fin cfg0.N) (d) : (dats m 0 c).before 0 t d = iblk m c 0 t :=
  before0_0_of m (dats m 0 c) (A_eq m c 0) (after0_0 m c) t d
/-- and input 1's. -/
theorem before0_1 (c : Dev nD) (t : Fin cfg0.N) (d) : (dats m 0 c).before 1 t d = iblk m c 1 t :=
  before0_1_of m (dats m 0 c) (A_eq m c 1) (after0_1 m c) t d
/-- and input 2's. -/
theorem before0_2 (c : Dev nD) (t : Fin cfg0.N) (d) : (dats m 0 c).before 2 t d = iblk m c 2 t :=
  before0_2_of m (dats m 0 c) (A_eq m c 2) (after0_2 m c) t d
/-- and input 3's. -/
theorem before0_3 (c : Dev nD) (t : Fin cfg0.N) (d) : (dats m 0 c).before 3 t d = iblk m c 3 t :=
  before0_3_of m (dats m 0 c) (A_eq m c 3) (after0_3 m c) t d
/-- and input 4's. -/
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d)
    ∗ (∃ d, owns (c : Thread nD τ) (ms0_6 t) fullShare d))

set_option maxHeartbeats 800000 in
/-- The body at point `t` takes what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((body_runs c _ _ _ _ _ _ _ _ _ _ _ _ _ _ _ _ _ _ (iblk m c 0 t) (iblk m c 1 t) (iblk m c 2 t) (iblk m c 3 t) (iblk m c 4 t)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body that the pipeline calls at point `t`. -/
theorem defs₀_row (t : Fin cfg0.N) :
    defs₀ (F := F) .tc cfg0.body (cfg0.bodyArgs t (cfg0.slots t)) = bodyAt0 t := by
  unfold defs₀; rw [Defs.onTc_tc]

/-- The body's triple as the pipeline's obligation. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The launch: every execution ends, every input array as the region found it, and every semaphore at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the semaphores. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The five arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  unchanged_of m ρ (fun c => (dats m 0 c).toRForget forgets0) (A_eq m) (run_main m ρ)

/-- The frame: every execution ends, the five arguments are unchanged, and every semaphore is at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Hand

end
-- ==== Proof.KRun.lean ====
module

public import proofs.«01_k».proof.Proof.Gen.KernelIdeal.Frame
public import proofs.«01_k».proof.Proof.Gen.KernelIdeal.Loops

@[expose] public section

/-! The run of the kernel's body as a whole, with what it leaves in its buffers named. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body's nine buffers, each held whole: five inputs at `X0` to `X4`, two results at `f5` and `f6`, two scratch arrays at
    `s0` and `s1`. -/
abbrev Res (c : Dev nD) (arg0 : Memref sig .tc .vmem S1536x1024 .fp8e4m3) (arg1 : Memref sig .tc .smem S2 .f32) (arg2 : Memref sig .tc .vmem S2x1024 .f32) (arg3 : Memref sig .tc .vmem S9x1024x640 .fp8e4m3) (arg4 : Memref sig .tc .vmem S1x640 .f32) (arg5 : Memref sig .tc .vmem S1536x640 .bf16) (arg6 : Memref sig .tc .vmem S2x640 .f32) (arg7 : Memref sig .tc .vmem S3x1536x1024 .bf16) (arg8 : Memref sig .tc .vmem S2x1024x128 .f32)
    (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty)
    (f5 : BufTy.Contents (Elt F) arg5.view.ty) (f6 : BufTy.Contents (Elt F) arg6.view.ty) (s0 : BufTy.Contents (Elt F) arg7.view.ty) (s1 : BufTy.Contents (Elt F) arg8.view.ty) : sProp 𝕄 :=
  iprop((arg0.view.loc (c : Thread nD τ) ↦[arg0.view.set]{fullShare} X0) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} s0) ∗ (arg8.view.loc (c : Thread nD τ) ↦[arg8.view.set]{fullShare} s1))

set_option maxHeartbeats 4000000 in
/-- The body runs without fault and leaves its inputs as they were. What it writes to the two results (`L5`, `L6`, pieces in
    the order of the stores) and what it leaves in the scratch arrays (`g0`, `g1`) does not depend on what the results held. -/
def krun (c : Dev nD) (arg0 : Memref sig .tc .vmem S1536x1024 .fp8e4m3) (harg0 : arg0.IsWhole) (arg1 : Memref sig .tc .smem S2 .f32) (harg1 : arg1.IsWhole) (arg2 : Memref sig .tc .vmem S2x1024 .f32) (harg2 : arg2.IsWhole) (arg3 : Memref sig .tc .vmem S9x1024x640 .fp8e4m3) (harg3 : arg3.IsWhole) (arg4 : Memref sig .tc .vmem S1x640 .f32) (harg4 : arg4.IsWhole) (arg5 : Memref sig .tc .vmem S1536x640 .bf16) (harg5 : arg5.IsWhole) (arg6 : Memref sig .tc .vmem S2x640 .f32) (harg6 : arg6.IsWhole) (arg7 : Memref sig .tc .vmem S3x1536x1024 .bf16) (harg7 : arg7.IsWhole) (arg8 : Memref sig .tc .vmem S2x1024x128 .f32) (harg8 : arg8.IsWhole)
    (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (s0 : BufTy.Contents (Elt F) arg7.view.ty) (s1 : BufTy.Contents (Elt F) arg8.view.ty) :
    Σ' (L5 : List (View.Piece (Elt F) S1536x640 .bf16)) (L6 : List (View.Piece (Elt F) S2x640 .f32)) (g0 : BufTy.Contents (Elt F) arg7.view.ty) (g1 : BufTy.Contents (Elt F) arg8.view.ty), ∀ (E : Set ℕ) (f5 : BufTy.Contents (Elt F) arg5.view.ty) (f6 : BufTy.Contents (Elt F) arg6.view.ty),
      Res c arg0 arg1 arg2 arg3 arg4 arg5 arg6 arg7 arg8 X0 X1 X2 X3 X4 f5 f6 s0 s1
      ⊢ wp frame (wpE (defs₀ (F := F)) Variants.none c none) E (cc0_modconv arg0 harg0 arg1 harg1 arg2 harg2 arg3 harg3 arg4 harg4 arg5 harg5 arg6 harg6 arg7 harg7 arg8 harg8)
          (fun _ => Res c arg0 arg1 arg2 arg3 arg4 arg5 arg6 arg7 arg8 X0 X1 X2 X3 X4 (arg5.view.writes (Elt F) f5 L5) (arg6.view.writes (Elt F) f6 L6) g0 g1) := by
  refine ⟨?_, ?_, ?_, ?_, fun E f5 f6 => ?run⟩
  case run =>
    simp only [cc0_modconv_eq_skeleton]; unfold cc0_modconv_skel
    simp only [k0_part43_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton]
    iintro ⟨H0, H1, H2, H3, H4, H5, H6, H7, H8⟩
    sl_exec
    sl_step
    sl_close

end Cert.KernelIdeal.Hand

end
-- ==== Proof.Taps.lean ====
module

public import proofs.«01_k».proof.Proof.Gen.KernelIdeal.Loops
public import Idealize.ShloMosaic.Lib.Pointwise
public import Idealize.ShloMosaic.Lib.WholeRead
public import Idealize.ShloMosaic.Lib.Pipeline.ValueKit.Geometry

@[expose] public section

/-! What the three copies of the modulated image hold, and what one trip of a filling loop stores in them.

The filling loops cut the image in 48 rows of 32 pixels and the channels in 8 chunks of 128. A trip takes one row of one
chunk and stores it three times: as it is (copy 1), moved one pixel to the right (copy 0) and one pixel to the left
(copy 2), with a zero in the pixel that the move leaves open. -/

set_option maxRecDepth 16384

noncomputable section

namespace Cert.KernelIdeal.Hand

open Cert.KernelIdeal Cert.KernelIdeal.Gen
open Idealize.ShloMosaic Idealize.ShloMosaic.Tactic

/-- The modulated image at pixel `r` (batch, row and column in one number) and channel `c`: the entry times the product
    of the image's scale and its style. -/
def xs (x0 : Vec Ideal S1536x1024 .fp8e4m3) (x1 : Vec Ideal S2 .f32) (x2 : Vec Ideal S2x1024 .f32)
    (r : Fin 1536) (c : Fin 1024) : EReal :=
  x0 (ix2 r c) * (x1 (ix1 ⟨r.val / 768, by omega⟩) * x2 (ix2 ⟨r.val / 768, by omega⟩ c))

/-- What the scratch holds after the filling loops: copy 1 is the modulated image, copy 0 the image with every row moved
    one pixel to the right, copy 2 with every row moved one pixel to the left; the pixel left open holds zero. -/
def taps (x0 : Vec Ideal S1536x1024 .fp8e4m3) (x1 : Vec Ideal S2 .f32) (x2 : Vec Ideal S2x1024 .f32) :
    Vec Ideal S3x1536x1024 .bf16 := fun y =>
  if (y 0).val = 1 then xs x0 x1 x2 (y 1) (y 2)
  else if (y 0).val = 0 then
    if (y 1).val % 32 = 0 then 0 else xs x0 x1 x2 ⟨(y 1).val - 1, by have h1 : (y 1).val < 1536 := (y 1).isLt; omega⟩ (y 2)
  else if h : (y 1).val % 32 = 31 then 0
    else xs x0 x1 x2 ⟨(y 1).val + 1, by have h1 : (y 1).val < 1536 := (y 1).isLt; omega⟩ (y 2)

/-- The row stored as it is. -/
theorem store_mid (fac : FVec Ideal S1x128 .bf16) (v : Vec Ideal S32x128 .fp8e4m3) (i : Fin 32) (l : Fin 128) :
    k0_pay3 (F := Ideal) fac v (ix3 0 i l) = v (ix2 i l) * fac (ix2 0 l) := by
  pointwise [k0_pay3, k0_pay2]

/-- A choice by whether the word of a number below 16 is a given word. -/
theorem select_ofNat_eq (a b : ℕ) (ha : a < 16) (hb : b < 16) (x y : EReal) :
    Scalar.select (IntOp.cmpi .eq (BitVec.ofNat 32 a) (BitVec.ofNat 32 b)) x y = if a = b then x else y := by
  have e : (BitVec.ofNat 32 a = BitVec.ofNat 32 b) ↔ a = b := by
    constructor
    · intro h
      have := congrArg BitVec.toNat h
      simp only [BitVec.toNat_ofNat] at this
      omega
    · rintro rfl; rfl
  by_cases h : a = b
  · subst h; simp [Scalar.select, IntOp.cmpi]
  · have h' : (BitVec.ofNat 32 a == BitVec.ofNat 32 b) = false := beq_eq_false_iff_ne.2 fun w => h (e.1 w)
    simp [Scalar.select, IntOp.cmpi, h, h']

/-- The row stored one pixel to the right. -/
theorem store_right (fac : FVec Ideal S1x128 .bf16) (v : Vec Ideal S32x128 .fp8e4m3) (i : Fin 32) (l : Fin 128) :
    k0_pay4 (F := Ideal) fac v (ix3 0 i l)
      = if i.val = 0 then 0 else v (ix2 ⟨i.val - 1, by omega⟩ l) * fac (ix2 0 l) := by
  pointwise [k0_pay4, k0_pay2]
  have hi := i.isLt
  have e : Scalar.select (IntOp.cmpi CmpIPredicate.eq (BitVec.ofNat 32 (i.val / 2)) 0#32) (0 : EReal)
      (v (ix2 ⟨2 * ((i.val / 2 + 16 - 1) % 16) + 1, by omega⟩ l) * fac (ix2 0 l)) = _ :=
    select_ofNat_eq (i.val / 2) 0 (by omega) (by omega) _ _
  rw [e]
  by_cases h0 : i.val = 0
  · simp [h0]
  · rw [if_neg h0]
    by_cases h2 : i.val % 2 = 0
    · rw [if_pos h2, if_neg (by omega)]
      congr 4; omega
    · rw [if_neg h2]
      congr 4; omega

/-- The row stored one pixel to the left. -/
theorem store_left (fac : FVec Ideal S1x128 .bf16) (v : Vec Ideal S32x128 .fp8e4m3) (i : Fin 32) (l : Fin 128) :
    k0_pay90 (F := Ideal) (k0_pay5 fac v) (k0_pay6 fac v) (ix3 0 i l)
      = if h : i.val = 31 then 0 else v (ix2 ⟨i.val + 1, by omega⟩ l) * fac (ix2 0 l) := by
  pointwise [k0_pay90, k0_pay5, k0_pay6, k0_pay2]
  have hi := i.isLt
  have e : Scalar.select (IntOp.cmpi CmpIPredicate.eq (BitVec.ofNat 32 (i.val / 2)) 15#32) (0 : EReal)
      (v (ix2 ⟨2 * ((i.val / 2 + 16 - 15) % 16), by omega⟩ l) * fac (ix2 0 l)) = _ :=
    select_ofNat_eq (i.val / 2) 15 (by omega) (by omega) _ _
  rw [e]
  by_cases h0 : i.val = 31
  · simp [h0]
  · rw [dif_neg h0]
    by_cases h2 : i.val % 2 = 0
    · rw [if_pos h2]
      congr 4; omega
    · rw [if_neg h2, if_neg (by omega)]
      congr 4; omega

/-! ## One trip, and the trips of one loop -/

/-- What a list of stores has done for chunk `j` of image `b` once `n` rows are through: every store agrees with `taps`,
    and every pixel of the rows before `n` lies under one, in each of the three copies. -/
structure Filled (G : Vec Ideal S3x1536x1024 .bf16) (b j n : ℕ) (L : List (View.Piece (Elt Ideal) S3x1536x1024 .bf16)) :
    Prop where
  agree : ∀ p ∈ L, ∀ x : p.1.shape.Idx, p.2 x = G (p.1.emb x)
  cover : ∀ y : S3x1536x1024.Idx, (y 1).val / 768 = b → (y 2).val / 128 = j → (y 1).val % 768 / 32 < n →
    ∃ p ∈ L, y ∈ p.1.set

/-- Before the first trip nothing is stored and nothing is asked. -/
theorem Filled.nil (G : Vec Ideal S3x1536x1024 .bf16) (b j : ℕ) : Filled G b j 0 [] :=
  ⟨fun _ h => absurd h List.not_mem_nil, fun _ _ _ h => absurd h (Nat.not_lt_zero _)⟩

variable (x0 : Vec Ideal S1536x1024 .fp8e4m3) (x1 : Vec Ideal S2 .f32) (x2 : Vec Ideal S2x1024 .f32)

/-- `taps` in copy 1. -/
theorem taps_mid (y : S3x1536x1024.Idx) (h : (y 0).val = 1) (r : Fin 1536) (c : Fin 1024) (hr : r.val = (y 1).val)
    (hc : c.val = (y 2).val) : taps x0 x1 x2 y = xs x0 x1 x2 r c := by
  rw [show r = y 1 from Fin.ext hr, show c = y 2 from Fin.ext hc]
  exact if_pos h

/-- `taps` in copy 0, in the pixel left open. -/
theorem taps_right_edge (y : S3x1536x1024.Idx) (h : (y 0).val = 0) (hr : (y 1).val % 32 = 0) : taps x0 x1 x2 y = 0 := by
  unfold taps; rw [if_neg (by omega), if_pos h, if_pos hr]

/-- `taps` in copy 0, elsewhere. -/
theorem taps_right (y : S3x1536x1024.Idx) (h : (y 0).val = 0) (r : Fin 1536) (c : Fin 1024) (hr : (y 1).val = r.val + 1)
    (hr' : (y 1).val % 32 ≠ 0) (hc : c.val = (y 2).val) : taps x0 x1 x2 y = xs x0 x1 x2 r c := by
  rw [show r = ⟨(y 1).val - 1, by omega⟩ from Fin.ext (by show r.val = (y 1).val - 1; omega), show c = y 2 from Fin.ext hc]
  unfold taps; rw [if_neg (by omega), if_pos h, if_neg hr']

/-- `taps` in copy 2, in the pixel left open. -/
theorem taps_left_edge (y : S3x1536x1024.Idx) (h : (y 0).val = 2) (hr : (y 1).val % 32 = 31) : taps x0 x1 x2 y = 0 := by
  unfold taps; rw [if_neg (by omega), if_neg (by omega), dif_pos hr]

/-- `taps` in copy 2, elsewhere. -/
theorem taps_left (y : S3x1536x1024.Idx) (h : (y 0).val = 2) (r : Fin 1536) (c : Fin 1024) (hr : (y 1).val + 1 = r.val)
    (hr' : (y 1).val % 32 ≠ 31) (hc : c.val = (y 2).val) : taps x0 x1 x2 y = xs x0 x1 x2 r c := by
  rw [show r = ⟨(y 1).val + 1, by omega⟩ from Fin.ext hr.symm, show c = y 2 from Fin.ext hc]
  unfold taps; rw [if_neg (by omega), if_neg (by omega), dif_neg hr']

/-- The modulated image at a pixel of image `b`. -/
theorem xs_at {b : ℕ} (hb : b < 2) (r : Fin 1536) (c : Fin 1024) (h : r.val / 768 = b) :
    xs x0 x1 x2 r c = x0 (ix2 r c) * (x1 (ix1 ⟨b, hb⟩) * x2 (ix2 ⟨b, hb⟩ c)) := by
  subst h; rfl

/-- An index of a stored row is a pixel and a channel. -/
theorem exists_ix (x : S1x32x128.Idx) : ∃ (i : Fin 32) (l : Fin 128), x = ix3 0 i l :=
  ⟨x 1, x 2, by rw [eq_ix3 x]; congr 1; exact Subsingleton.elim _ _⟩

/-- Where an index of a stored row lands. -/
theorem embVal {o : Fin 3 → ℕ} (inb) (i : Fin 32) (l : Fin 128) (a : Fin 3) :
    ((Rect.unit (s := S3x1536x1024) o S1x32x128.size inb).emb (ix3 0 i l) a).val = o a + (ix3 (0 : Fin 1) i l a).val :=
  ValueKit.rect_emb_unit_val (s := S3x1536x1024) o S1x32x128.size inb _ a

/-- One trip's three stores advance the row count by one. `v` is the row the trip loaded, `fac` the chunk's factors. -/
theorem Filled.step {b j k : ℕ} (hb : b < 2) (hj : j < 8) (hk : k < 24) {R C : ℕ} (hR : R = 768 * b + 32 * k) (hC : C = 128 * j) {L}
    (h : Filled (taps x0 x1 x2) b j k L)
    {v : Vec Ideal S32x128 .fp8e4m3} {fac : FVec Ideal S1x128 .bf16}
    (hv : ∀ (i : Fin 32) (l : Fin 128), v (ix2 i l) = x0 (ix2 ⟨R + i.val, by omega⟩ ⟨C + l.val, by omega⟩))
    (hf : ∀ l : Fin 128, fac (ix2 0 l) = x1 (ix1 ⟨b, hb⟩) * x2 (ix2 ⟨b, hb⟩ ⟨C + l.val, by omega⟩))
    {o2 o0 o1 : Fin 3 → ℕ} {i2 i0 i1}
    (h2 : o2 = ![2, R, C]) (h0 : o0 = ![0, R, C])
    (h1 : o1 = ![1, R, C]) :
    Filled (taps x0 x1 x2) b j (k + 1)
      ([⟨Rect.unit (s := S3x1536x1024) o2 S1x32x128.size i2, k0_pay90 (F := Ideal) (k0_pay5 fac v) (k0_pay6 fac v)⟩,
        ⟨Rect.unit (s := S3x1536x1024) o0 S1x32x128.size i0, k0_pay4 (F := Ideal) fac v⟩,
        ⟨Rect.unit (s := S3x1536x1024) o1 S1x32x128.size i1, k0_pay3 (F := Ideal) fac v⟩] ++ L) := by
  subst hR hC h2 h0 h1
  constructor
  · intro p hp x
    simp only [List.cons_append, List.nil_append, List.mem_cons] at hp
    rcases hp with rfl | rfl | rfl | hp
    · obtain ⟨i, l, rfl⟩ := exists_ix x
      refine (store_left fac v i l).trans ?_
      have e1 := embVal i2 i l 1
      have e2 := embVal i2 i l 2
      by_cases hi : i.val = 31
      · rw [dif_pos hi, taps_left_edge x0 x1 x2 _ (embVal i2 i l 0) (by rw [e1]; show (768 * b + 32 * k + i.val) % 32 = 31; omega)]
      · rw [dif_neg hi, hv, hf, taps_left x0 x1 x2 _ (embVal i2 i l 0) ⟨768 * b + 32 * k + (i.val + 1), by omega⟩
          ⟨128 * j + l.val, by omega⟩ (by rw [e1]; show 768 * b + 32 * k + i.val + 1 = 768 * b + 32 * k + (i.val + 1); omega)
          (by rw [e1]; show (768 * b + 32 * k + i.val) % 32 ≠ 31; omega) e2.symm]
        exact (xs_at x0 x1 x2 hb ⟨768 * b + 32 * k + (i.val + 1), by omega⟩ _ (by show (768 * b + 32 * k + (i.val + 1)) / 768 = b; omega)).symm
    · obtain ⟨i, l, rfl⟩ := exists_ix x
      refine (store_right fac v i l).trans ?_
      have e1 := embVal i0 i l 1
      have e2 := embVal i0 i l 2
      by_cases hi : i.val = 0
      · rw [if_pos hi, taps_right_edge x0 x1 x2 _ (embVal i0 i l 0) (by rw [e1]; show (768 * b + 32 * k + i.val) % 32 = 0; omega)]
      · rw [if_neg hi, hv, hf, taps_right x0 x1 x2 _ (embVal i0 i l 0) ⟨768 * b + 32 * k + (i.val - 1), by omega⟩
          ⟨128 * j + l.val, by omega⟩ (by rw [e1]; show 768 * b + 32 * k + i.val = 768 * b + 32 * k + (i.val - 1) + 1; omega)
          (by rw [e1]; show (768 * b + 32 * k + i.val) % 32 ≠ 0; omega) e2.symm]
        exact (xs_at x0 x1 x2 hb ⟨768 * b + 32 * k + (i.val - 1), by omega⟩ _ (by show (768 * b + 32 * k + (i.val - 1)) / 768 = b; omega)).symm
    · obtain ⟨i, l, rfl⟩ := exists_ix x
      refine (store_mid fac v i l).trans ?_
      rw [hv, hf, taps_mid x0 x1 x2 _ (embVal i1 i l 0) ⟨768 * b + 32 * k + i.val, by omega⟩
          ⟨128 * j + l.val, by omega⟩ (embVal i1 i l 1).symm (embVal i1 i l 2).symm]
      exact (xs_at x0 x1 x2 hb ⟨768 * b + 32 * k + i.val, by omega⟩ _ (by show (768 * b + 32 * k + i.val) / 768 = b; omega)).symm
    · exact h.agree p hp x
  · intro y hy hc hn
    by_cases hlt : (y 1).val % 768 / 32 < k
    · obtain ⟨p, hp, hm⟩ := h.cover y hy hc hlt
      exact ⟨p, List.mem_append_right _ hp, hm⟩
    · have y0 : (y 0).val < 3 := (y 0).isLt
      have y1 : (y 1).val < 1536 := (y 1).isLt
      have y2 : (y 2).val < 1024 := (y 2).isLt
      have hin : ∀ o : Fin 3 → ℕ, ∀ inb, o = ![(y 0).val, 768 * b + 32 * k, 128 * j] →
          y ∈ (Rect.unit (s := S3x1536x1024) o S1x32x128.size inb).set := by
        rintro o inb rfl
        rw [Rect.mem_set_unit]
        intro a
        match a with
        | 0 => exact ⟨le_refl _, Nat.lt_succ_self _⟩
        | 1 => show 768 * b + 32 * k ≤ (y 1).val ∧ (y 1).val < 768 * b + 32 * k + 32; omega
        | 2 => show 128 * j ≤ (y 2).val ∧ (y 2).val < 128 * j + 128; omega
      rcases (by omega : (y 0).val = 2 ∨ (y 0).val = 0 ∨ (y 0).val = 1) with e | e | e
      · exact ⟨_, List.mem_append_left _ (List.mem_cons_self ..), hin _ i2 (by rw [e])⟩
      · exact ⟨_, List.mem_append_left _ (List.mem_cons_of_mem _ (List.mem_cons_self ..)), hin _ i0 (by rw [e])⟩
      · exact ⟨_, List.mem_append_left _ (List.mem_cons_of_mem _ (List.mem_cons_of_mem _ (List.mem_cons_self ..))),
          hin _ i1 (by rw [e])⟩

end Cert.KernelIdeal.Hand

end
-- ==== Proof.Fill.lean ====
module

public import proofs.«01_k».proof.Proof.Taps

@[expose] public section

/-! The sixteen filling loops, each by `Filled.step`: after its trips, the loop's stores agree with `taps` and cover its
chunk of its image in the three copies. -/

set_option maxRecDepth 16384

noncomputable section

namespace Cert.KernelIdeal.Hand

open Cert.KernelIdeal Cert.KernelIdeal.Gen
open Idealize.ShloMosaic Idealize.ShloMosaic.TcCoe Idealize.ShloMosaic.Tactic

variable (x0 : Vec Ideal S1536x1024 .fp8e4m3) (x1 : Vec Ideal S2 .f32) (x2 : Vec Ideal S2x1024 .f32)

/-- A row loaded from the image, entry by entry. -/
theorem row_read {m : Memref sig .tc .vmem S1536x1024 .fp8e4m3} (hm : m.IsWhole) {o : Fin 2 → ℕ} (inb) {r c : ℕ}
    (ho : o = ![r, c]) (hr : r + 32 ≤ 1536) (hc : c + 128 ≤ 1024) (i : Fin 32) (l : Fin 128) :
    View.readAt (Elt Ideal) m.view (Rect.unit (s := S1536x1024) o S32x128.size inb).toLoadRect (hm.unread x0) (ix2 i l)
      = x0 (ix2 ⟨r + i.val, by omega⟩ ⟨c + l.val, by omega⟩) := by
  subst ho
  rw [hm.readAt_unread]
  pointwise

/-- A chunk's factors: the image's scale times the styles loaded for the chunk. -/
theorem fac_read {v : FVec Ideal S1x128 .f32} {s : EReal} {b c : ℕ} (hb : b < 2) (hc : c + 128 ≤ 1024)
    (hs : s = x1 (ix1 ⟨b, hb⟩)) (hv : ∀ l : Fin 128, v (ix2 0 l) = x2 (ix2 ⟨b, hb⟩ ⟨c + l.val, by omega⟩)) (l : Fin 128) :
    k0_pay89 (F := Ideal) v s (ix2 0 l) = x1 (ix1 ⟨b, hb⟩) * x2 (ix2 ⟨b, hb⟩ ⟨c + l.val, by omega⟩) := by
  have e : k0_pay89 (F := Ideal) v s (ix2 0 l) = s * v (ix2 0 l) := by pointwise [k0_pay89]
  rw [e, hs, hv]

/-- Loop 1: image 0, channels 0 to 127. -/
theorem filled_t1 (c : Dev nD) (arg0 : Memref sig .tc .vmem S1536x1024 .fp8e4m3) (harg0 : arg0.IsWhole) (arg1 : Memref sig .tc .smem S2 .f32) (harg1 : arg1.IsWhole) (arg2 : Memref sig .tc .vmem S2x1024 .f32) (harg2 : arg2.IsWhole) (arg3 : Memref sig .tc .vmem S9x1024x640 .fp8e4m3) (harg3 : arg3.IsWhole) (arg4 : Memref sig .tc .vmem S1x640 .f32) (harg4 : arg4.IsWhole) (arg5 : Memref sig .tc .vmem S1536x640 .bf16) (harg5 : arg5.IsWhole) (arg6 : Memref sig .tc .vmem S2x640 .f32) (harg6 : arg6.IsWhole) (arg7 : Memref sig .tc .vmem S3x1536x1024 .bf16) (harg7 : arg7.IsWhole) (arg8 : Memref sig .tc .vmem S2x1024x128 .f32) (harg8 : arg8.IsWhole)
    (v0 : Vec Ideal S1x128 .f32) (v8 : Elt Ideal .f32)
    (hs : v8 = x1 (ix1 ⟨0, by omega⟩)) (hv : ∀ l : Fin 128, v0 (ix2 0 l) = x2 (ix2 ⟨0, by omega⟩ ⟨0 + l.val, by omega⟩)) :
    ∀ n ≤ 24, Filled (taps x0 x1 x2) 0 0 n (pb_k0_t1 (F := Ideal) Variants.none c none arg0 harg0 arg1 harg1 arg2 harg2 arg3 harg3 arg4 harg4 arg5 harg5 arg6 harg6 arg7 harg7 arg8 harg8 v0 v8 (harg0.unread x0) n)
  | 0, _ => Filled.nil _ _ _
  | n + 1, hn => by
    have hk : n < k0_t1_loop.trips := lt_of_lt_of_le hn (by decide)
    refine (congrArg (Filled _ _ _ _) (pb_k0_t1_succ (F := Ideal) Variants.none c none arg0 harg0 arg1 harg1 arg2 harg2 arg3 harg3 arg4 harg4 arg5 harg5 arg6 harg6 arg7 harg7 arg8 harg8 v0 v8 (harg0.unread x0) ⟨n, hk⟩)).mpr ?_
    unfold tripL_k0_t1 trip_k0_t1
    exact (filled_t1 c arg0 harg0 arg1 harg1 arg2 harg2 arg3 harg3 arg4 harg4 arg5 harg5 arg6 harg6 arg7 harg7 arg8 harg8 v0 v8 hs hv n (by omega)).step x0 x1 x2 (by omega) (by omega) (by omega) (by dsimp only; omega) (by omega)
      (row_read x0 harg0 _ (k0_off1_eq ⟨n, hk⟩) (by dsimp only; omega) (by omega))
      (fac_read x1 x2 (by omega) (by omega) hs hv) (k0_off4_eq ⟨n, hk⟩) (k0_off3_eq ⟨n, hk⟩) (k0_off2_eq ⟨n, hk⟩)

/-- Loop 2: image 0, channels 128 to 255. -/
theorem filled_t2 (c : Dev nD) (arg0 : Memref sig .tc .vmem S1536x1024 .fp8e4m3) (harg0 : arg0.IsWhole) (arg1 : Memref sig .tc .smem S2 .f32) (harg1 : arg1.IsWhole) (arg2 : Memref sig .tc .vmem S2x1024 .f32) (harg2 : arg2.IsWhole) (arg3 : Memref sig .tc .vmem S9x1024x640 .fp8e4m3) (harg3 : arg3.IsWhole) (arg4 : Memref sig .tc .vmem S1x640 .f32) (harg4 : arg4.IsWhole) (arg5 : Memref sig .tc .vmem S1536x640 .bf16) (harg5 : arg5.IsWhole) (arg6 : Memref sig .tc .vmem S2x640 .f32) (harg6 : arg6.IsWhole) (arg7 : Memref sig .tc .vmem S3x1536x1024 .bf16) (harg7 : arg7.IsWhole) (arg8 : Memref sig .tc .vmem S2x1024x128 .f32) (harg8 : arg8.IsWhole)
    (v13 : Vec Ideal S1x128 .f32) (v21 : Elt Ideal .f32)
    (hs : v21 = x1 (ix1 ⟨0, by omega⟩)) (hv : ∀ l : Fin 128, v13 (ix2 0 l) = x2 (ix2 ⟨0, by omega⟩ ⟨128 + l.val, by omega⟩)) :
    ∀ n ≤ 24, Filled (taps x0 x1 x2) 0 1 n (pb_k0_t2 (F := Ideal) Variants.none c none arg0 harg0 arg1 harg1 arg2 harg2 arg3 harg3 arg4 harg4 arg5 harg5 arg6 harg6 arg7 harg7 arg8 harg8 v13 v21 (harg0.unread x0) n)
  | 0, _ => Filled.nil _ _ _
  | n + 1, hn => by
    have hk : n < k0_t2_loop.trips := lt_of_lt_of_le hn (by decide)
    refine (congrArg (Filled _ _ _ _) (pb_k0_t2_succ (F := Ideal) Variants.none c none arg0 harg0 arg1 harg1 arg2 harg2 arg3 harg3 arg4 harg4 arg5 harg5 arg6 harg6 arg7 harg7 arg8 harg8 v13 v21 (harg0.unread x0) ⟨n, hk⟩)).mpr ?_
    unfold tripL_k0_t2 trip_k0_t2
    exact (filled_t2 c arg0 harg0 arg1 harg1 arg2 harg2 arg3 harg3 arg4 harg4 arg5 harg5 arg6 harg6 arg7 harg7 arg8 harg8 v13 v21 hs hv n (by omega)).step x0 x1 x2 (by omega) (by omega) (by omega) (by dsimp only; omega) (by omega)
      (row_read x0 harg0 _ (k0_off5_eq ⟨n, hk⟩) (by dsimp only; omega) (by omega))
      (fac_read x1 x2 (by omega) (by omega) hs hv) (k0_off8_eq ⟨n, hk⟩) (k0_off7_eq ⟨n, hk⟩) (k0_off6_eq ⟨n, hk⟩)

/-- Loop 3: image 0, channels 256 to 383. -/
theorem filled_t3 (c : Dev nD) (arg0 : Memref sig .tc .vmem S1536x1024 .fp8e4m3) (harg0 : arg0.IsWhole) (arg1 : Memref sig .tc .smem S2 .f32) (harg1 : arg1.IsWhole) (arg2 : Memref sig .tc .vmem S2x1024 .f32) (harg2 : arg2.IsWhole) (arg3 : Memref sig .tc .vmem S9x1024x640 .fp8e4m3) (harg3 : arg3.IsWhole) (arg4 : Memref sig .tc .vmem S1x640 .f32) (harg4 : arg4.IsWhole) (arg5 : Memref sig .tc .vmem S1536x640 .bf16) (harg5 : arg5.IsWhole) (arg6 : Memref sig .tc .vmem S2x640 .f32) (harg6 : arg6.IsWhole) (arg7 : Memref sig .tc .vmem S3x1536x1024 .bf16) (harg7 : arg7.IsWhole) (arg8 : Memref sig .tc .vmem S2x1024x128 .f32) (harg8 : arg8.IsWhole)
    (v26 : Vec Ideal S1x128 .f32) (v30 : FVec Ideal S128x128 .f32) (v34 : Elt Ideal .f32)
    (hs : v34 = x1 (ix1 ⟨0, by omega⟩)) (hv : ∀ l : Fin 128, v26 (ix2 0 l) = x2 (ix2 ⟨0, by omega⟩ ⟨256 + l.val, by omega⟩)) :
    ∀ n ≤ 24, Filled (taps x0 x1 x2) 0 2 n (pb_k0_t3 (F := Ideal) Variants.none c none arg0 harg0 arg1 harg1 arg2 harg2 arg3 harg3 arg4 harg4 arg5 harg5 arg6 harg6 arg7 harg7 arg8 harg8 v26 v30 v34 (harg0.unread x0) n)
  | 0, _ => Filled.nil _ _ _
  | n + 1, hn => by
    have hk : n < k0_t3_loop.trips := lt_of_lt_of_le hn (by decide)
    refine (congrArg (Filled _ _ _ _) (pb_k0_t3_succ (F := Ideal) Variants.none c none arg0 harg0 arg1 harg1 arg2 harg2 arg3 harg3 arg4 harg4 arg5 harg5 arg6 harg6 arg7 harg7 arg8 harg8 v26 v30 v34 (harg0.unread x0) ⟨n, hk⟩)).mpr ?_
    unfold tripL_k0_t3 trip_k0_t3
    exact (filled_t3 c arg0 harg0 arg1 harg1 arg2 harg2 arg3 harg3 arg4 harg4 arg5 harg5 arg6 harg6 arg7 harg7 arg8 harg8 v26 v30 v34 hs hv n (by omega)).step x0 x1 x2 (by omega) (by omega) (by omega) (by dsimp only; omega) (by omega)
      (row_read x0 harg0 _ (k0_off9_eq ⟨n, hk⟩) (by dsimp only; omega) (by omega))
      (fac_read x1 x2 (by omega) (by omega) hs hv) (k0_off12_eq ⟨n, hk⟩) (k0_off11_eq ⟨n, hk⟩) (k0_off10_eq ⟨n, hk⟩)

/-- Loop 4: image 0, channels 384 to 511. -/
theorem filled_t4 (c : Dev nD) (arg0 : Memref sig .tc .vmem S1536x1024 .fp8e4m3) (harg0 : arg0.IsWhole) (arg1 : Memref sig .tc .smem S2 .f32) (harg1 : arg1.IsWhole) (arg2 : Memref sig .tc .vmem S2x1024 .f32) (harg2 : arg2.IsWhole) (arg3 : Memref sig .tc .vmem S9x1024x640 .fp8e4m3) (harg3 : arg3.IsWhole) (arg4 : Memref sig .tc .vmem S1x640 .f32) (harg4 : arg4.IsWhole) (arg5 : Memref sig .tc .vmem S1536x640 .bf16) (harg5 : arg5.IsWhole) (arg6 : Memref sig .tc .vmem S2x640 .f32) (harg6 : arg6.IsWhole) (arg7 : Memref sig .tc .vmem S3x1536x1024 .bf16) (harg7 : arg7.IsWhole) (arg8 : Memref sig .tc .vmem S2x1024x128 .f32) (harg8 : arg8.IsWhole)
    (v26 : Vec Ideal S1x128 .f32) (v30 : FVec Ideal S128x128 .f32) (v39 : Vec Ideal S1x128 .f32) (v47 : Elt Ideal .f32)
    (hs : v47 = x1 (ix1 ⟨0, by omega⟩)) (hv : ∀ l : Fin 128, v39 (ix2 0 l) = x2 (ix2 ⟨0, by omega⟩ ⟨384 + l.val, by omega⟩)) :
    ∀ n ≤ 24, Filled (taps x0 x1 x2) 0 3 n (pb_k0_t4 (F := Ideal) Variants.none c none arg0 harg0 arg1 harg1 arg2 harg2 arg3 harg3 arg4 harg4 arg5 harg5 arg6 harg6 arg7 harg7 arg8 harg8 v26 v30 v39 v47 (harg0.unread x0) n)
  | 0, _ => Filled.nil _ _ _
  | n + 1, hn => by
    have hk : n < k0_t4_loop.trips := lt_of_lt_of_le hn (by decide)
    refine (congrArg (Filled _ _ _ _) (pb_k0_t4_succ (F := Ideal) Variants.none c none arg0 harg0 arg1 harg1 arg2 harg2 arg3 harg3 arg4 harg4 arg5 harg5 arg6 harg6 arg7 harg7 arg8 harg8 v26 v30 v39 v47 (harg0.unread x0) ⟨n, hk⟩)).mpr ?_
    unfold tripL_k0_t4 trip_k0_t4
    exact (filled_t4 c arg0 harg0 arg1 harg1 arg2 harg2 arg3 harg3 arg4 harg4 arg5 harg5 arg6 harg6 arg7 harg7 arg8 harg8 v26 v30 v39 v47 hs hv n (by omega)).step x0 x1 x2 (by omega) (by omega) (by omega) (by dsimp only; omega) (by omega)
      (row_read x0 harg0 _ (k0_off13_eq ⟨n, hk⟩) (by dsimp only; omega) (by omega))
      (fac_read x1 x2 (by omega) (by omega) hs hv) (k0_off16_eq ⟨n, hk⟩) (k0_off15_eq ⟨n, hk⟩) (k0_off14_eq ⟨n, hk⟩)

/-- Loop 5: image 0, channels 512 to 639. -/
theorem filled_t5 (c : Dev nD) (arg0 : Memref sig .tc .vmem S1536x1024 .fp8e4m3) (harg0 : arg0.IsWhole) (arg1 : Memref sig .tc .smem S2 .f32) (harg1 : arg1.IsWhole) (arg2 : Memref sig .tc .vmem S2x1024 .f32) (harg2 : arg2.IsWhole) (arg3 : Memref sig .tc .vmem S9x1024x640 .fp8e4m3) (harg3 : arg3.IsWhole) (arg4 : Memref sig .tc .vmem S1x640 .f32) (harg4 : arg4.IsWhole) (arg5 : Memref sig .tc .vmem S1536x640 .bf16) (harg5 : arg5.IsWhole) (arg6 : Memref sig .tc .vmem S2x640 .f32) (harg6 : arg6.IsWhole) (arg7 : Memref sig .tc .vmem S3x1536x1024 .bf16) (harg7 : arg7.IsWhole) (arg8 : Memref sig .tc .vmem S2x1024x128 .f32) (harg8 : arg8.IsWhole)
    (v63 : FVec Ideal S1x128 .bf16) (c0_i32_38 : BitVec 32)
    (hf : ∀ l : Fin 128, v63 (ix2 0 l) = x1 (ix1 ⟨0, by omega⟩) * x2 (ix2 ⟨0, by omega⟩ ⟨512 + l.val, by omega⟩)) :
    ∀ n ≤ 24, Filled (taps x0 x1 x2) 0 4 n (pb_k0_t5 (F := Ideal) Variants.none c none arg0 harg0 arg1 harg1 arg2 harg2 arg3 harg3 arg4 harg4 arg5 harg5 arg6 harg6 arg7 harg7 arg8 harg8 v63 c0_i32_38 (harg0.unread x0) n)
  | 0, _ => Filled.nil _ _ _
  | n + 1, hn => by
    have hk : n < k0_t5_loop.trips := lt_of_lt_of_le hn (by decide)
    refine (congrArg (Filled _ _ _ _) (pb_k0_t5_succ (F := Ideal) Variants.none c none arg0 harg0 arg1 harg1 arg2 harg2 arg3 harg3 arg4 harg4 arg5 harg5 arg6 harg6 arg7 harg7 arg8 harg8 v63 c0_i32_38 (harg0.unread x0) ⟨n, hk⟩)).mpr ?_
    unfold tripL_k0_t5 trip_k0_t5
    exact (filled_t5 c arg0 harg0 arg1 harg1 arg2 harg2 arg3 harg3 arg4 harg4 arg5 harg5 arg6 harg6 arg7 harg7 arg8 harg8 v63 c0_i32_38 hf n (by omega)).step x0 x1 x2 (by omega) (by omega) (by omega) (by dsimp only; omega) (by omega)
      (row_read x0 harg0 _ (k0_off17_eq ⟨n, hk⟩) (by dsimp only; omega) (by omega))
      hf (k0_off20_eq ⟨n, hk⟩) (k0_off19_eq ⟨n, hk⟩) (k0_off18_eq ⟨n, hk⟩)

/-- Loop 6: image 0, channels 640 to 767. -/
theorem filled_t6 (c : Dev nD) (arg0 : Memref sig .tc .vmem S1536x1024 .fp8e4m3) (harg0 : arg0.IsWhole) (arg1 : Memref sig .tc .smem S2 .f32) (harg1 : arg1.IsWhole) (arg2 : Memref sig .tc .vmem S2x1024 .f32) (harg2 : arg2.IsWhole) (arg3 : Memref sig .tc .vmem S9x1024x640 .fp8e4m3) (harg3 : arg3.IsWhole) (arg4 : Memref sig .tc .vmem S1x640 .f32) (harg4 : arg4.IsWhole) (arg5 : Memref sig .tc .vmem S1536x640 .bf16) (harg5 : arg5.IsWhole) (arg6 : Memref sig .tc .vmem S2x640 .f32) (harg6 : arg6.IsWhole) (arg7 : Memref sig .tc .vmem S3x1536x1024 .bf16) (harg7 : arg7.IsWhole) (arg8 : Memref sig .tc .vmem S2x1024x128 .f32) (harg8 : arg8.IsWhole)
    (v63 : FVec Ideal S1x128 .bf16) (c0_i32_38 : BitVec 32) (v65 : Vec Ideal S1x128 .f32) (v73 : Elt Ideal .f32)
    (hs : v73 = x1 (ix1 ⟨0, by omega⟩)) (hv : ∀ l : Fin 128, v65 (ix2 0 l) = x2 (ix2 ⟨0, by omega⟩ ⟨640 + l.val, by omega⟩)) :
    ∀ n ≤ 24, Filled (taps x0 x1 x2) 0 5 n (pb_k0_t6 (F := Ideal) Variants.none c none arg0 harg0 arg1 harg1 arg2 harg2 arg3 harg3 arg4 harg4 arg5 harg5 arg6 harg6 arg7 harg7 arg8 harg8 v63 c0_i32_38 v65 v73 (harg0.unread x0) n)
  | 0, _ => Filled.nil _ _ _
  | n + 1, hn => by
    have hk : n < k0_t6_loop.trips := lt_of_lt_of_le hn (by decide)
    refine (congrArg (Filled _ _ _ _) (pb_k0_t6_succ (F := Ideal) Variants.none c none arg0 harg0 arg1 harg1 arg2 harg2 arg3 harg3 arg4 harg4 arg5 harg5 arg6 harg6 arg7 harg7 arg8 harg8 v63 c0_i32_38 v65 v73 (harg0.unread x0) ⟨n, hk⟩)).mpr ?_
    unfold tripL_k0_t6 trip_k0_t6
    exact (filled_t6 c arg0 harg0 arg1 harg1 arg2 harg2 arg3 harg3 arg4 harg4 arg5 harg5 arg6 harg6 arg7 harg7 arg8 harg8 v63 c0_i32_38 v65 v73 hs hv n (by omega)).step x0 x1 x2 (by omega) (by omega) (by omega) (by dsimp only; omega) (by omega)
      (row_read x0 harg0 _ (k0_off21_eq ⟨n, hk⟩) (by dsimp only; omega) (by omega))
      (fac_read x1 x2 (by omega) (by omega) hs hv) (k0_off24_eq ⟨n, hk⟩) (k0_off23_eq ⟨n, hk⟩) (k0_off22_eq ⟨n, hk⟩)

/-- Loop 7: image 0, channels 768 to 895. -/
theorem filled_t7 (c : Dev nD) (arg0 : Memref sig .tc .vmem S1536x1024 .fp8e4m3) (harg0 : arg0.IsWhole) (arg1 : Memref sig .tc .smem S2 .f32) (harg1 : arg1.IsWhole) (arg2 : Memref sig .tc .vmem S2x1024 .f32) (harg2 : arg2.IsWhole) (arg3 : Memref sig .tc .vmem S9x1024x640 .fp8e4m3) (harg3 : arg3.IsWhole) (arg4 : Memref sig .tc .vmem S1x640 .f32) (harg4 : arg4.IsWhole) (arg5 : Memref sig .tc .vmem S1536x640 .bf16) (harg5 : arg5.IsWhole) (arg6 : Memref sig .tc .vmem S2x640 .f32) (harg6 : arg6.IsWhole) (arg7 : Memref sig .tc .vmem S3x1536x1024 .bf16) (harg7 : arg7.IsWhole) (arg8 : Memref sig .tc .vmem S2x1024x128 .f32) (harg8 : arg8.IsWhole)
    (v63 : FVec Ideal S1x128 .bf16) (c0_i32_38 : BitVec 32) (v78 : Vec Ideal S1x128 .f32) (v86 : Elt Ideal .f32)
    (hs : v86 = x1 (ix1 ⟨0, by omega⟩)) (hv : ∀ l : Fin 128, v78 (ix2 0 l) = x2 (ix2 ⟨0, by omega⟩ ⟨768 + l.val, by omega⟩)) :
    ∀ n ≤ 24, Filled (taps x0 x1 x2) 0 6 n (pb_k0_t7 (F := Ideal) Variants.none c none arg0 harg0 arg1 harg1 arg2 harg2 arg3 harg3 arg4 harg4 arg5 harg5 arg6 harg6 arg7 harg7 arg8 harg8 v63 c0_i32_38 v78 v86 (harg0.unread x0) n)
  | 0, _ => Filled.nil _ _ _
  | n + 1, hn => by
    have hk : n < k0_t7_loop.trips := lt_of_lt_of_le hn (by decide)
    refine (congrArg (Filled _ _ _ _) (pb_k0_t7_succ (F := Ideal) Variants.none c none arg0 harg0 arg1 harg1 arg2 harg2 arg3 harg3 arg4 harg4 arg5 harg5 arg6 harg6 arg7 harg7 arg8 harg8 v63 c0_i32_38 v78 v86 (harg0.unread x0) ⟨n, hk⟩)).mpr ?_
    unfold tripL_k0_t7 trip_k0_t7
    exact (filled_t7 c arg0 harg0 arg1 harg1 arg2 harg2 arg3 harg3 arg4 harg4 arg5 harg5 arg6 harg6 arg7 harg7 arg8 harg8 v63 c0_i32_38 v78 v86 hs hv n (by omega)).step x0 x1 x2 (by omega) (by omega) (by omega) (by dsimp only; omega) (by omega)
      (row_read x0 harg0 _ (k0_off25_eq ⟨n, hk⟩) (by dsimp only; omega) (by omega))
      (fac_read x1 x2 (by omega) (by omega) hs hv) (k0_off28_eq ⟨n, hk⟩) (k0_off27_eq ⟨n, hk⟩) (k0_off26_eq ⟨n, hk⟩)

/-- Loop 8: image 0, channels 896 to 1023. -/
theorem filled_t8 (c : Dev nD) (arg0 : Memref sig .tc .vmem S1536x1024 .fp8e4m3) (harg0 : arg0.IsWhole) (arg1 : Memref sig .tc .smem S2 .f32) (harg1 : arg1.IsWhole) (arg2 : Memref sig .tc .vmem S2x1024 .f32) (harg2 : arg2.IsWhole) (arg3 : Memref sig .tc .vmem S9x1024x640 .fp8e4m3) (harg3 : arg3.IsWhole) (arg4 : Memref sig .tc .vmem S1x640 .f32) (harg4 : arg4.IsWhole) (arg5 : Memref sig .tc .vmem S1536x640 .bf16) (harg5 : arg5.IsWhole) (arg6 : Memref sig .tc .vmem S2x640 .f32) (harg6 : arg6.IsWhole) (arg7 : Memref sig .tc .vmem S3x1536x1024 .bf16) (harg7 : arg7.IsWhole) (arg8 : Memref sig .tc .vmem S2x1024x128 .f32) (harg8 : arg8.IsWhole)
    (v91 : Vec Ideal S1x128 .f32) (v93 : FVec Ideal S1x128 .f32) (v99 : Elt Ideal .f32)
    (hs : v99 = x1 (ix1 ⟨0, by omega⟩)) (hv : ∀ l : Fin 128, v91 (ix2 0 l) = x2 (ix2 ⟨0, by omega⟩ ⟨896 + l.val, by omega⟩)) :
    ∀ n ≤ 24, Filled (taps x0 x1 x2) 0 7 n (pb_k0_t8 (F := Ideal) Variants.none c none arg0 harg0 arg1 harg1 arg2 harg2 arg3 harg3 arg4 harg4 arg5 harg5 arg6 harg6 arg7 harg7 arg8 harg8 v91 v93 v99 (harg0.unread x0) n)
  | 0, _ => Filled.nil _ _ _
  | n + 1, hn => by
    have hk : n < k0_t8_loop.trips := lt_of_lt_of_le hn (by decide)
    refine (congrArg (Filled _ _ _ _) (pb_k0_t8_succ (F := Ideal) Variants.none c none arg0 harg0 arg1 harg1 arg2 harg2 arg3 harg3 arg4 harg4 arg5 harg5 arg6 harg6 arg7 harg7 arg8 harg8 v91 v93 v99 (harg0.unread x0) ⟨n, hk⟩)).mpr ?_
    unfold tripL_k0_t8 trip_k0_t8
    exact (filled_t8 c arg0 harg0 arg1 harg1 arg2 harg2 arg3 harg3 arg4 harg4 arg5 harg5 arg6 harg6 arg7 harg7 arg8 harg8 v91 v93 v99 hs hv n (by omega)).step x0 x1 x2 (by omega) (by omega) (by omega) (by dsimp only; omega) (by omega)
      (row_read x0 harg0 _ (k0_off29_eq ⟨n, hk⟩) (by dsimp only; omega) (by omega))
      (fac_read x1 x2 (by omega) (by omega) hs hv) (k0_off32_eq ⟨n, hk⟩) (k0_off31_eq ⟨n, hk⟩) (k0_off30_eq ⟨n, hk⟩)

/-- Loop 9: image 1, channels 0 to 127. -/
theorem filled_t9 (c : Dev nD) (arg0 : Memref sig .tc .vmem S1536x1024 .fp8e4m3) (harg0 : arg0.IsWhole) (arg1 : Memref sig .tc .smem S2 .f32) (harg1 : arg1.IsWhole) (arg2 : Memref sig .tc .vmem S2x1024 .f32) (harg2 : arg2.IsWhole) (arg3 : Memref sig .tc .vmem S9x1024x640 .fp8e4m3) (harg3 : arg3.IsWhole) (arg4 : Memref sig .tc .vmem S1x640 .f32) (harg4 : arg4.IsWhole) (arg5 : Memref sig .tc .vmem S1536x640 .bf16) (harg5 : arg5.IsWhole) (arg6 : Memref sig .tc .vmem S2x640 .f32) (harg6 : arg6.IsWhole) (arg7 : Memref sig .tc .vmem S3x1536x1024 .bf16) (harg7 : arg7.IsWhole) (arg8 : Memref sig .tc .vmem S2x1024x128 .f32) (harg8 : arg8.IsWhole)
    (v91 : Vec Ideal S1x128 .f32) (v93 : FVec Ideal S1x128 .f32) (v104 : Vec Ideal S1x128 .f32) (v112 : Elt Ideal .f32)
    (hs : v112 = x1 (ix1 ⟨1, by omega⟩)) (hv : ∀ l : Fin 128, v104 (ix2 0 l) = x2 (ix2 ⟨1, by omega⟩ ⟨0 + l.val, by omega⟩)) :
    ∀ n ≤ 24, Filled (taps x0 x1 x2) 1 0 n (pb_k0_t9 (F := Ideal) Variants.none c none arg0 harg0 arg1 harg1 arg2 harg2 arg3 harg3 arg4 harg4 arg5 harg5 arg6 harg6 arg7 harg7 arg8 harg8 v91 v93 v104 v112 (harg0.unread x0) n)
  | 0, _ => Filled.nil _ _ _
  | n + 1, hn => by
    have hk : n < k0_t9_loop.trips := lt_of_lt_of_le hn (by decide)
    refine (congrArg (Filled _ _ _ _) (pb_k0_t9_succ (F := Ideal) Variants.none c none arg0 harg0 arg1 harg1 arg2 harg2 arg3 harg3 arg4 harg4 arg5 harg5 arg6 harg6 arg7 harg7 arg8 harg8 v91 v93 v104 v112 (harg0.unread x0) ⟨n, hk⟩)).mpr ?_
    unfold tripL_k0_t9 trip_k0_t9
    exact (filled_t9 c arg0 harg0 arg1 harg1 arg2 harg2 arg3 harg3 arg4 harg4 arg5 harg5 arg6 harg6 arg7 harg7 arg8 harg8 v91 v93 v104 v112 hs hv n (by omega)).step x0 x1 x2 (by omega) (by omega) (by omega) (by dsimp only; omega) (by omega)
      (row_read x0 harg0 _ (k0_off33_eq ⟨n, hk⟩) (by dsimp only; omega) (by omega))
      (fac_read x1 x2 (by omega) (by omega) hs hv) (k0_off36_eq ⟨n, hk⟩) (k0_off35_eq ⟨n, hk⟩) (k0_off34_eq ⟨n, hk⟩)

/-- Loop 10: image 1, channels 128 to 255. -/
theorem filled_t10 (c : Dev nD) (arg0 : Memref sig .tc .vmem S1536x1024 .fp8e4m3) (harg0 : arg0.IsWhole) (arg1 : Memref sig .tc .smem S2 .f32) (harg1 : arg1.IsWhole) (arg2 : Memref sig .tc .vmem S2x1024 .f32) (harg2 : arg2.IsWhole) (arg3 : Memref sig .tc .vmem S9x1024x640 .fp8e4m3) (harg3 : arg3.IsWhole) (arg4 : Memref sig .tc .vmem S1x640 .f32) (harg4 : arg4.IsWhole) (arg5 : Memref sig .tc .vmem S1536x640 .bf16) (harg5 : arg5.IsWhole) (arg6 : Memref sig .tc .vmem S2x640 .f32) (harg6 : arg6.IsWhole) (arg7 : Memref sig .tc .vmem S3x1536x1024 .bf16) (harg7 : arg7.IsWhole) (arg8 : Memref sig .tc .vmem S2x1024x128 .f32) (harg8 : arg8.IsWhole)
    (v117 : Vec Ideal S1x128 .f32) (v125 : Elt Ideal .f32)
    (hs : v125 = x1 (ix1 ⟨1, by omega⟩)) (hv : ∀ l : Fin 128, v117 (ix2 0 l) = x2 (ix2 ⟨1, by omega⟩ ⟨128 + l.val, by omega⟩)) :
    ∀ n ≤ 24, Filled (taps x0 x1 x2) 1 1 n (pb_k0_t10 (F := Ideal) Variants.none c none arg0 harg0 arg1 harg1 arg2 harg2 arg3 harg3 arg4 harg4 arg5 harg5 arg6 harg6 arg7 harg7 arg8 harg8 v117 v125 (harg0.unread x0) n)
  | 0, _ => Filled.nil _ _ _
  | n + 1, hn => by
    have hk : n < k0_t10_loop.trips := lt_of_lt_of_le hn (by decide)
    refine (congrArg (Filled _ _ _ _) (pb_k0_t10_succ (F := Ideal) Variants.none c none arg0 harg0 arg1 harg1 arg2 harg2 arg3 harg3 arg4 harg4 arg5 harg5 arg6 harg6 arg7 harg7 arg8 harg8 v117 v125 (harg0.unread x0) ⟨n, hk⟩)).mpr ?_
    unfold tripL_k0_t10 trip_k0_t10
    exact (filled_t10 c arg0 harg0 arg1 harg1 arg2 harg2 arg3 harg3 arg4 harg4 arg5 harg5 arg6 harg6 arg7 harg7 arg8 harg8 v117 v125 hs hv n (by omega)).step x0 x1 x2 (by omega) (by omega) (by omega) (by dsimp only; omega) (by omega)
      (row_read x0 harg0 _ (k0_off37_eq ⟨n, hk⟩) (by dsimp only; omega) (by omega))
      (fac_read x1 x2 (by omega) (by omega) hs hv) (k0_off40_eq ⟨n, hk⟩) (k0_off39_eq ⟨n, hk⟩) (k0_off38_eq ⟨n, hk⟩)

/-- Loop 11: image 1, channels 256 to 383. -/
theorem filled_t11 (c : Dev nD) (arg0 : Memref sig .tc .vmem S1536x1024 .fp8e4m3) (harg0 : arg0.IsWhole) (arg1 : Memref sig .tc .smem S2 .f32) (harg1 : arg1.IsWhole) (arg2 : Memref sig .tc .vmem S2x1024 .f32) (harg2 : arg2.IsWhole) (arg3 : Memref sig .tc .vmem S9x1024x640 .fp8e4m3) (harg3 : arg3.IsWhole) (arg4 : Memref sig .tc .vmem S1x640 .f32) (harg4 : arg4.IsWhole) (arg5 : Memref sig .tc .vmem S1536x640 .bf16) (harg5 : arg5.IsWhole) (arg6 : Memref sig .tc .vmem S2x640 .f32) (harg6 : arg6.IsWhole) (arg7 : Memref sig .tc .vmem S3x1536x1024 .bf16) (harg7 : arg7.IsWhole) (arg8 : Memref sig .tc .vmem S2x1024x128 .f32) (harg8 : arg8.IsWhole)
    (v117 : Vec Ideal S1x128 .f32) (v130 : Vec Ideal S1x128 .f32) (v138 : Elt Ideal .f32)
    (hs : v138 = x1 (ix1 ⟨1, by omega⟩)) (hv : ∀ l : Fin 128, v130 (ix2 0 l) = x2 (ix2 ⟨1, by omega⟩ ⟨256 + l.val, by omega⟩)) :
    ∀ n ≤ 24, Filled (taps x0 x1 x2) 1 2 n (pb_k0_t11 (F := Ideal) Variants.none c none arg0 harg0 arg1 harg1 arg2 harg2 arg3 harg3 arg4 harg4 arg5 harg5 arg6 harg6 arg7 harg7 arg8 harg8 v117 v130 v138 (harg0.unread x0) n)
  | 0, _ => Filled.nil _ _ _
  | n + 1, hn => by
    have hk : n < k0_t11_loop.trips := lt_of_lt_of_le hn (by decide)
    refine (congrArg (Filled _ _ _ _) (pb_k0_t11_succ (F := Ideal) Variants.none c none arg0 harg0 arg1 harg1 arg2 harg2 arg3 harg3 arg4 harg4 arg5 harg5 arg6 harg6 arg7 harg7 arg8 harg8 v117 v130 v138 (harg0.unread x0) ⟨n, hk⟩)).mpr ?_
    unfold tripL_k0_t11 trip_k0_t11
    exact (filled_t11 c arg0 harg0 arg1 harg1 arg2 harg2 arg3 harg3 arg4 harg4 arg5 harg5 arg6 harg6 arg7 harg7 arg8 harg8 v117 v130 v138 hs hv n (by omega)).step x0 x1 x2 (by omega) (by omega) (by omega) (by dsimp only; omega) (by omega)
      (row_read x0 harg0 _ (k0_off41_eq ⟨n, hk⟩) (by dsimp only; omega) (by omega))
      (fac_read x1 x2 (by omega) (by omega) hs hv) (k0_off44_eq ⟨n, hk⟩) (k0_off43_eq ⟨n, hk⟩) (k0_off42_eq ⟨n, hk⟩)

/-- Loop 12: image 1, channels 384 to 511. -/
theorem filled_t12 (c : Dev nD) (arg0 : Memref sig .tc .vmem S1536x1024 .fp8e4m3) (harg0 : arg0.IsWhole) (arg1 : Memref sig .tc .smem S2 .f32) (harg1 : arg1.IsWhole) (arg2 : Memref sig .tc .vmem S2x1024 .f32) (harg2 : arg2.IsWhole) (arg3 : Memref sig .tc .vmem S9x1024x640 .fp8e4m3) (harg3 : arg3.IsWhole) (arg4 : Memref sig .tc .vmem S1x640 .f32) (harg4 : arg4.IsWhole) (arg5 : Memref sig .tc .vmem S1536x640 .bf16) (harg5 : arg5.IsWhole) (arg6 : Memref sig .tc .vmem S2x640 .f32) (harg6 : arg6.IsWhole) (arg7 : Memref sig .tc .vmem S3x1536x1024 .bf16) (harg7 : arg7.IsWhole) (arg8 : Memref sig .tc .vmem S2x1024x128 .f32) (harg8 : arg8.IsWhole)
    (v117 : Vec Ideal S1x128 .f32) (v143 : Vec Ideal S1x128 .f32) (v151 : Elt Ideal .f32)
    (hs : v151 = x1 (ix1 ⟨1, by omega⟩)) (hv : ∀ l : Fin 128, v143 (ix2 0 l) = x2 (ix2 ⟨1, by omega⟩ ⟨384 + l.val, by omega⟩)) :
    ∀ n ≤ 24, Filled (taps x0 x1 x2) 1 3 n (pb_k0_t12 (F := Ideal) Variants.none c none arg0 harg0 arg1 harg1 arg2 harg2 arg3 harg3 arg4 harg4 arg5 harg5 arg6 harg6 arg7 harg7 arg8 harg8 v117 v143 v151 (harg0.unread x0) n)
  | 0, _ => Filled.nil _ _ _
  | n + 1, hn => by
    have hk : n < k0_t12_loop.trips := lt_of_lt_of_le hn (by decide)
    refine (congrArg (Filled _ _ _ _) (pb_k0_t12_succ (F := Ideal) Variants.none c none arg0 harg0 arg1 harg1 arg2 harg2 arg3 harg3 arg4 harg4 arg5 harg5 arg6 harg6 arg7 harg7 arg8 harg8 v117 v143 v151 (harg0.unread x0) ⟨n, hk⟩)).mpr ?_
    unfold tripL_k0_t12 trip_k0_t12
    exact (filled_t12 c arg0 harg0 arg1 harg1 arg2 harg2 arg3 harg3 arg4 harg4 arg5 harg5 arg6 harg6 arg7 harg7 arg8 harg8 v117 v143 v151 hs hv n (by omega)).step x0 x1 x2 (by omega) (by omega) (by omega) (by dsimp only; omega) (by omega)
      (row_read x0 harg0 _ (k0_off45_eq ⟨n, hk⟩) (by dsimp only; omega) (by omega))
      (fac_read x1 x2 (by omega) (by omega) hs hv) (k0_off48_eq ⟨n, hk⟩) (k0_off47_eq ⟨n, hk⟩) (k0_off46_eq ⟨n, hk⟩)

/-- Loop 13: image 1, channels 512 to 639. -/
theorem filled_t13 (c : Dev nD) (arg0 : Memref sig .tc .vmem S1536x1024 .fp8e4m3) (harg0 : arg0.IsWhole) (arg1 : Memref sig .tc .smem S2 .f32) (harg1 : arg1.IsWhole) (arg2 : Memref sig .tc .vmem S2x1024 .f32) (harg2 : arg2.IsWhole) (arg3 : Memref sig .tc .vmem S9x1024x640 .fp8e4m3) (harg3 : arg3.IsWhole) (arg4 : Memref sig .tc .vmem S1x640 .f32) (harg4 : arg4.IsWhole) (arg5 : Memref sig .tc .vmem S1536x640 .bf16) (harg5 : arg5.IsWhole) (arg6 : Memref sig .tc .vmem S2x640 .f32) (harg6 : arg6.IsWhole) (arg7 : Memref sig .tc .vmem S3x1536x1024 .bf16) (harg7 : arg7.IsWhole) (arg8 : Memref sig .tc .vmem S2x1024x128 .f32) (harg8 : arg8.IsWhole)
    (v156 : Vec Ideal S1x128 .f32) (v164 : Elt Ideal .f32)
    (hs : v164 = x1 (ix1 ⟨1, by omega⟩)) (hv : ∀ l : Fin 128, v156 (ix2 0 l) = x2 (ix2 ⟨1, by omega⟩ ⟨512 + l.val, by omega⟩)) :
    ∀ n ≤ 24, Filled (taps x0 x1 x2) 1 4 n (pb_k0_t13 (F := Ideal) Variants.none c none arg0 harg0 arg1 harg1 arg2 harg2 arg3 harg3 arg4 harg4 arg5 harg5 arg6 harg6 arg7 harg7 arg8 harg8 v156 v164 (harg0.unread x0) n)
  | 0, _ => Filled.nil _ _ _
  | n + 1, hn => by
    have hk : n < k0_t13_loop.trips := lt_of_lt_of_le hn (by decide)
    refine (congrArg (Filled _ _ _ _) (pb_k0_t13_succ (F := Ideal) Variants.none c none arg0 harg0 arg1 harg1 arg2 harg2 arg3 harg3 arg4 harg4 arg5 harg5 arg6 harg6 arg7 harg7 arg8 harg8 v156 v164 (harg0.unread x0) ⟨n, hk⟩)).mpr ?_
    unfold tripL_k0_t13 trip_k0_t13
    exact (filled_t13 c arg0 harg0 arg1 harg1 arg2 harg2 arg3 harg3 arg4 harg4 arg5 harg5 arg6 harg6 arg7 harg7 arg8 harg8 v156 v164 hs hv n (by omega)).step x0 x1 x2 (by omega) (by omega) (by omega) (by dsimp only; omega) (by omega)
      (row_read x0 harg0 _ (k0_off49_eq ⟨n, hk⟩) (by dsimp only; omega) (by omega))
      (fac_read x1 x2 (by omega) (by omega) hs hv) (k0_off52_eq ⟨n, hk⟩) (k0_off51_eq ⟨n, hk⟩) (k0_off50_eq ⟨n, hk⟩)

/-- Loop 14: image 1, channels 640 to 767. -/
theorem filled_t14 (c : Dev nD) (arg0 : Memref sig .tc .vmem S1536x1024 .fp8e4m3) (harg0 : arg0.IsWhole) (arg1 : Memref sig .tc .smem S2 .f32) (harg1 : arg1.IsWhole) (arg2 : Memref sig .tc .vmem S2x1024 .f32) (harg2 : arg2.IsWhole) (arg3 : Memref sig .tc .vmem S9x1024x640 .fp8e4m3) (harg3 : arg3.IsWhole) (arg4 : Memref sig .tc .vmem S1x640 .f32) (harg4 : arg4.IsWhole) (arg5 : Memref sig .tc .vmem S1536x640 .bf16) (harg5 : arg5.IsWhole) (arg6 : Memref sig .tc .vmem S2x640 .f32) (harg6 : arg6.IsWhole) (arg7 : Memref sig .tc .vmem S3x1536x1024 .bf16) (harg7 : arg7.IsWhole) (arg8 : Memref sig .tc .vmem S2x1024x128 .f32) (harg8 : arg8.IsWhole)
    (v169 : Vec Ideal S1x128 .f32) (v177 : Elt Ideal .f32)
    (hs : v177 = x1 (ix1 ⟨1, by omega⟩)) (hv : ∀ l : Fin 128, v169 (ix2 0 l) = x2 (ix2 ⟨1, by omega⟩ ⟨640 + l.val, by omega⟩)) :
    ∀ n ≤ 24, Filled (taps x0 x1 x2) 1 5 n (pb_k0_t14 (F := Ideal) Variants.none c none arg0 harg0 arg1 harg1 arg2 harg2 arg3 harg3 arg4 harg4 arg5 harg5 arg6 harg6 arg7 harg7 arg8 harg8 v169 v177 (harg0.unread x0) n)
  | 0, _ => Filled.nil _ _ _
  | n + 1, hn => by
    have hk : n < k0_t14_loop.trips := lt_of_lt_of_le hn (by decide)
    refine (congrArg (Filled _ _ _ _) (pb_k0_t14_succ (F := Ideal) Variants.none c none arg0 harg0 arg1 harg1 arg2 harg2 arg3 harg3 arg4 harg4 arg5 harg5 arg6 harg6 arg7 harg7 arg8 harg8 v169 v177 (harg0.unread x0) ⟨n, hk⟩)).mpr ?_
    unfold tripL_k0_t14 trip_k0_t14
    exact (filled_t14 c arg0 harg0 arg1 harg1 arg2 harg2 arg3 harg3 arg4 harg4 arg5 harg5 arg6 harg6 arg7 harg7 arg8 harg8 v169 v177 hs hv n (by omega)).step x0 x1 x2 (by omega) (by omega) (by omega) (by dsimp only; omega) (by omega)
      (row_read x0 harg0 _ (k0_off53_eq ⟨n, hk⟩) (by dsimp only; omega) (by omega))
      (fac_read x1 x2 (by omega) (by omega) hs hv) (k0_off56_eq ⟨n, hk⟩) (k0_off55_eq ⟨n, hk⟩) (k0_off54_eq ⟨n, hk⟩)

/-- Loop 15: image 1, channels 768 to 895. -/
theorem filled_t15 (c : Dev nD) (arg0 : Memref sig .tc .vmem S1536x1024 .fp8e4m3) (harg0 : arg0.IsWhole) (arg1 : Memref sig .tc .smem S2 .f32) (harg1 : arg1.IsWhole) (arg2 : Memref sig .tc .vmem S2x1024 .f32) (harg2 : arg2.IsWhole) (arg3 : Memref sig .tc .vmem S9x1024x640 .fp8e4m3) (harg3 : arg3.IsWhole) (arg4 : Memref sig .tc .vmem S1x640 .f32) (harg4 : arg4.IsWhole) (arg5 : Memref sig .tc .vmem S1536x640 .bf16) (harg5 : arg5.IsWhole) (arg6 : Memref sig .tc .vmem S2x640 .f32) (harg6 : arg6.IsWhole) (arg7 : Memref sig .tc .vmem S3x1536x1024 .bf16) (harg7 : arg7.IsWhole) (arg8 : Memref sig .tc .vmem S2x1024x128 .f32) (harg8 : arg8.IsWhole)
    (v182 : Vec Ideal S1x128 .f32) (v186 : FVec Ideal S128x128 .f32) (v190 : Elt Ideal .f32)
    (hs : v190 = x1 (ix1 ⟨1, by omega⟩)) (hv : ∀ l : Fin 128, v182 (ix2 0 l) = x2 (ix2 ⟨1, by omega⟩ ⟨768 + l.val, by omega⟩)) :
    ∀ n ≤ 24, Filled (taps x0 x1 x2) 1 6 n (pb_k0_t15 (F := Ideal) Variants.none c none arg0 harg0 arg1 harg1 arg2 harg2 arg3 harg3 arg4 harg4 arg5 harg5 arg6 harg6 arg7 harg7 arg8 harg8 v182 v186 v190 (harg0.unread x0) n)
  | 0, _ => Filled.nil _ _ _
  | n + 1, hn => by
    have hk : n < k0_t15_loop.trips := lt_of_lt_of_le hn (by decide)
    refine (congrArg (Filled _ _ _ _) (pb_k0_t15_succ (F := Ideal) Variants.none c none arg0 harg0 arg1 harg1 arg2 harg2 arg3 harg3 arg4 harg4 arg5 harg5 arg6 harg6 arg7 harg7 arg8 harg8 v182 v186 v190 (harg0.unread x0) ⟨n, hk⟩)).mpr ?_
    unfold tripL_k0_t15 trip_k0_t15
    exact (filled_t15 c arg0 harg0 arg1 harg1 arg2 harg2 arg3 harg3 arg4 harg4 arg5 harg5 arg6 harg6 arg7 harg7 arg8 harg8 v182 v186 v190 hs hv n (by omega)).step x0 x1 x2 (by omega) (by omega) (by omega) (by dsimp only; omega) (by omega)
      (row_read x0 harg0 _ (k0_off57_eq ⟨n, hk⟩) (by dsimp only; omega) (by omega))
      (fac_read x1 x2 (by omega) (by omega) hs hv) (k0_off60_eq ⟨n, hk⟩) (k0_off59_eq ⟨n, hk⟩) (k0_off58_eq ⟨n, hk⟩)

/-- Loop 16: image 1, channels 896 to 1023. -/
theorem filled_t16 (c : Dev nD) (arg0 : Memref sig .tc .vmem S1536x1024 .fp8e4m3) (harg0 : arg0.IsWhole) (arg1 : Memref sig .tc .smem S2 .f32) (harg1 : arg1.IsWhole) (arg2 : Memref sig .tc .vmem S2x1024 .f32) (harg2 : arg2.IsWhole) (arg3 : Memref sig .tc .vmem S9x1024x640 .fp8e4m3) (harg3 : arg3.IsWhole) (arg4 : Memref sig .tc .vmem S1x640 .f32) (harg4 : arg4.IsWhole) (arg5 : Memref sig .tc .vmem S1536x640 .bf16) (harg5 : arg5.IsWhole) (arg6 : Memref sig .tc .vmem S2x640 .f32) (harg6 : arg6.IsWhole) (arg7 : Memref sig .tc .vmem S3x1536x1024 .bf16) (harg7 : arg7.IsWhole) (arg8 : Memref sig .tc .vmem S2x1024x128 .f32) (harg8 : arg8.IsWhole)
    (v182 : Vec Ideal S1x128 .f32) (v186 : FVec Ideal S128x128 .f32) (v195 : Vec Ideal S1x128 .f32) (v203 : Elt Ideal .f32)
    (hs : v203 = x1 (ix1 ⟨1, by omega⟩)) (hv : ∀ l : Fin 128, v195 (ix2 0 l) = x2 (ix2 ⟨1, by omega⟩ ⟨896 + l.val, by omega⟩)) :
    ∀ n ≤ 24, Filled (taps x0 x1 x2) 1 7 n (pb_k0_t16 (F := Ideal) Variants.none c none arg0 harg0 arg1 harg1 arg2 harg2 arg3 harg3 arg4 harg4 arg5 harg5 arg6 harg6 arg7 harg7 arg8 harg8 v182 v186 v195 v203 (harg0.unread x0) n)
  | 0, _ => Filled.nil _ _ _
  | n + 1, hn => by
    have hk : n < k0_t16_loop.trips := lt_of_lt_of_le hn (by decide)
    refine (congrArg (Filled _ _ _ _) (pb_k0_t16_succ (F := Ideal) Variants.none c none arg0 harg0 arg1 harg1 arg2 harg2 arg3 harg3 arg4 harg4 arg5 harg5 arg6 harg6 arg7 harg7 arg8 harg8 v182 v186 v195 v203 (harg0.unread x0) ⟨n, hk⟩)).mpr ?_
    unfold tripL_k0_t16 trip_k0_t16
    exact (filled_t16 c arg0 harg0 arg1 harg1 arg2 harg2 arg3 harg3 arg4 harg4 arg5 harg5 arg6 harg6 arg7 harg7 arg8 harg8 v182 v186 v195 v203 hs hv n (by omega)).step x0 x1 x2 (by omega) (by omega) (by omega) (by dsimp only; omega) (by omega)
      (row_read x0 harg0 _ (k0_off61_eq ⟨n, hk⟩) (by dsimp only; omega) (by omega))
      (fac_read x1 x2 (by omega) (by omega) hs hv) (k0_off64_eq ⟨n, hk⟩) (k0_off63_eq ⟨n, hk⟩) (k0_off62_eq ⟨n, hk⟩)

end Cert.KernelIdeal.Hand

end
-- ==== Proof.Scratch.lean ====
module

public import proofs.«01_k».proof.Proof.KRun
public import proofs.«01_k».proof.Proof.Fill

@[expose] public section

/-! What the body reads back from its two scratch arrays after the filling loops. -/

set_option maxRecDepth 16384

noncomputable section

namespace Cert.KernelIdeal.Hand

open Cert.KernelIdeal Cert.KernelIdeal.Gen
open Idealize.ShloMosaic Idealize.ShloMosaic.TcCoe Idealize.ShloMosaic.Tactic

variable (x0 : Vec Ideal S1536x1024 .fp8e4m3) (x1 : Vec Ideal S2 .f32) (x2 : Vec Ideal S2x1024 .f32)

/-- A load from the scales. -/
theorem scale_read {m : Memref sig .tc .smem S2 .f32} (hm : m.IsWhole) {b : ℕ} (hb : b < 2) (inb) (i) :
    View.readAt (Elt Ideal) m.view (Rect.unit (s := S2) ![b] S1.size inb).toLoadRect (hm.unread x1) i = x1 (ix1 ⟨b, hb⟩) := by
  rw [hm.readAt_unread]
  congr 1
  funext a
  apply Fin.ext
  match a with
  | 0 =>
    have h := (i 0).isLt
    show b + 1 * (i 0).val = b
    have : (i 0).val < 1 := h
    omega

/-- A load of a chunk of styles. -/
theorem style_read {m : Memref sig .tc .vmem S2x1024 .f32} (hm : m.IsWhole) {b c : ℕ} (hb : b < 2) (hc : c + 128 ≤ 1024)
    (inb) (l : Fin 128) :
    View.readAt (Elt Ideal) m.view (Rect.unit (s := S2x1024) ![b, c] S1x128.size inb).toLoadRect (hm.unread x2) (ix2 0 l)
      = x2 (ix2 ⟨b, hb⟩ ⟨c + l.val, by omega⟩) := by
  rw [hm.readAt_unread]
  pointwise

/-- All the stores of the sixteen filling loops, the last first. -/
abbrev fillL (c : Dev nD) (arg0 : Memref sig .tc .vmem S1536x1024 .fp8e4m3) (harg0 : arg0.IsWhole) (arg1 : Memref sig .tc .smem S2 .f32) (harg1 : arg1.IsWhole) (arg2 : Memref sig .tc .vmem S2x1024 .f32) (harg2 : arg2.IsWhole) (arg3 : Memref sig .tc .vmem S9x1024x640 .fp8e4m3) (harg3 : arg3.IsWhole) (arg4 : Memref sig .tc .vmem S1x640 .f32) (harg4 : arg4.IsWhole) (arg5 : Memref sig .tc .vmem S1536x640 .bf16) (harg5 : arg5.IsWhole) (arg6 : Memref sig .tc .vmem S2x640 .f32) (harg6 : arg6.IsWhole) (arg7 : Memref sig .tc .vmem S3x1536x1024 .bf16) (harg7 : arg7.IsWhole) (arg8 : Memref sig .tc .vmem S2x1024x128 .f32) (harg8 : arg8.IsWhole)
    : List (View.Piece (Elt Ideal) S3x1536x1024 .bf16) :=
    pb_k0_t16 Variants.none c none arg0 harg0 arg1 harg1 arg2 harg2 arg3 harg3 arg4 harg4 arg5 harg5 arg6 harg6 arg7 harg7 arg8 harg8 (krun.sl.r_20 arg2 (harg2.unread x2)) (krun.sl.r_21 arg2 (harg2.unread x2)) (View.readAt (Elt Ideal) arg2.view (Rect.unit (s := S2x1024) ![1, 896] S1x128.size inb_S2x1024_S1x128_1_896).toLoadRect (harg2.unread x2)) (krun.sl.r_23 arg1 (harg1.unread x1)) (harg0.unread x0) (Scf.trips k0_t16_loop.lb k0_t16_loop.ub k0_t16_loop.st) ++ (
    pb_k0_t15 Variants.none c none arg0 harg0 arg1 harg1 arg2 harg2 arg3 harg3 arg4 harg4 arg5 harg5 arg6 harg6 arg7 harg7 arg8 harg8 (krun.sl.r_20 arg2 (harg2.unread x2)) (krun.sl.r_21 arg2 (harg2.unread x2)) (krun.sl.r_22 arg1 (harg1.unread x1)) (harg0.unread x0) (Scf.trips k0_t15_loop.lb k0_t15_loop.ub k0_t15_loop.st) ++ (
    pb_k0_t14 Variants.none c none arg0 harg0 arg1 harg1 arg2 harg2 arg3 harg3 arg4 harg4 arg5 harg5 arg6 harg6 arg7 harg7 arg8 harg8 (View.readAt (Elt Ideal) arg2.view (Rect.unit (s := S2x1024) ![1, 640] S1x128.size inb_S2x1024_S1x128_1_640).toLoadRect (harg2.unread x2)) (krun.sl.r_19 arg1 (harg1.unread x1)) (harg0.unread x0) (Scf.trips k0_t14_loop.lb k0_t14_loop.ub k0_t14_loop.st) ++ (
    pb_k0_t13 Variants.none c none arg0 harg0 arg1 harg1 arg2 harg2 arg3 harg3 arg4 harg4 arg5 harg5 arg6 harg6 arg7 harg7 arg8 harg8 (View.readAt (Elt Ideal) arg2.view (Rect.unit (s := S2x1024) ![1, 512] S1x128.size inb_S2x1024_S1x128_1_512).toLoadRect (harg2.unread x2)) (krun.sl.r_18 arg1 (harg1.unread x1)) (harg0.unread x0) (Scf.trips k0_t13_loop.lb k0_t13_loop.ub k0_t13_loop.st) ++ (
    pb_k0_t12 Variants.none c none arg0 harg0 arg1 harg1 arg2 harg2 arg3 harg3 arg4 harg4 arg5 harg5 arg6 harg6 arg7 harg7 arg8 harg8 (krun.sl.r_14 arg2 (harg2.unread x2)) (View.readAt (Elt Ideal) arg2.view (Rect.unit (s := S2x1024) ![1, 384] S1x128.size inb_S2x1024_S1x128_1_384).toLoadRect (harg2.unread x2)) (krun.sl.r_17 arg1 (harg1.unread x1)) (harg0.unread x0) (Scf.trips k0_t12_loop.lb k0_t12_loop.ub k0_t12_loop.st) ++ (
    pb_k0_t11 Variants.none c none arg0 harg0 arg1 harg1 arg2 harg2 arg3 harg3 arg4 harg4 arg5 harg5 arg6 harg6 arg7 harg7 arg8 harg8 (krun.sl.r_14 arg2 (harg2.unread x2)) (View.readAt (Elt Ideal) arg2.view (Rect.unit (s := S2x1024) ![1, 256] S1x128.size inb_S2x1024_S1x128_1_256).toLoadRect (harg2.unread x2)) (krun.sl.r_16 arg1 (harg1.unread x1)) (harg0.unread x0) (Scf.trips k0_t11_loop.lb k0_t11_loop.ub k0_t11_loop.st) ++ (
    pb_k0_t10 Variants.none c none arg0 harg0 arg1 harg1 arg2 harg2 arg3 harg3 arg4 harg4 arg5 harg5 arg6 harg6 arg7 harg7 arg8 harg8 (krun.sl.r_14 arg2 (harg2.unread x2)) (krun.sl.r_15 arg1 (harg1.unread x1)) (harg0.unread x0) (Scf.trips k0_t10_loop.lb k0_t10_loop.ub k0_t10_loop.st) ++ (
    pb_k0_t9 Variants.none c none arg0 harg0 arg1 harg1 arg2 harg2 arg3 harg3 arg4 harg4 arg5 harg5 arg6 harg6 arg7 harg7 arg8 harg8 (krun.sl.r_10 arg2 (harg2.unread x2)) (krun.sl.r_11 arg2 (harg2.unread x2)) (View.readAt (Elt Ideal) arg2.view (Rect.unit (s := S2x1024) ![1, 0] S1x128.size inb_S2x1024_S1x128_1_0).toLoadRect (harg2.unread x2)) (krun.sl.r_13 arg1 (harg1.unread x1)) (harg0.unread x0) (Scf.trips k0_t9_loop.lb k0_t9_loop.ub k0_t9_loop.st) ++ (
    pb_k0_t8 Variants.none c none arg0 harg0 arg1 harg1 arg2 harg2 arg3 harg3 arg4 harg4 arg5 harg5 arg6 harg6 arg7 harg7 arg8 harg8 (krun.sl.r_10 arg2 (harg2.unread x2)) (krun.sl.r_11 arg2 (harg2.unread x2)) (krun.sl.r_12 arg1 (harg1.unread x1)) (harg0.unread x0) (Scf.trips k0_t8_loop.lb k0_t8_loop.ub k0_t8_loop.st) ++ (
    pb_k0_t7 Variants.none c none arg0 harg0 arg1 harg1 arg2 harg2 arg3 harg3 arg4 harg4 arg5 harg5 arg6 harg6 arg7 harg7 arg8 harg8 (krun.sl.r_7 arg1 arg2 (harg1.unread x1) (harg2.unread x2)) (0#32) (View.readAt (Elt Ideal) arg2.view (Rect.unit (s := S2x1024) ![0, 768] S1x128.size inb_S2x1024_S1x128_0_768).toLoadRect (harg2.unread x2)) (krun.sl.r_9 arg1 (harg1.unread x1)) (harg0.unread x0) (Scf.trips k0_t7_loop.lb k0_t7_loop.ub k0_t7_loop.st) ++ (
    pb_k0_t6 Variants.none c none arg0 harg0 arg1 harg1 arg2 harg2 arg3 harg3 arg4 harg4 arg5 harg5 arg6 harg6 arg7 harg7 arg8 harg8 (krun.sl.r_7 arg1 arg2 (harg1.unread x1) (harg2.unread x2)) (0#32) (View.readAt (Elt Ideal) arg2.view (Rect.unit (s := S2x1024) ![0, 640] S1x128.size inb_S2x1024_S1x128_0_640).toLoadRect (harg2.unread x2)) (krun.sl.r_8 arg1 (harg1.unread x1)) (harg0.unread x0) (Scf.trips k0_t6_loop.lb k0_t6_loop.ub k0_t6_loop.st) ++ (
    pb_k0_t5 Variants.none c none arg0 harg0 arg1 harg1 arg2 harg2 arg3 harg3 arg4 harg4 arg5 harg5 arg6 harg6 arg7 harg7 arg8 harg8 (krun.sl.r_7 arg1 arg2 (harg1.unread x1) (harg2.unread x2)) (0#32) (harg0.unread x0) (Scf.trips k0_t5_loop.lb k0_t5_loop.ub k0_t5_loop.st) ++ (
    pb_k0_t4 Variants.none c none arg0 harg0 arg1 harg1 arg2 harg2 arg3 harg3 arg4 harg4 arg5 harg5 arg6 harg6 arg7 harg7 arg8 harg8 (krun.sl.r_2 arg2 (harg2.unread x2)) (krun.sl.r_3 arg2 (harg2.unread x2)) (View.readAt (Elt Ideal) arg2.view (Rect.unit (s := S2x1024) ![0, 384] S1x128.size inb_S2x1024_S1x128_0_384).toLoadRect (harg2.unread x2)) (krun.sl.r_5 arg1 (harg1.unread x1)) (harg0.unread x0) (Scf.trips k0_t4_loop.lb k0_t4_loop.ub k0_t4_loop.st) ++ (
    pb_k0_t3 Variants.none c none arg0 harg0 arg1 harg1 arg2 harg2 arg3 harg3 arg4 harg4 arg5 harg5 arg6 harg6 arg7 harg7 arg8 harg8 (krun.sl.r_2 arg2 (harg2.unread x2)) (krun.sl.r_3 arg2 (harg2.unread x2)) (krun.sl.r_4 arg1 (harg1.unread x1)) (harg0.unread x0) (Scf.trips k0_t3_loop.lb k0_t3_loop.ub k0_t3_loop.st) ++ (
    pb_k0_t2 Variants.none c none arg0 harg0 arg1 harg1 arg2 harg2 arg3 harg3 arg4 harg4 arg5 harg5 arg6 harg6 arg7 harg7 arg8 harg8 (View.readAt (Elt Ideal) arg2.view (Rect.unit (s := S2x1024) ![0, 128] S1x128.size inb_S2x1024_S1x128_0_128).toLoadRect (harg2.unread x2)) (krun.sl.r_1 arg1 (harg1.unread x1)) (harg0.unread x0) (Scf.trips k0_t2_loop.lb k0_t2_loop.ub k0_t2_loop.st) ++ pb_k0_t1 Variants.none c none arg0 harg0 arg1 harg1 arg2 harg2 arg3 harg3 arg4 harg4 arg5 harg5 arg6 harg6 arg7 harg7 arg8 harg8 (View.readAt (Elt Ideal) arg2.view (Rect.unit (s := S2x1024) ![0, 0] S1x128.size inb_S2x1024_S1x128_0_0).toLoadRect (harg2.unread x2)) (krun.sl.r arg1 (harg1.unread x1)) (harg0.unread x0) (Scf.trips k0_t1_loop.lb k0_t1_loop.ub k0_t1_loop.st)))))))))))))))

/-- Stores of two groups agree with `taps` when each group's do. -/
theorem agree_append {G : Vec Ideal S3x1536x1024 .bf16} {L M : List (View.Piece (Elt Ideal) S3x1536x1024 .bf16)}
    (hL : ∀ p ∈ L, ∀ x : p.1.shape.Idx, p.2 x = G (p.1.emb x)) (hM : ∀ p ∈ M, ∀ x : p.1.shape.Idx, p.2 x = G (p.1.emb x)) :
    ∀ p ∈ L ++ M, ∀ x : p.1.shape.Idx, p.2 x = G (p.1.emb x) := fun p hp =>
  (List.mem_append.1 hp).elim (hL p) (hM p)

/-- A pixel under a store of one group is under a store of the groups together. -/
theorem under_left {L M : List (View.Piece (Elt Ideal) S3x1536x1024 .bf16)} {y : S3x1536x1024.Idx}
    (h : ∃ p ∈ L, y ∈ p.1.set) : ∃ p ∈ L ++ M, y ∈ p.1.set :=
  h.imp fun _ w => ⟨List.mem_append_left _ w.1, w.2⟩

/-- The same for the second group. -/
theorem under_right {L M : List (View.Piece (Elt Ideal) S3x1536x1024 .bf16)} {y : S3x1536x1024.Idx}
    (h : ∃ p ∈ M, y ∈ p.1.set) : ∃ p ∈ L ++ M, y ∈ p.1.set :=
  h.imp fun _ w => ⟨List.mem_append_right _ w.1, w.2⟩

set_option maxHeartbeats 2000000 in
/-- The scratch of the three copies, after the filling loops and whatever it held before, holds `taps`. -/
theorem taps_read (c : Dev nD) (arg0 : Memref sig .tc .vmem S1536x1024 .fp8e4m3) (harg0 : arg0.IsWhole) (arg1 : Memref sig .tc .smem S2 .f32) (harg1 : arg1.IsWhole) (arg2 : Memref sig .tc .vmem S2x1024 .f32) (harg2 : arg2.IsWhole) (arg3 : Memref sig .tc .vmem S9x1024x640 .fp8e4m3) (harg3 : arg3.IsWhole) (arg4 : Memref sig .tc .vmem S1x640 .f32) (harg4 : arg4.IsWhole) (arg5 : Memref sig .tc .vmem S1536x640 .bf16) (harg5 : arg5.IsWhole) (arg6 : Memref sig .tc .vmem S2x640 .f32) (harg6 : arg6.IsWhole) (arg7 : Memref sig .tc .vmem S3x1536x1024 .bf16) (harg7 : arg7.IsWhole) (arg8 : Memref sig .tc .vmem S2x1024x128 .f32) (harg8 : arg8.IsWhole) (s0 : BufTy.Contents (Elt Ideal) arg7.view.ty) :
    arg7.view.read (Elt Ideal) (arg7.view.writes (Elt Ideal) s0 (fillL x0 x1 x2 c arg0 harg0 arg1 harg1 arg2 harg2 arg3 harg3 arg4 harg4 arg5 harg5 arg6 harg6 arg7 harg7 arg8 harg8)) = taps x0 x1 x2 := by
  have f1 := filled_t1 x0 x1 x2 c arg0 harg0 arg1 harg1 arg2 harg2 arg3 harg3 arg4 harg4 arg5 harg5 arg6 harg6 arg7 harg7 arg8 harg8 (View.readAt (Elt Ideal) arg2.view (Rect.unit (s := S2x1024) ![0, 0] S1x128.size inb_S2x1024_S1x128_0_0).toLoadRect (harg2.unread x2)) (krun.sl.r arg1 (harg1.unread x1)) (scale_read x1 harg1 (by omega) _ _) (style_read x2 harg2 (by omega) (by omega) _) (Scf.trips k0_t1_loop.lb k0_t1_loop.ub k0_t1_loop.st) (by decide)
  have f2 := filled_t2 x0 x1 x2 c arg0 harg0 arg1 harg1 arg2 harg2 arg3 harg3 arg4 harg4 arg5 harg5 arg6 harg6 arg7 harg7 arg8 harg8 (View.readAt (Elt Ideal) arg2.view (Rect.unit (s := S2x1024) ![0, 128] S1x128.size inb_S2x1024_S1x128_0_128).toLoadRect (harg2.unread x2)) (krun.sl.r_1 arg1 (harg1.unread x1)) (scale_read x1 harg1 (by omega) _ _) (style_read x2 harg2 (by omega) (by omega) _) (Scf.trips k0_t2_loop.lb k0_t2_loop.ub k0_t2_loop.st) (by decide)
  have f3 := filled_t3 x0 x1 x2 c arg0 harg0 arg1 harg1 arg2 harg2 arg3 harg3 arg4 harg4 arg5 harg5 arg6 harg6 arg7 harg7 arg8 harg8 (krun.sl.r_2 arg2 (harg2.unread x2)) (krun.sl.r_3 arg2 (harg2.unread x2)) (krun.sl.r_4 arg1 (harg1.unread x1)) (scale_read x1 harg1 (by omega) _ _) (style_read x2 harg2 (by omega) (by omega) _) (Scf.trips k0_t3_loop.lb k0_t3_loop.ub k0_t3_loop.st) (by decide)
  have f4 := filled_t4 x0 x1 x2 c arg0 harg0 arg1 harg1 arg2 harg2 arg3 harg3 arg4 harg4 arg5 harg5 arg6 harg6 arg7 harg7 arg8 harg8 (krun.sl.r_2 arg2 (harg2.unread x2)) (krun.sl.r_3 arg2 (harg2.unread x2)) (View.readAt (Elt Ideal) arg2.view (Rect.unit (s := S2x1024) ![0, 384] S1x128.size inb_S2x1024_S1x128_0_384).toLoadRect (harg2.unread x2)) (krun.sl.r_5 arg1 (harg1.unread x1)) (scale_read x1 harg1 (by omega) _ _) (style_read x2 harg2 (by omega) (by omega) _) (Scf.trips k0_t4_loop.lb k0_t4_loop.ub k0_t4_loop.st) (by decide)
  have f5 := filled_t5 x0 x1 x2 c arg0 harg0 arg1 harg1 arg2 harg2 arg3 harg3 arg4 harg4 arg5 harg5 arg6 harg6 arg7 harg7 arg8 harg8 (krun.sl.r_7 arg1 arg2 (harg1.unread x1) (harg2.unread x2)) (0#32) (fac_read x1 x2 (by omega) (by omega) (scale_read x1 harg1 (by omega) _ _) (style_read x2 harg2 (by omega) (by omega) _)) (Scf.trips k0_t5_loop.lb k0_t5_loop.ub k0_t5_loop.st) (by decide)
  have f6 := filled_t6 x0 x1 x2 c arg0 harg0 arg1 harg1 arg2 harg2 arg3 harg3 arg4 harg4 arg5 harg5 arg6 harg6 arg7 harg7 arg8 harg8 (krun.sl.r_7 arg1 arg2 (harg1.unread x1) (harg2.unread x2)) (0#32) (View.readAt (Elt Ideal) arg2.view (Rect.unit (s := S2x1024) ![0, 640] S1x128.size inb_S2x1024_S1x128_0_640).toLoadRect (harg2.unread x2)) (krun.sl.r_8 arg1 (harg1.unread x1)) (scale_read x1 harg1 (by omega) _ _) (style_read x2 harg2 (by omega) (by omega) _) (Scf.trips k0_t6_loop.lb k0_t6_loop.ub k0_t6_loop.st) (by decide)
  have f7 := filled_t7 x0 x1 x2 c arg0 harg0 arg1 harg1 arg2 harg2 arg3 harg3 arg4 harg4 arg5 harg5 arg6 harg6 arg7 harg7 arg8 harg8 (krun.sl.r_7 arg1 arg2 (harg1.unread x1) (harg2.unread x2)) (0#32) (View.readAt (Elt Ideal) arg2.view (Rect.unit (s := S2x1024) ![0, 768] S1x128.size inb_S2x1024_S1x128_0_768).toLoadRect (harg2.unread x2)) (krun.sl.r_9 arg1 (harg1.unread x1)) (scale_read x1 harg1 (by omega) _ _) (style_read x2 harg2 (by omega) (by omega) _) (Scf.trips k0_t7_loop.lb k0_t7_loop.ub k0_t7_loop.st) (by decide)
  have f8 := filled_t8 x0 x1 x2 c arg0 harg0 arg1 harg1 arg2 harg2 arg3 harg3 arg4 harg4 arg5 harg5 arg6 harg6 arg7 harg7 arg8 harg8 (krun.sl.r_10 arg2 (harg2.unread x2)) (krun.sl.r_11 arg2 (harg2.unread x2)) (krun.sl.r_12 arg1 (harg1.unread x1)) (scale_read x1 harg1 (by omega) _ _) (style_read x2 harg2 (by omega) (by omega) _) (Scf.trips k0_t8_loop.lb k0_t8_loop.ub k0_t8_loop.st) (by decide)
  have f9 := filled_t9 x0 x1 x2 c arg0 harg0 arg1 harg1 arg2 harg2 arg3 harg3 arg4 harg4 arg5 harg5 arg6 harg6 arg7 harg7 arg8 harg8 (krun.sl.r_10 arg2 (harg2.unread x2)) (krun.sl.r_11 arg2 (harg2.unread x2)) (View.readAt (Elt Ideal) arg2.view (Rect.unit (s := S2x1024) ![1, 0] S1x128.size inb_S2x1024_S1x128_1_0).toLoadRect (harg2.unread x2)) (krun.sl.r_13 arg1 (harg1.unread x1)) (scale_read x1 harg1 (by omega) _ _) (style_read x2 harg2 (by omega) (by omega) _) (Scf.trips k0_t9_loop.lb k0_t9_loop.ub k0_t9_loop.st) (by decide)
  have f10 := filled_t10 x0 x1 x2 c arg0 harg0 arg1 harg1 arg2 harg2 arg3 harg3 arg4 harg4 arg5 harg5 arg6 harg6 arg7 harg7 arg8 harg8 (krun.sl.r_14 arg2 (harg2.unread x2)) (krun.sl.r_15 arg1 (harg1.unread x1)) (scale_read x1 harg1 (by omega) _ _) (style_read x2 harg2 (by omega) (by omega) _) (Scf.trips k0_t10_loop.lb k0_t10_loop.ub k0_t10_loop.st) (by decide)
  have f11 := filled_t11 x0 x1 x2 c arg0 harg0 arg1 harg1 arg2 harg2 arg3 harg3 arg4 harg4 arg5 harg5 arg6 harg6 arg7 harg7 arg8 harg8 (krun.sl.r_14 arg2 (harg2.unread x2)) (View.readAt (Elt Ideal) arg2.view (Rect.unit (s := S2x1024) ![1, 256] S1x128.size inb_S2x1024_S1x128_1_256).toLoadRect (harg2.unread x2)) (krun.sl.r_16 arg1 (harg1.unread x1)) (scale_read x1 harg1 (by omega) _ _) (style_read x2 harg2 (by omega) (by omega) _) (Scf.trips k0_t11_loop.lb k0_t11_loop.ub k0_t11_loop.st) (by decide)
  have f12 := filled_t12 x0 x1 x2 c arg0 harg0 arg1 harg1 arg2 harg2 arg3 harg3 arg4 harg4 arg5 harg5 arg6 harg6 arg7 harg7 arg8 harg8 (krun.sl.r_14 arg2 (harg2.unread x2)) (View.readAt (Elt Ideal) arg2.view (Rect.unit (s := S2x1024) ![1, 384] S1x128.size inb_S2x1024_S1x128_1_384).toLoadRect (harg2.unread x2)) (krun.sl.r_17 arg1 (harg1.unread x1)) (scale_read x1 harg1 (by omega) _ _) (style_read x2 harg2 (by omega) (by omega) _) (Scf.trips k0_t12_loop.lb k0_t12_loop.ub k0_t12_loop.st) (by decide)
  have f13 := filled_t13 x0 x1 x2 c arg0 harg0 arg1 harg1 arg2 harg2 arg3 harg3 arg4 harg4 arg5 harg5 arg6 harg6 arg7 harg7 arg8 harg8 (View.readAt (Elt Ideal) arg2.view (Rect.unit (s := S2x1024) ![1, 512] S1x128.size inb_S2x1024_S1x128_1_512).toLoadRect (harg2.unread x2)) (krun.sl.r_18 arg1 (harg1.unread x1)) (scale_read x1 harg1 (by omega) _ _) (style_read x2 harg2 (by omega) (by omega) _) (Scf.trips k0_t13_loop.lb k0_t13_loop.ub k0_t13_loop.st) (by decide)
  have f14 := filled_t14 x0 x1 x2 c arg0 harg0 arg1 harg1 arg2 harg2 arg3 harg3 arg4 harg4 arg5 harg5 arg6 harg6 arg7 harg7 arg8 harg8 (View.readAt (Elt Ideal) arg2.view (Rect.unit (s := S2x1024) ![1, 640] S1x128.size inb_S2x1024_S1x128_1_640).toLoadRect (harg2.unread x2)) (krun.sl.r_19 arg1 (harg1.unread x1)) (scale_read x1 harg1 (by omega) _ _) (style_read x2 harg2 (by omega) (by omega) _) (Scf.trips k0_t14_loop.lb k0_t14_loop.ub k0_t14_loop.st) (by decide)
  have f15 := filled_t15 x0 x1 x2 c arg0 harg0 arg1 harg1 arg2 harg2 arg3 harg3 arg4 harg4 arg5 harg5 arg6 harg6 arg7 harg7 arg8 harg8 (krun.sl.r_20 arg2 (harg2.unread x2)) (krun.sl.r_21 arg2 (harg2.unread x2)) (krun.sl.r_22 arg1 (harg1.unread x1)) (scale_read x1 harg1 (by omega) _ _) (style_read x2 harg2 (by omega) (by omega) _) (Scf.trips k0_t15_loop.lb k0_t15_loop.ub k0_t15_loop.st) (by decide)
  have f16 := filled_t16 x0 x1 x2 c arg0 harg0 arg1 harg1 arg2 harg2 arg3 harg3 arg4 harg4 arg5 harg5 arg6 harg6 arg7 harg7 arg8 harg8 (krun.sl.r_20 arg2 (harg2.unread x2)) (krun.sl.r_21 arg2 (harg2.unread x2)) (View.readAt (Elt Ideal) arg2.view (Rect.unit (s := S2x1024) ![1, 896] S1x128.size inb_S2x1024_S1x128_1_896).toLoadRect (harg2.unread x2)) (krun.sl.r_23 arg1 (harg1.unread x1)) (scale_read x1 harg1 (by omega) _ _) (style_read x2 harg2 (by omega) (by omega) _) (Scf.trips k0_t16_loop.lb k0_t16_loop.ub k0_t16_loop.st) (by decide)
  funext y
  refine View.read_writes_apply_of_pieces _ _ (taps x0 x1 x2) _ ?_ y ?_
  · exact agree_append f16.agree (agree_append f15.agree (agree_append f14.agree (agree_append f13.agree (agree_append f12.agree (agree_append f11.agree (agree_append f10.agree (agree_append f9.agree (agree_append f8.agree (agree_append f7.agree (agree_append f6.agree (agree_append f5.agree (agree_append f4.agree (agree_append f3.agree (agree_append f2.agree (f1.agree)))))))))))))))
  · have y1 : (y 1).val < 1536 := (y 1).isLt
    have y2 : (y 2).val < 1024 := (y 2).isLt
    have hr : (y 1).val % 768 / 32 < 24 := by omega
    have hb : (y 1).val / 768 < 2 := by omega
    have hc : (y 2).val / 128 < 8 := by omega
    have key : (y 1).val / 768 * 8 + (y 2).val / 128 < 16 := by omega
    generalize eb : (y 1).val / 768 = b at *
    generalize ec : (y 2).val / 128 = j at *
    interval_cases b <;> interval_cases j
    · exact under_right (under_right (under_right (under_right (under_right (under_right (under_right (under_right (under_right (under_right (under_right (under_right (under_right (under_right (under_right (f1.cover y eb ec (lt_of_lt_of_le hr (by decide)))))))))))))))))
    · exact under_right (under_right (under_right (under_right (under_right (under_right (under_right (under_right (under_right (under_right (under_right (under_right (under_right (under_right (under_left (f2.cover y eb ec (lt_of_lt_of_le hr (by decide)))))))))))))))))
    · exact under_right (under_right (under_right (under_right (under_right (under_right (under_right (under_right (under_right (under_right (under_right (under_right (under_right (under_left (f3.cover y eb ec (lt_of_lt_of_le hr (by decide))))))))))))))))
    · exact under_right (under_right (under_right (under_right (under_right (under_right (under_right (under_right (under_right (under_right (under_right (under_right (under_left (f4.cover y eb ec (lt_of_lt_of_le hr (by decide)))))))))))))))
    · exact under_right (under_right (under_right (under_right (under_right (under_right (under_right (under_right (under_right (under_right (under_right (under_left (f5.cover y eb ec (lt_of_lt_of_le hr (by decide))))))))))))))
    · exact under_right (under_right (under_right (under_right (under_right (under_right (under_right (under_right (under_right (under_right (under_left (f6.cover y eb ec (lt_of_lt_of_le hr (by decide)))))))))))))
    · exact under_right (under_right (under_right (under_right (under_right (under_right (under_right (under_right (under_right (under_left (f7.cover y eb ec (lt_of_lt_of_le hr (by decide))))))))))))
    · exact under_right (under_right (under_right (under_right (under_right (under_right (under_right (under_right (under_left (f8.cover y eb ec (lt_of_lt_of_le hr (by decide)))))))))))
    · exact under_right (under_right (under_right (under_right (under_right (under_right (under_right (under_left (f9.cover y eb ec (lt_of_lt_of_le hr (by decide))))))))))
    · exact under_right (under_right (under_right (under_right (under_right (under_right (under_left (f10.cover y eb ec (lt_of_lt_of_le hr (by decide)))))))))
    · exact under_right (under_right (under_right (under_right (under_right (under_left (f11.cover y eb ec (lt_of_lt_of_le hr (by decide))))))))
    · exact under_right (under_right (under_right (under_right (under_left (f12.cover y eb ec (lt_of_lt_of_le hr (by decide)))))))
    · exact under_right (under_right (under_right (under_left (f13.cover y eb ec (lt_of_lt_of_le hr (by decide))))))
    · exact under_right (under_right (under_left (f14.cover y eb ec (lt_of_lt_of_le hr (by decide)))))
    · exact under_right (under_left (f15.cover y eb ec (lt_of_lt_of_le hr (by decide))))
    · exact under_left (f16.cover y eb ec (lt_of_lt_of_le hr (by decide)))

end Cert.KernelIdeal.Hand

end
-- ==== Proof.Squares.lean ====
module

public import proofs.«01_k».proof.Proof.Scratch

@[expose] public section

/-! What the second scratch array holds after the filling loops: the squared styles, repeated over the lanes. -/

set_option maxRecDepth 16384

noncomputable section

namespace Cert.KernelIdeal.Hand

open Cert.KernelIdeal Cert.KernelIdeal.Gen
open Idealize.ShloMosaic Idealize.ShloMosaic.TcCoe Idealize.ShloMosaic.Tactic

variable (x2 : Vec Ideal S2x1024 .f32)

/-- The squared style of image `b` and channel `d`, the same in every lane. -/
def sq : Vec Ideal S2x1024x128 .f32 := fun y => x2 (ix2 (y 0) (y 1)) * x2 (ix2 (y 0) (y 1))

/-- One chunk's store agrees with `sq`. -/
theorem sq_piece {m : Memref sig .tc .vmem S2x1024 .f32} (hm : m.IsWhole) {b c : ℕ} (hb : b < 2) (hc : c + 128 ≤ 1024)
    (inb) (inb' : ∀ a, ![b, c, 0] a + S1x128x128.size a ≤ S2x1024x128.size a) (x : S1x128x128.Idx) :
    k0_pay88 (F := Ideal) (View.readAt (Elt Ideal) m.view
        (Rect.unit (s := S2x1024) ![b, c] S1x128.size inb).toLoadRect (hm.unread x2)) x
      = sq x2 ((Rect.unit (s := S2x1024x128) ![b, c, 0] S1x128x128.size inb').emb x) := by
  obtain ⟨i, l, rfl⟩ : ∃ (i l : Fin 128), x = ix3 0 i l :=
    ⟨x 1, x 2, by rw [eq_ix3 x]; congr 1; exact Subsingleton.elim _ _⟩
  have e (v : FVec Ideal S1x128 .f32) : k0_pay88 (F := Ideal) v (ix3 0 i l) = v (ix2 0 i) * v (ix2 0 i) := by
    pointwise [k0_pay88]
  rw [e, style_read x2 hm hb hc]
  have a0 : (Rect.unit (s := S2x1024x128) ![b, c, 0] S1x128x128.size inb').emb (ix3 0 i l) 0 = (⟨b, hb⟩ : Fin 2) :=
    Fin.ext (ValueKit.rect_emb_unit_val (s := S2x1024x128) _ _ inb' _ 0)
  have a1 : (Rect.unit (s := S2x1024x128) ![b, c, 0] S1x128x128.size inb').emb (ix3 0 i l) 1 = (⟨c + i.val, by omega⟩ : Fin 1024) :=
    Fin.ext (ValueKit.rect_emb_unit_val (s := S2x1024x128) _ _ inb' _ 1)
  unfold sq
  rw [a0, a1]

/-- A chunk's store covers its chunk. -/
theorem sq_cover {b c : ℕ} (inb' : ∀ a, ![b, c, 0] a + S1x128x128.size a ≤ S2x1024x128.size a) (y : S2x1024x128.Idx)
    (h0 : (y 0).val = b) (h1 : c ≤ (y 1).val) (h2 : (y 1).val < c + 128) :
    y ∈ (Rect.unit (s := S2x1024x128) ![b, c, 0] S1x128x128.size inb').set := by
  rw [Rect.mem_set_unit]
  intro a
  match a with
  | 0 => exact ⟨h0.symm.le, by show (y 0).val < b + 1; omega⟩
  | 1 => exact ⟨h1, h2⟩
  | 2 => exact ⟨Nat.zero_le _, by have h : (y 2).val < 128 := (y 2).isLt; show (y 2).val < 0 + 128; omega⟩

/-- The second scratch array, after the filling loops and whatever it held before, holds `sq`. -/
theorem sq_read (arg2 : Memref sig .tc .vmem S2x1024 .f32) (harg2 : arg2.IsWhole)
    (arg8 : Memref sig .tc .vmem S2x1024x128 .f32) (s1 : BufTy.Contents (Elt Ideal) arg8.view.ty) :
    arg8.view.read (Elt Ideal) (arg8.view.writes (Elt Ideal) s1 (krun.sl.H8_16 (F := Ideal) arg2 (harg2.unread x2))) = sq x2 := by
  funext y
  refine View.read_writes_apply_of_pieces _ _ (sq x2) _ ?_ y ?_
  · unfold krun.sl.H8_16
    intro p hp
    simp only [List.mem_cons, List.not_mem_nil, or_false] at hp
    rcases hp with rfl | rfl | rfl | rfl | rfl | rfl | rfl | rfl | rfl | rfl | rfl | rfl | rfl | rfl | rfl | rfl
    · exact sq_piece x2 harg2 (b := 1) (c := 896) (by omega) (by omega) (by decide) (by decide)
    · exact sq_piece x2 harg2 (b := 1) (c := 768) (by omega) (by omega) (by decide) (by decide)
    · exact sq_piece x2 harg2 (b := 1) (c := 640) (by omega) (by omega) (by decide) (by decide)
    · exact sq_piece x2 harg2 (b := 1) (c := 512) (by omega) (by omega) (by decide) (by decide)
    · exact sq_piece x2 harg2 (b := 1) (c := 384) (by omega) (by omega) (by decide) (by decide)
    · exact sq_piece x2 harg2 (b := 1) (c := 256) (by omega) (by omega) (by decide) (by decide)
    · exact sq_piece x2 harg2 (b := 1) (c := 128) (by omega) (by omega) (by decide) (by decide)
    · exact sq_piece x2 harg2 (b := 1) (c := 0) (by omega) (by omega) (by decide) (by decide)
    · exact sq_piece x2 harg2 (b := 0) (c := 896) (by omega) (by omega) (by decide) (by decide)
    · exact sq_piece x2 harg2 (b := 0) (c := 768) (by omega) (by omega) (by decide) (by decide)
    · exact sq_piece x2 harg2 (b := 0) (c := 640) (by omega) (by omega) (by decide) (by decide)
    · exact sq_piece x2 harg2 (b := 0) (c := 512) (by omega) (by omega) (by decide) (by decide)
    · exact sq_piece x2 harg2 (b := 0) (c := 384) (by omega) (by omega) (by decide) (by decide)
    · exact sq_piece x2 harg2 (b := 0) (c := 256) (by omega) (by omega) (by decide) (by decide)
    · exact sq_piece x2 harg2 (b := 0) (c := 128) (by omega) (by omega) (by decide) (by decide)
    · exact sq_piece x2 harg2 (b := 0) (c := 0) (by omega) (by omega) (by decide) (by decide)
  · have y0 : (y 0).val < 2 := (y 0).isLt
    have y1 : (y 1).val < 1024 := (y 1).isLt
    have hc : (y 1).val / 128 < 8 := by omega
    generalize eb : (y 0).val = b at *
    generalize ec : (y 1).val / 128 = j at *
    unfold krun.sl.H8_16
    interval_cases b <;> interval_cases j
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))), sq_cover (b := 0) (c := 0) (by decide) y eb (by omega) (by omega)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))), sq_cover (b := 0) (c := 128) (by decide) y eb (by omega) (by omega)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))), sq_cover (b := 0) (c := 256) (by decide) y eb (by omega) (by omega)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))), sq_cover (b := 0) (c := 384) (by decide) y eb (by omega) (by omega)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))), sq_cover (b := 0) (c := 512) (by decide) y eb (by omega) (by omega)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))), sq_cover (b := 0) (c := 640) (by decide) y eb (by omega) (by omega)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))), sq_cover (b := 0) (c := 768) (by decide) y eb (by omega) (by omega)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))), sq_cover (b := 0) (c := 896) (by decide) y eb (by omega) (by omega)⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self ..))))))), sq_cover (b := 1) (c := 0) (by decide) y eb (by omega) (by omega)⟩
    · exact ⟨_, List.mem_cons_of_mem _ (List.mem_cons_of_mem _ (List.mem_cons_of_mem _ (List.mem_cons_of_mem _ (List.mem_cons_of_mem _ (List.mem_cons_of_mem _ (List.mem_cons_self ..)))))), sq_cover (b := 1) (c := 128) (by decide) y eb (by omega) (by omega)⟩
    · exact ⟨_, List.mem_cons_of_mem _ (List.mem_cons_of_mem _ (List.mem_cons_of_mem _ (List.mem_cons_of_mem _ (List.mem_cons_of_mem _ (List.mem_cons_self ..))))), sq_cover (b := 1) (c := 256) (by decide) y eb (by omega) (by omega)⟩
    · exact ⟨_, List.mem_cons_of_mem _ (List.mem_cons_of_mem _ (List.mem_cons_of_mem _ (List.mem_cons_of_mem _ (List.mem_cons_self ..)))), sq_cover (b := 1) (c := 384) (by decide) y eb (by omega) (by omega)⟩
    · exact ⟨_, List.mem_cons_of_mem _ (List.mem_cons_of_mem _ (List.mem_cons_of_mem _ (List.mem_cons_self ..))), sq_cover (b := 1) (c := 512) (by decide) y eb (by omega) (by omega)⟩
    · exact ⟨_, List.mem_cons_of_mem _ (List.mem_cons_of_mem _ (List.mem_cons_self ..)), sq_cover (b := 1) (c := 640) (by decide) y eb (by omega) (by omega)⟩
    · exact ⟨_, List.mem_cons_of_mem _ (List.mem_cons_self ..), sq_cover (b := 1) (c := 768) (by decide) y eb (by omega) (by omega)⟩
    · exact ⟨_, List.mem_cons_self .., sq_cover (b := 1) (c := 896) (by decide) y eb (by omega) (by omega)⟩

end Cert.KernelIdeal.Hand

end
-- ==== Proof.Norms.lean ====
module

public import proofs.«01_k».proof.Proof.Squares

@[expose] public section

/-! The three norm loops: each carries, for its block of output channels, eight partial sums per image of squared style
times the sum of nine squared weights. -/

set_option maxRecDepth 16384

noncomputable section

namespace Cert.KernelIdeal.Hand

open Cert.KernelIdeal Cert.KernelIdeal.Gen
open Idealize.ShloMosaic Idealize.ShloMosaic.TcCoe Idealize.ShloMosaic.Tactic

variable (x2 : Vec Ideal S2x1024 .f32) (x3 : Vec Ideal S9x1024x640 .fp8e4m3) (x4 : Vec Ideal S1x640 .f32)

/-- The sum over the nine taps of the squared weight codes from channel `d` to output channel `n`. -/
def qsum (d : Fin 1024) (n : Fin 640) : EReal := ∑ t : Fin 9, (x3 (ix3 t d n) : EReal) * x3 (ix3 t d n)

/-- Channel `d`'s contribution to the norm of image `b` and output channel `n`. -/
def part (b : Fin 2) (n : Fin 640) (d : Fin 1024) : EReal :=
  ((x2 (ix2 b d) : EReal) * x2 (ix2 b d)) * qsum x3 d n

/-- `part` at a natural number, zero past the channels. -/
def partN (b : Fin 2) (n : Fin 640) (d : ℕ) : EReal := if h : d < 1024 then part x2 x3 b n ⟨d, h⟩ else 0

/-- The squared norm of image `b` and output channel `n`: all channels' contributions, times the squared scale. -/
def norm (b : Fin 2) (n : Fin 640) : EReal := (∑ d : Fin 1024, part x2 x3 b n d) * x4 (ix2 0 n) * x4 (ix2 0 n)

/-- A sum over `m * n` numbers is a sum of `m` sums of `n`. -/
theorem sum_range_split (f : ℕ → EReal) (m n : ℕ) :
    ∑ d ∈ Finset.range (m * n), f d = ∑ i ∈ Finset.range m, ∑ j ∈ Finset.range n, f (i * n + j) := by
  induction m with
  | zero => simp
  | succ m ih => rw [Nat.succ_mul, Finset.sum_range_add, ih, Finset.sum_range_succ]

/-- The eight partial sums of four channels per trip make up the sum over all channels. -/
theorem sum_part (b : Fin 2) (n : Fin 640) :
    ∑ s : Fin 8, ∑ g ∈ Finset.range 32, ∑ i : Fin 4, partN x2 x3 b n (32 * g + (i.val * 8 + s.val)) = ∑ d : Fin 1024, part x2 x3 b n d := by
  have e : ∑ d : Fin 1024, part x2 x3 b n d = ∑ d ∈ Finset.range (32 * (4 * 8)), partN x2 x3 b n d := by
    rw [show 32 * (4 * 8) = 1024 from rfl, Finset.sum_range]
    refine Finset.sum_congr rfl fun d _ => ?_
    unfold partN
    rw [dif_pos d.isLt]
  rw [e, sum_range_split, Finset.sum_comm]
  refine Finset.sum_congr rfl fun g _ => ?_
  rw [sum_range_split (fun j => partN x2 x3 b n (g * (4 * 8) + j)), Finset.sum_comm, Finset.sum_range]
  refine Finset.sum_congr rfl fun i _ => ?_
  rw [Finset.sum_range]
  refine Finset.sum_congr rfl fun s _ => ?_
  congr 1
  omega

/-- A running sum from zero is the sum of its steps. -/
theorem run_sum {N : ℕ} (f g : ℕ → EReal) (h0 : f 0 = 0) (hs : ∀ n, n < N → f (n + 1) = f n + g n) :
    f N = ∑ n ∈ Finset.range N, g n := by
  have h : ∀ n ≤ N, f n = ∑ n ∈ Finset.range n, g n := by
    intro n
    induction n with
    | zero => intro _; simpa using h0
    | succ n ih => intro hn; rw [hs n (by omega), ih (by omega), Finset.sum_range_succ]
  exact h N le_rfl

/-- A tile of one tap's weights, 256 output channels wide. -/
theorem weight_read256 {m : Memref sig .tc .vmem S9x1024x640 .fp8e4m3} (hm : m.IsWhole) {o : Fin 3 → ℕ} (inb) {t : Fin 9} {r n : ℕ}
    (ho : o = ![t.val, r, n]) (hr : r + 32 ≤ 1024) (hn : n + 256 ≤ 640) (i : Fin 32) (l : Fin 256) :
    View.readAt (Elt Ideal) m.view (Rect.unit (s := S9x1024x640) o S1x32x256.size inb).toLoadRect (hm.unread x3) (ix3 0 i l)
      = x3 (ix3 t ⟨r + i.val, by omega⟩ ⟨n + l.val, by omega⟩) := by
  subst ho
  rw [hm.readAt_unread]
  pointwise

/-- One trip, 256 output channels wide: each of the eight partial sums gains four channels. -/
theorem trip256 (acc : FVec Ideal S8x256 .f32) (w0 w1 w2 w3 w4 w5 w6 w7 w8 : FVec Ideal S1x32x256 .fp8e4m3)
    (s2 : FVec Ideal S1x32x128 .f32) (b : Fin 2) {k n : ℕ} (hk : k < 32) (hn : n + 256 ≤ 640)
    (h0 : ∀ (i : Fin 32) (l : Fin 256), w0 (ix3 0 i l) = x3 (ix3 0 ⟨32 * k + i.val, by omega⟩ ⟨n + l.val, by omega⟩))
    (h1 : ∀ (i : Fin 32) (l : Fin 256), w1 (ix3 0 i l) = x3 (ix3 1 ⟨32 * k + i.val, by omega⟩ ⟨n + l.val, by omega⟩))
    (h2 : ∀ (i : Fin 32) (l : Fin 256), w2 (ix3 0 i l) = x3 (ix3 2 ⟨32 * k + i.val, by omega⟩ ⟨n + l.val, by omega⟩))
    (h3 : ∀ (i : Fin 32) (l : Fin 256), w3 (ix3 0 i l) = x3 (ix3 3 ⟨32 * k + i.val, by omega⟩ ⟨n + l.val, by omega⟩))
    (h4 : ∀ (i : Fin 32) (l : Fin 256), w4 (ix3 0 i l) = x3 (ix3 4 ⟨32 * k + i.val, by omega⟩ ⟨n + l.val, by omega⟩))
    (h5 : ∀ (i : Fin 32) (l : Fin 256), w5 (ix3 0 i l) = x3 (ix3 5 ⟨32 * k + i.val, by omega⟩ ⟨n + l.val, by omega⟩))
    (h6 : ∀ (i : Fin 32) (l : Fin 256), w6 (ix3 0 i l) = x3 (ix3 6 ⟨32 * k + i.val, by omega⟩ ⟨n + l.val, by omega⟩))
    (h7 : ∀ (i : Fin 32) (l : Fin 256), w7 (ix3 0 i l) = x3 (ix3 7 ⟨32 * k + i.val, by omega⟩ ⟨n + l.val, by omega⟩))
    (h8 : ∀ (i : Fin 32) (l : Fin 256), w8 (ix3 0 i l) = x3 (ix3 8 ⟨32 * k + i.val, by omega⟩ ⟨n + l.val, by omega⟩))
    (hs : ∀ (i : Fin 32) (l : Fin 128), s2 (ix3 0 i l) = x2 (ix2 b ⟨32 * k + i.val, by omega⟩) * x2 (ix2 b ⟨32 * k + i.val, by omega⟩))
    (s : Fin 8) (l : Fin 256) :
    k0_pay142 (F := Ideal) acc (k0_pay82 w0 w1 w2 w3 w4 w5) (k0_pay83 w6) w7 w8 s2 (ix2 s l)
      = acc (ix2 s l) + ∑ i : Fin 4, partN x2 x3 b ⟨n + l.val, by omega⟩ (32 * k + (i.val * 8 + s.val)) := by
  have e : ∀ d : Fin 1024, qsum x3 d ⟨n + l.val, by omega⟩ = ((((((((x3 (ix3 0 d ⟨n + l.val, by omega⟩) * x3 (ix3 0 d ⟨n + l.val, by omega⟩) + x3 (ix3 1 d ⟨n + l.val, by omega⟩) * x3 (ix3 1 d ⟨n + l.val, by omega⟩)) + x3 (ix3 2 d ⟨n + l.val, by omega⟩) * x3 (ix3 2 d ⟨n + l.val, by omega⟩)) + x3 (ix3 3 d ⟨n + l.val, by omega⟩) * x3 (ix3 3 d ⟨n + l.val, by omega⟩)) + x3 (ix3 4 d ⟨n + l.val, by omega⟩) * x3 (ix3 4 d ⟨n + l.val, by omega⟩)) + x3 (ix3 5 d ⟨n + l.val, by omega⟩) * x3 (ix3 5 d ⟨n + l.val, by omega⟩)) + x3 (ix3 6 d ⟨n + l.val, by omega⟩) * x3 (ix3 6 d ⟨n + l.val, by omega⟩)) + x3 (ix3 7 d ⟨n + l.val, by omega⟩) * x3 (ix3 7 d ⟨n + l.val, by omega⟩)) + x3 (ix3 8 d ⟨n + l.val, by omega⟩) * x3 (ix3 8 d ⟨n + l.val, by omega⟩)) := by
    intro d
    unfold qsum
    simp only [Fin.sum_univ_castSucc, Finset.univ_eq_empty, Finset.sum_empty, zero_add]
    rfl
  pointwise [k0_pay142, k0_pay141, k0_pay82, k0_pay83]
  simp only [h0, h1, h2, h3, h4, h5, h6, h7, h8, hs]
  congr 1
  refine Finset.sum_congr rfl fun i _ => ?_
  unfold partN
  refine Eq.trans ?_ (dif_pos (show 32 * k + (i.val * 8 + s.val) < 1024 by omega)).symm
  unfold part
  rw [e]
  try split_ifs <;> rfl

/-- The norms of 256 output channels from their eight partial sums. -/
theorem norm_of256 (acc : FVec Ideal S8x256 .f32) (ws : FVec Ideal S1x256 .f32) (l : Fin 256) :
    k0_pay145 (F := Ideal) acc ws (ix2 0 l) = (∑ s : Fin 8, acc (ix2 s l)) * ws (ix2 0 l) * ws (ix2 0 l) := by
  pointwise [k0_pay145, k0_pay144]

/-- The partial sums start at zero. -/
theorem init256 (s : Fin 8) (l : Fin 256) : k0_pay139 (F := Ideal) (ix2 s l) = 0 := by
  pointwise [k0_pay139]

/-- A tile of one tap's weights, 128 output channels wide. -/
theorem weight_read128 {m : Memref sig .tc .vmem S9x1024x640 .fp8e4m3} (hm : m.IsWhole) {o : Fin 3 → ℕ} (inb) {t : Fin 9} {r n : ℕ}
    (ho : o = ![t.val, r, n]) (hr : r + 32 ≤ 1024) (hn : n + 128 ≤ 640) (i : Fin 32) (l : Fin 128) :
    View.readAt (Elt Ideal) m.view (Rect.unit (s := S9x1024x640) o S1x32x128.size inb).toLoadRect (hm.unread x3) (ix3 0 i l)
      = x3 (ix3 t ⟨r + i.val, by omega⟩ ⟨n + l.val, by omega⟩) := by
  subst ho
  rw [hm.readAt_unread]
  pointwise

/-- One trip, 128 output channels wide: each of the eight partial sums gains four channels. -/
theorem trip128 (acc : FVec Ideal S8x128 .f32) (w0 w1 w2 w3 w4 w5 w6 w7 w8 : FVec Ideal S1x32x128 .fp8e4m3)
    (s2 : FVec Ideal S1x32x128 .f32) (b : Fin 2) {k n : ℕ} (hk : k < 32) (hn : n + 128 ≤ 640)
    (h0 : ∀ (i : Fin 32) (l : Fin 128), w0 (ix3 0 i l) = x3 (ix3 0 ⟨32 * k + i.val, by omega⟩ ⟨n + l.val, by omega⟩))
    (h1 : ∀ (i : Fin 32) (l : Fin 128), w1 (ix3 0 i l) = x3 (ix3 1 ⟨32 * k + i.val, by omega⟩ ⟨n + l.val, by omega⟩))
    (h2 : ∀ (i : Fin 32) (l : Fin 128), w2 (ix3 0 i l) = x3 (ix3 2 ⟨32 * k + i.val, by omega⟩ ⟨n + l.val, by omega⟩))
    (h3 : ∀ (i : Fin 32) (l : Fin 128), w3 (ix3 0 i l) = x3 (ix3 3 ⟨32 * k + i.val, by omega⟩ ⟨n + l.val, by omega⟩))
    (h4 : ∀ (i : Fin 32) (l : Fin 128), w4 (ix3 0 i l) = x3 (ix3 4 ⟨32 * k + i.val, by omega⟩ ⟨n + l.val, by omega⟩))
    (h5 : ∀ (i : Fin 32) (l : Fin 128), w5 (ix3 0 i l) = x3 (ix3 5 ⟨32 * k + i.val, by omega⟩ ⟨n + l.val, by omega⟩))
    (h6 : ∀ (i : Fin 32) (l : Fin 128), w6 (ix3 0 i l) = x3 (ix3 6 ⟨32 * k + i.val, by omega⟩ ⟨n + l.val, by omega⟩))
    (h7 : ∀ (i : Fin 32) (l : Fin 128), w7 (ix3 0 i l) = x3 (ix3 7 ⟨32 * k + i.val, by omega⟩ ⟨n + l.val, by omega⟩))
    (h8 : ∀ (i : Fin 32) (l : Fin 128), w8 (ix3 0 i l) = x3 (ix3 8 ⟨32 * k + i.val, by omega⟩ ⟨n + l.val, by omega⟩))
    (hs : ∀ (i : Fin 32) (l : Fin 128), s2 (ix3 0 i l) = x2 (ix2 b ⟨32 * k + i.val, by omega⟩) * x2 (ix2 b ⟨32 * k + i.val, by omega⟩))
    (s : Fin 8) (l : Fin 128) :
    k0_pay182 (F := Ideal) acc (k0_pay86 w0 w1 w2 w3 w4 w5) (k0_pay87 w6) w7 w8 s2 (ix2 s l)
      = acc (ix2 s l) + ∑ i : Fin 4, partN x2 x3 b ⟨n + l.val, by omega⟩ (32 * k + (i.val * 8 + s.val)) := by
  have e : ∀ d : Fin 1024, qsum x3 d ⟨n + l.val, by omega⟩ = ((((((((x3 (ix3 0 d ⟨n + l.val, by omega⟩) * x3 (ix3 0 d ⟨n + l.val, by omega⟩) + x3 (ix3 1 d ⟨n + l.val, by omega⟩) * x3 (ix3 1 d ⟨n + l.val, by omega⟩)) + x3 (ix3 2 d ⟨n + l.val, by omega⟩) * x3 (ix3 2 d ⟨n + l.val, by omega⟩)) + x3 (ix3 3 d ⟨n + l.val, by omega⟩) * x3 (ix3 3 d ⟨n + l.val, by omega⟩)) + x3 (ix3 4 d ⟨n + l.val, by omega⟩) * x3 (ix3 4 d ⟨n + l.val, by omega⟩)) + x3 (ix3 5 d ⟨n + l.val, by omega⟩) * x3 (ix3 5 d ⟨n + l.val, by omega⟩)) + x3 (ix3 6 d ⟨n + l.val, by omega⟩) * x3 (ix3 6 d ⟨n + l.val, by omega⟩)) + x3 (ix3 7 d ⟨n + l.val, by omega⟩) * x3 (ix3 7 d ⟨n + l.val, by omega⟩)) + x3 (ix3 8 d ⟨n + l.val, by omega⟩) * x3 (ix3 8 d ⟨n + l.val, by omega⟩)) := by
    intro d
    unfold qsum
    simp only [Fin.sum_univ_castSucc, Finset.univ_eq_empty, Finset.sum_empty, zero_add]
    rfl
  pointwise [k0_pay182, k0_pay181, k0_pay86, k0_pay87]
  simp only [h0, h1, h2, h3, h4, h5, h6, h7, h8, hs]
  congr 1
  refine Finset.sum_congr rfl fun i _ => ?_
  unfold partN
  refine Eq.trans ?_ (dif_pos (show 32 * k + (i.val * 8 + s.val) < 1024 by omega)).symm
  unfold part
  rw [e]
  try split_ifs <;> rfl

/-- The norms of 128 output channels from their eight partial sums. -/
theorem norm_of128 (acc : FVec Ideal S8x128 .f32) (ws : FVec Ideal S1x128 .f32) (l : Fin 128) :
    k0_pay185 (F := Ideal) acc ws (ix2 0 l) = (∑ s : Fin 8, acc (ix2 s l)) * ws (ix2 0 l) * ws (ix2 0 l) := by
  pointwise [k0_pay185, k0_pay184]

/-- The partial sums start at zero. -/
theorem init128 (s : Fin 8) (l : Fin 128) : k0_pay179 (F := Ideal) (ix2 s l) = 0 := by
  pointwise [k0_pay179]

/-- A load of squared styles. -/
theorem sq_load {m : Memref sig .tc .vmem S2x1024x128 .f32} {X : BufTy.Contents (Elt Ideal) m.view.ty}
    (hX : m.view.read (Elt Ideal) X = sq x2) {o : Fin 3 → ℕ} (inb) {b : Fin 2} {r : ℕ}
    (ho : o = ![b.val, r, 0]) (hr : r + 32 ≤ 1024) (i : Fin 32) (l : Fin 128) :
    View.readAt (Elt Ideal) m.view (Rect.unit (s := S2x1024x128) o S1x32x128.size inb).toLoadRect X (ix3 0 i l)
      = x2 (ix2 b ⟨r + i.val, by omega⟩) * x2 (ix2 b ⟨r + i.val, by omega⟩) := by
  subst ho
  rw [show View.readAt (Elt Ideal) m.view (Rect.unit (s := S2x1024x128) ![b.val, r, 0] S1x32x128.size inb).toLoadRect X (ix3 0 i l)
    = m.view.read (Elt Ideal) X ((Rect.unit (s := S2x1024x128) ![b.val, r, 0] S1x32x128.size inb).toLoadRect.idx (ix3 0 i l)) from rfl, hX]
  unfold sq
  pointwise

end Cert.KernelIdeal.Hand

end
-- ==== Proof.NormLoops.lean ====
module

public import proofs.«01_k».proof.Proof.Norms

@[expose] public section

/-! What the three norm loops carry after their last trip. -/

set_option maxRecDepth 16384

noncomputable section

namespace Cert.KernelIdeal.Hand

open Cert.KernelIdeal Cert.KernelIdeal.Gen
open Idealize.ShloMosaic Idealize.ShloMosaic.TcCoe Idealize.ShloMosaic.Tactic

variable (x2 : Vec Ideal S2x1024 .f32) (x3 : Vec Ideal S9x1024x640 .fp8e4m3) (x4 : Vec Ideal S1x640 .f32)

/-- Loop 17: the partial sums of image 0, output channels 0 to 255. -/
theorem norm_t17_0 (c : Dev nD) (arg0 : Memref sig .tc .vmem S1536x1024 .fp8e4m3) (harg0 : arg0.IsWhole) (arg1 : Memref sig .tc .smem S2 .f32) (harg1 : arg1.IsWhole) (arg2 : Memref sig .tc .vmem S2x1024 .f32) (harg2 : arg2.IsWhole) (arg3 : Memref sig .tc .vmem S9x1024x640 .fp8e4m3) (harg3 : arg3.IsWhole) (arg4 : Memref sig .tc .vmem S1x640 .f32) (harg4 : arg4.IsWhole) (arg5 : Memref sig .tc .vmem S1536x640 .bf16) (harg5 : arg5.IsWhole) (arg6 : Memref sig .tc .vmem S2x640 .f32) (harg6 : arg6.IsWhole) (arg7 : Memref sig .tc .vmem S3x1536x1024 .bf16) (harg7 : arg7.IsWhole) (arg8 : Memref sig .tc .vmem S2x1024x128 .f32) (harg8 : arg8.IsWhole)
    (v182 : Vec Ideal S1x128 .f32) (v186 : FVec Ideal S128x128 .f32) (X8 : BufTy.Contents (Elt Ideal) arg8.view.ty) (hX : arg8.view.read (Elt Ideal) X8 = sq x2) (s : Fin 8) (l : Fin 256) :
    (st_k0_t17 (F := Ideal) Variants.none c none arg0 harg0 arg1 harg1 arg2 harg2 arg3 harg3 arg4 harg4 arg5 harg5 arg6 harg6 arg7 harg7 arg8 harg8 v182 v186 (harg3.unread x3) X8 (k0_pay139, k0_pay140) 32).1 (ix2 s l)
      = ∑ g ∈ Finset.range 32, ∑ i : Fin 4, partN x2 x3 0 ⟨0 + l.val, by omega⟩ (32 * g + (i.val * 8 + s.val)) := by
  refine run_sum (N := 32) (fun n => (st_k0_t17 (F := Ideal) Variants.none c none arg0 harg0 arg1 harg1 arg2 harg2 arg3 harg3 arg4 harg4 arg5 harg5 arg6 harg6 arg7 harg7 arg8 harg8 v182 v186 (harg3.unread x3) X8 (k0_pay139, k0_pay140) n).1 (ix2 s l)) _ ?_ fun n hn => ?_
  · exact init256 s l
  · have hk : n < k0_t17_loop.trips := lt_of_lt_of_le hn (by decide)
    refine (congrArg (fun z => z.1 (ix2 s l)) (st_k0_t17_succ (F := Ideal) Variants.none c none arg0 harg0 arg1 harg1 arg2 harg2 arg3 harg3 arg4 harg4 arg5 harg5 arg6 harg6 arg7 harg7 arg8 harg8 v182 v186 (harg3.unread x3) X8 (k0_pay139, k0_pay140) ⟨n, hk⟩)).trans ?_
    unfold tripR_k0_t17 trip_k0_t17
    unfold trip_k0_t17.sl.r trip_k0_t17.sl.r_1
    exact trip256 x2 x3 _ _ _ _ _ _ _ _ _ _ _ 0 hn (by omega)
      (weight_read256 x3 harg3 _ (t := 0) (k0_off65_eq ⟨n, hk⟩) (by dsimp only; omega) (by omega))
      (weight_read256 x3 harg3 _ (t := 1) (k0_off66_eq ⟨n, hk⟩) (by dsimp only; omega) (by omega))
      (weight_read256 x3 harg3 _ (t := 2) (k0_off67_eq ⟨n, hk⟩) (by dsimp only; omega) (by omega))
      (weight_read256 x3 harg3 _ (t := 3) (k0_off68_eq ⟨n, hk⟩) (by dsimp only; omega) (by omega))
      (weight_read256 x3 harg3 _ (t := 4) (k0_off69_eq ⟨n, hk⟩) (by dsimp only; omega) (by omega))
      (weight_read256 x3 harg3 _ (t := 5) (k0_off70_eq ⟨n, hk⟩) (by dsimp only; omega) (by omega))
      (weight_read256 x3 harg3 _ (t := 6) (k0_off71_eq ⟨n, hk⟩) (by dsimp only; omega) (by omega))
      (weight_read256 x3 harg3 _ (t := 7) (k0_off72_eq ⟨n, hk⟩) (by dsimp only; omega) (by omega))
      (weight_read256 x3 harg3 _ (t := 8) (k0_off73_eq ⟨n, hk⟩) (by dsimp only; omega) (by omega))
      (sq_load x2 hX _ (b := 0) (k0_off74_eq ⟨n, hk⟩) (by dsimp only; omega)) s l

/-- Loop 17: the partial sums of image 1, output channels 0 to 255. -/
theorem norm_t17_1 (c : Dev nD) (arg0 : Memref sig .tc .vmem S1536x1024 .fp8e4m3) (harg0 : arg0.IsWhole) (arg1 : Memref sig .tc .smem S2 .f32) (harg1 : arg1.IsWhole) (arg2 : Memref sig .tc .vmem S2x1024 .f32) (harg2 : arg2.IsWhole) (arg3 : Memref sig .tc .vmem S9x1024x640 .fp8e4m3) (harg3 : arg3.IsWhole) (arg4 : Memref sig .tc .vmem S1x640 .f32) (harg4 : arg4.IsWhole) (arg5 : Memref sig .tc .vmem S1536x640 .bf16) (harg5 : arg5.IsWhole) (arg6 : Memref sig .tc .vmem S2x640 .f32) (harg6 : arg6.IsWhole) (arg7 : Memref sig .tc .vmem S3x1536x1024 .bf16) (harg7 : arg7.IsWhole) (arg8 : Memref sig .tc .vmem S2x1024x128 .f32) (harg8 : arg8.IsWhole)
    (v182 : Vec Ideal S1x128 .f32) (v186 : FVec Ideal S128x128 .f32) (X8 : BufTy.Contents (Elt Ideal) arg8.view.ty) (hX : arg8.view.read (Elt Ideal) X8 = sq x2) (s : Fin 8) (l : Fin 256) :
    (st_k0_t17 (F := Ideal) Variants.none c none arg0 harg0 arg1 harg1 arg2 harg2 arg3 harg3 arg4 harg4 arg5 harg5 arg6 harg6 arg7 harg7 arg8 harg8 v182 v186 (harg3.unread x3) X8 (k0_pay139, k0_pay140) 32).2 (ix2 s l)
      = ∑ g ∈ Finset.range 32, ∑ i : Fin 4, partN x2 x3 1 ⟨0 + l.val, by omega⟩ (32 * g + (i.val * 8 + s.val)) := by
  refine run_sum (N := 32) (fun n => (st_k0_t17 (F := Ideal) Variants.none c none arg0 harg0 arg1 harg1 arg2 harg2 arg3 harg3 arg4 harg4 arg5 harg5 arg6 harg6 arg7 harg7 arg8 harg8 v182 v186 (harg3.unread x3) X8 (k0_pay139, k0_pay140) n).2 (ix2 s l)) _ ?_ fun n hn => ?_
  · exact init256 s l
  · have hk : n < k0_t17_loop.trips := lt_of_lt_of_le hn (by decide)
    refine (congrArg (fun z => z.2 (ix2 s l)) (st_k0_t17_succ (F := Ideal) Variants.none c none arg0 harg0 arg1 harg1 arg2 harg2 arg3 harg3 arg4 harg4 arg5 harg5 arg6 harg6 arg7 harg7 arg8 harg8 v182 v186 (harg3.unread x3) X8 (k0_pay139, k0_pay140) ⟨n, hk⟩)).trans ?_
    unfold tripR_k0_t17 trip_k0_t17
    unfold trip_k0_t17.sl.r trip_k0_t17.sl.r_1
    exact trip256 x2 x3 _ _ _ _ _ _ _ _ _ _ _ 1 hn (by omega)
      (weight_read256 x3 harg3 _ (t := 0) (k0_off65_eq ⟨n, hk⟩) (by dsimp only; omega) (by omega))
      (weight_read256 x3 harg3 _ (t := 1) (k0_off66_eq ⟨n, hk⟩) (by dsimp only; omega) (by omega))
      (weight_read256 x3 harg3 _ (t := 2) (k0_off67_eq ⟨n, hk⟩) (by dsimp only; omega) (by omega))
      (weight_read256 x3 harg3 _ (t := 3) (k0_off68_eq ⟨n, hk⟩) (by dsimp only; omega) (by omega))
      (weight_read256 x3 harg3 _ (t := 4) (k0_off69_eq ⟨n, hk⟩) (by dsimp only; omega) (by omega))
      (weight_read256 x3 harg3 _ (t := 5) (k0_off70_eq ⟨n, hk⟩) (by dsimp only; omega) (by omega))
      (weight_read256 x3 harg3 _ (t := 6) (k0_off71_eq ⟨n, hk⟩) (by dsimp only; omega) (by omega))
      (weight_read256 x3 harg3 _ (t := 7) (k0_off72_eq ⟨n, hk⟩) (by dsimp only; omega) (by omega))
      (weight_read256 x3 harg3 _ (t := 8) (k0_off73_eq ⟨n, hk⟩) (by dsimp only; omega) (by omega))
      (sq_load x2 hX _ (b := 1) (k0_off75_eq ⟨n, hk⟩) (by dsimp only; omega)) s l

/-- Loop 18: the partial sums of image 0, output channels 256 to 511. -/
theorem norm_t18_0 (c : Dev nD) (arg0 : Memref sig .tc .vmem S1536x1024 .fp8e4m3) (harg0 : arg0.IsWhole) (arg1 : Memref sig .tc .smem S2 .f32) (harg1 : arg1.IsWhole) (arg2 : Memref sig .tc .vmem S2x1024 .f32) (harg2 : arg2.IsWhole) (arg3 : Memref sig .tc .vmem S9x1024x640 .fp8e4m3) (harg3 : arg3.IsWhole) (arg4 : Memref sig .tc .vmem S1x640 .f32) (harg4 : arg4.IsWhole) (arg5 : Memref sig .tc .vmem S1536x640 .bf16) (harg5 : arg5.IsWhole) (arg6 : Memref sig .tc .vmem S2x640 .f32) (harg6 : arg6.IsWhole) (arg7 : Memref sig .tc .vmem S3x1536x1024 .bf16) (harg7 : arg7.IsWhole) (arg8 : Memref sig .tc .vmem S2x1024x128 .f32) (harg8 : arg8.IsWhole)
    (v213 : FVec Ideal S1x256 .f32) (v309 : FVec Ideal S1x256 .f32) (v374 : FVec Ideal S768x256 .f32) (X8 : BufTy.Contents (Elt Ideal) arg8.view.ty) (hX : arg8.view.read (Elt Ideal) X8 = sq x2) (s : Fin 8) (l : Fin 256) :
    (st_k0_t18 (F := Ideal) Variants.none c none arg0 harg0 arg1 harg1 arg2 harg2 arg3 harg3 arg4 harg4 arg5 harg5 arg6 harg6 arg7 harg7 arg8 harg8 v213 v309 v374 (harg3.unread x3) X8 (k0_pay157, k0_pay158) 32).1 (ix2 s l)
      = ∑ g ∈ Finset.range 32, ∑ i : Fin 4, partN x2 x3 0 ⟨256 + l.val, by omega⟩ (32 * g + (i.val * 8 + s.val)) := by
  refine run_sum (N := 32) (fun n => (st_k0_t18 (F := Ideal) Variants.none c none arg0 harg0 arg1 harg1 arg2 harg2 arg3 harg3 arg4 harg4 arg5 harg5 arg6 harg6 arg7 harg7 arg8 harg8 v213 v309 v374 (harg3.unread x3) X8 (k0_pay157, k0_pay158) n).1 (ix2 s l)) _ ?_ fun n hn => ?_
  · exact init256 s l
  · have hk : n < k0_t18_loop.trips := lt_of_lt_of_le hn (by decide)
    refine (congrArg (fun z => z.1 (ix2 s l)) (st_k0_t18_succ (F := Ideal) Variants.none c none arg0 harg0 arg1 harg1 arg2 harg2 arg3 harg3 arg4 harg4 arg5 harg5 arg6 harg6 arg7 harg7 arg8 harg8 v213 v309 v374 (harg3.unread x3) X8 (k0_pay157, k0_pay158) ⟨n, hk⟩)).trans ?_
    unfold tripR_k0_t18 trip_k0_t18
    unfold trip_k0_t18.sl.r trip_k0_t18.sl.r_1
    exact trip256 x2 x3 _ _ _ _ _ _ _ _ _ _ _ 0 hn (by omega)
      (weight_read256 x3 harg3 _ (t := 0) (k0_off76_eq ⟨n, hk⟩) (by dsimp only; omega) (by omega))
      (weight_read256 x3 harg3 _ (t := 1) (k0_off77_eq ⟨n, hk⟩) (by dsimp only; omega) (by omega))
      (weight_read256 x3 harg3 _ (t := 2) (k0_off78_eq ⟨n, hk⟩) (by dsimp only; omega) (by omega))
      (weight_read256 x3 harg3 _ (t := 3) (k0_off79_eq ⟨n, hk⟩) (by dsimp only; omega) (by omega))
      (weight_read256 x3 harg3 _ (t := 4) (k0_off80_eq ⟨n, hk⟩) (by dsimp only; omega) (by omega))
      (weight_read256 x3 harg3 _ (t := 5) (k0_off81_eq ⟨n, hk⟩) (by dsimp only; omega) (by omega))
      (weight_read256 x3 harg3 _ (t := 6) (k0_off82_eq ⟨n, hk⟩) (by dsimp only; omega) (by omega))
      (weight_read256 x3 harg3 _ (t := 7) (k0_off83_eq ⟨n, hk⟩) (by dsimp only; omega) (by omega))
      (weight_read256 x3 harg3 _ (t := 8) (k0_off84_eq ⟨n, hk⟩) (by dsimp only; omega) (by omega))
      (sq_load x2 hX _ (b := 0) (k0_off85_eq ⟨n, hk⟩) (by dsimp only; omega)) s l

/-- Loop 18: the partial sums of image 1, output channels 256 to 511. -/
theorem norm_t18_1 (c : Dev nD) (arg0 : Memref sig .tc .vmem S1536x1024 .fp8e4m3) (harg0 : arg0.IsWhole) (arg1 : Memref sig .tc .smem S2 .f32) (harg1 : arg1.IsWhole) (arg2 : Memref sig .tc .vmem S2x1024 .f32) (harg2 : arg2.IsWhole) (arg3 : Memref sig .tc .vmem S9x1024x640 .fp8e4m3) (harg3 : arg3.IsWhole) (arg4 : Memref sig .tc .vmem S1x640 .f32) (harg4 : arg4.IsWhole) (arg5 : Memref sig .tc .vmem S1536x640 .bf16) (harg5 : arg5.IsWhole) (arg6 : Memref sig .tc .vmem S2x640 .f32) (harg6 : arg6.IsWhole) (arg7 : Memref sig .tc .vmem S3x1536x1024 .bf16) (harg7 : arg7.IsWhole) (arg8 : Memref sig .tc .vmem S2x1024x128 .f32) (harg8 : arg8.IsWhole)
    (v213 : FVec Ideal S1x256 .f32) (v309 : FVec Ideal S1x256 .f32) (v374 : FVec Ideal S768x256 .f32) (X8 : BufTy.Contents (Elt Ideal) arg8.view.ty) (hX : arg8.view.read (Elt Ideal) X8 = sq x2) (s : Fin 8) (l : Fin 256) :
    (st_k0_t18 (F := Ideal) Variants.none c none arg0 harg0 arg1 harg1 arg2 harg2 arg3 harg3 arg4 harg4 arg5 harg5 arg6 harg6 arg7 harg7 arg8 harg8 v213 v309 v374 (harg3.unread x3) X8 (k0_pay157, k0_pay158) 32).2 (ix2 s l)
      = ∑ g ∈ Finset.range 32, ∑ i : Fin 4, partN x2 x3 1 ⟨256 + l.val, by omega⟩ (32 * g + (i.val * 8 + s.val)) := by
  refine run_sum (N := 32) (fun n => (st_k0_t18 (F := Ideal) Variants.none c none arg0 harg0 arg1 harg1 arg2 harg2 arg3 harg3 arg4 harg4 arg5 harg5 arg6 harg6 arg7 harg7 arg8 harg8 v213 v309 v374 (harg3.unread x3) X8 (k0_pay157, k0_pay158) n).2 (ix2 s l)) _ ?_ fun n hn => ?_
  · exact init256 s l
  · have hk : n < k0_t18_loop.trips := lt_of_lt_of_le hn (by decide)
    refine (congrArg (fun z => z.2 (ix2 s l)) (st_k0_t18_succ (F := Ideal) Variants.none c none arg0 harg0 arg1 harg1 arg2 harg2 arg3 harg3 arg4 harg4 arg5 harg5 arg6 harg6 arg7 harg7 arg8 harg8 v213 v309 v374 (harg3.unread x3) X8 (k0_pay157, k0_pay158) ⟨n, hk⟩)).trans ?_
    unfold tripR_k0_t18 trip_k0_t18
    unfold trip_k0_t18.sl.r trip_k0_t18.sl.r_1
    exact trip256 x2 x3 _ _ _ _ _ _ _ _ _ _ _ 1 hn (by omega)
      (weight_read256 x3 harg3 _ (t := 0) (k0_off76_eq ⟨n, hk⟩) (by dsimp only; omega) (by omega))
      (weight_read256 x3 harg3 _ (t := 1) (k0_off77_eq ⟨n, hk⟩) (by dsimp only; omega) (by omega))
      (weight_read256 x3 harg3 _ (t := 2) (k0_off78_eq ⟨n, hk⟩) (by dsimp only; omega) (by omega))
      (weight_read256 x3 harg3 _ (t := 3) (k0_off79_eq ⟨n, hk⟩) (by dsimp only; omega) (by omega))
      (weight_read256 x3 harg3 _ (t := 4) (k0_off80_eq ⟨n, hk⟩) (by dsimp only; omega) (by omega))
      (weight_read256 x3 harg3 _ (t := 5) (k0_off81_eq ⟨n, hk⟩) (by dsimp only; omega) (by omega))
      (weight_read256 x3 harg3 _ (t := 6) (k0_off82_eq ⟨n, hk⟩) (by dsimp only; omega) (by omega))
      (weight_read256 x3 harg3 _ (t := 7) (k0_off83_eq ⟨n, hk⟩) (by dsimp only; omega) (by omega))
      (weight_read256 x3 harg3 _ (t := 8) (k0_off84_eq ⟨n, hk⟩) (by dsimp only; omega) (by omega))
      (sq_load x2 hX _ (b := 1) (k0_off86_eq ⟨n, hk⟩) (by dsimp only; omega)) s l

/-- Loop 19: the partial sums of image 0, output channels 512 to 639. -/
theorem norm_t19_0 (c : Dev nD) (arg0 : Memref sig .tc .vmem S1536x1024 .fp8e4m3) (harg0 : arg0.IsWhole) (arg1 : Memref sig .tc .smem S2 .f32) (harg1 : arg1.IsWhole) (arg2 : Memref sig .tc .vmem S2x1024 .f32) (harg2 : arg2.IsWhole) (arg3 : Memref sig .tc .vmem S9x1024x640 .fp8e4m3) (harg3 : arg3.IsWhole) (arg4 : Memref sig .tc .vmem S1x640 .f32) (harg4 : arg4.IsWhole) (arg5 : Memref sig .tc .vmem S1536x640 .bf16) (harg5 : arg5.IsWhole) (arg6 : Memref sig .tc .vmem S2x640 .f32) (harg6 : arg6.IsWhole) (arg7 : Memref sig .tc .vmem S3x1536x1024 .bf16) (harg7 : arg7.IsWhole) (arg8 : Memref sig .tc .vmem S2x1024x128 .f32) (harg8 : arg8.IsWhole)
    (v491 : FVec Ideal S1x256 .f32) (v565 : FVec Ideal S768x256 .f32) (v566 : FVec Ideal S768x256 .f32) (X8 : BufTy.Contents (Elt Ideal) arg8.view.ty) (hX : arg8.view.read (Elt Ideal) X8 = sq x2) (s : Fin 8) (l : Fin 128) :
    (st_k0_t19 (F := Ideal) Variants.none c none arg0 harg0 arg1 harg1 arg2 harg2 arg3 harg3 arg4 harg4 arg5 harg5 arg6 harg6 arg7 harg7 arg8 harg8 v491 v565 v566 (harg3.unread x3) X8 (k0_pay179, k0_pay180) 32).1 (ix2 s l)
      = ∑ g ∈ Finset.range 32, ∑ i : Fin 4, partN x2 x3 0 ⟨512 + l.val, by omega⟩ (32 * g + (i.val * 8 + s.val)) := by
  refine run_sum (N := 32) (fun n => (st_k0_t19 (F := Ideal) Variants.none c none arg0 harg0 arg1 harg1 arg2 harg2 arg3 harg3 arg4 harg4 arg5 harg5 arg6 harg6 arg7 harg7 arg8 harg8 v491 v565 v566 (harg3.unread x3) X8 (k0_pay179, k0_pay180) n).1 (ix2 s l)) _ ?_ fun n hn => ?_
  · exact init128 s l
  · have hk : n < k0_t19_loop.trips := lt_of_lt_of_le hn (by decide)
    refine (congrArg (fun z => z.1 (ix2 s l)) (st_k0_t19_succ (F := Ideal) Variants.none c none arg0 harg0 arg1 harg1 arg2 harg2 arg3 harg3 arg4 harg4 arg5 harg5 arg6 harg6 arg7 harg7 arg8 harg8 v491 v565 v566 (harg3.unread x3) X8 (k0_pay179, k0_pay180) ⟨n, hk⟩)).trans ?_
    unfold tripR_k0_t19 trip_k0_t19
    unfold trip_k0_t19.sl.r trip_k0_t19.sl.r_1
    exact trip128 x2 x3 _ _ _ _ _ _ _ _ _ _ _ 0 hn (by omega)
      (weight_read128 x3 harg3 _ (t := 0) (k0_off87_eq ⟨n, hk⟩) (by dsimp only; omega) (by omega))
      (weight_read128 x3 harg3 _ (t := 1) (k0_off88_eq ⟨n, hk⟩) (by dsimp only; omega) (by omega))
      (weight_read128 x3 harg3 _ (t := 2) (k0_off89_eq ⟨n, hk⟩) (by dsimp only; omega) (by omega))
      (weight_read128 x3 harg3 _ (t := 3) (k0_off90_eq ⟨n, hk⟩) (by dsimp only; omega) (by omega))
      (weight_read128 x3 harg3 _ (t := 4) (k0_off91_eq ⟨n, hk⟩) (by dsimp only; omega) (by omega))
      (weight_read128 x3 harg3 _ (t := 5) (k0_off92_eq ⟨n, hk⟩) (by dsimp only; omega) (by omega))
      (weight_read128 x3 harg3 _ (t := 6) (k0_off93_eq ⟨n, hk⟩) (by dsimp only; omega) (by omega))
      (weight_read128 x3 harg3 _ (t := 7) (k0_off94_eq ⟨n, hk⟩) (by dsimp only; omega) (by omega))
      (weight_read128 x3 harg3 _ (t := 8) (k0_off95_eq ⟨n, hk⟩) (by dsimp only; omega) (by omega))
      (sq_load x2 hX _ (b := 0) (k0_off96_eq ⟨n, hk⟩) (by dsimp only; omega)) s l

/-- Loop 19: the partial sums of image 1, output channels 512 to 639. -/
theorem norm_t19_1 (c : Dev nD) (arg0 : Memref sig .tc .vmem S1536x1024 .fp8e4m3) (harg0 : arg0.IsWhole) (arg1 : Memref sig .tc .smem S2 .f32) (harg1 : arg1.IsWhole) (arg2 : Memref sig .tc .vmem S2x1024 .f32) (harg2 : arg2.IsWhole) (arg3 : Memref sig .tc .vmem S9x1024x640 .fp8e4m3) (harg3 : arg3.IsWhole) (arg4 : Memref sig .tc .vmem S1x640 .f32) (harg4 : arg4.IsWhole) (arg5 : Memref sig .tc .vmem S1536x640 .bf16) (harg5 : arg5.IsWhole) (arg6 : Memref sig .tc .vmem S2x640 .f32) (harg6 : arg6.IsWhole) (arg7 : Memref sig .tc .vmem S3x1536x1024 .bf16) (harg7 : arg7.IsWhole) (arg8 : Memref sig .tc .vmem S2x1024x128 .f32) (harg8 : arg8.IsWhole)
    (v491 : FVec Ideal S1x256 .f32) (v565 : FVec Ideal S768x256 .f32) (v566 : FVec Ideal S768x256 .f32) (X8 : BufTy.Contents (Elt Ideal) arg8.view.ty) (hX : arg8.view.read (Elt Ideal) X8 = sq x2) (s : Fin 8) (l : Fin 128) :
    (st_k0_t19 (F := Ideal) Variants.none c none arg0 harg0 arg1 harg1 arg2 harg2 arg3 harg3 arg4 harg4 arg5 harg5 arg6 harg6 arg7 harg7 arg8 harg8 v491 v565 v566 (harg3.unread x3) X8 (k0_pay179, k0_pay180) 32).2 (ix2 s l)
      = ∑ g ∈ Finset.range 32, ∑ i : Fin 4, partN x2 x3 1 ⟨512 + l.val, by omega⟩ (32 * g + (i.val * 8 + s.val)) := by
  refine run_sum (N := 32) (fun n => (st_k0_t19 (F := Ideal) Variants.none c none arg0 harg0 arg1 harg1 arg2 harg2 arg3 harg3 arg4 harg4 arg5 harg5 arg6 harg6 arg7 harg7 arg8 harg8 v491 v565 v566 (harg3.unread x3) X8 (k0_pay179, k0_pay180) n).2 (ix2 s l)) _ ?_ fun n hn => ?_
  · exact init128 s l
  · have hk : n < k0_t19_loop.trips := lt_of_lt_of_le hn (by decide)
    refine (congrArg (fun z => z.2 (ix2 s l)) (st_k0_t19_succ (F := Ideal) Variants.none c none arg0 harg0 arg1 harg1 arg2 harg2 arg3 harg3 arg4 harg4 arg5 harg5 arg6 harg6 arg7 harg7 arg8 harg8 v491 v565 v566 (harg3.unread x3) X8 (k0_pay179, k0_pay180) ⟨n, hk⟩)).trans ?_
    unfold tripR_k0_t19 trip_k0_t19
    unfold trip_k0_t19.sl.r trip_k0_t19.sl.r_1
    exact trip128 x2 x3 _ _ _ _ _ _ _ _ _ _ _ 1 hn (by omega)
      (weight_read128 x3 harg3 _ (t := 0) (k0_off87_eq ⟨n, hk⟩) (by dsimp only; omega) (by omega))
      (weight_read128 x3 harg3 _ (t := 1) (k0_off88_eq ⟨n, hk⟩) (by dsimp only; omega) (by omega))
      (weight_read128 x3 harg3 _ (t := 2) (k0_off89_eq ⟨n, hk⟩) (by dsimp only; omega) (by omega))
      (weight_read128 x3 harg3 _ (t := 3) (k0_off90_eq ⟨n, hk⟩) (by dsimp only; omega) (by omega))
      (weight_read128 x3 harg3 _ (t := 4) (k0_off91_eq ⟨n, hk⟩) (by dsimp only; omega) (by omega))
      (weight_read128 x3 harg3 _ (t := 5) (k0_off92_eq ⟨n, hk⟩) (by dsimp only; omega) (by omega))
      (weight_read128 x3 harg3 _ (t := 6) (k0_off93_eq ⟨n, hk⟩) (by dsimp only; omega) (by omega))
      (weight_read128 x3 harg3 _ (t := 7) (k0_off94_eq ⟨n, hk⟩) (by dsimp only; omega) (by omega))
      (weight_read128 x3 harg3 _ (t := 8) (k0_off95_eq ⟨n, hk⟩) (by dsimp only; omega) (by omega))
      (sq_load x2 hX _ (b := 1) (k0_off97_eq ⟨n, hk⟩) (by dsimp only; omega)) s l

end Cert.KernelIdeal.Hand

end
-- ==== Proof.Tile.lean ====
module

public import proofs.«01_k».proof.Proof.NormLoops

@[expose] public section

/-! One output tile: nine products of a copy of the scaled image with one tap's weights, then the two scales. -/

set_option maxRecDepth 16384

noncomputable section

namespace Cert.KernelIdeal.Hand

open Cert.KernelIdeal Cert.KernelIdeal.Gen
open Idealize.ShloMosaic Idealize.ShloMosaic.TcCoe Idealize.ShloMosaic.Tactic

variable (x0 : Vec Ideal S1536x1024 .fp8e4m3) (x1 : Vec Ideal S2 .f32) (x2 : Vec Ideal S2x1024 .f32)
  (x3 : Vec Ideal S9x1024x640 .fp8e4m3) (x4 : Vec Ideal S1x640 .f32)

/-- One row of one copy times one tap's weights: row `q` of image `b`. -/
def dot (k : Fin 3) (t : Fin 9) (b : Fin 2) (q : Fin 768) (n : Fin 640) : EReal :=
  ∑ c : Fin 1024, (taps x0 x1 x2 (ix3 k ⟨768 * b.val + q.val, by omega⟩ c) : EReal) * x3 (ix3 t c n)

/-- The tap one image row up: nothing on the first image row. -/
def up (k : Fin 3) (t : Fin 9) (b : Fin 2) (p : Fin 768) (n : Fin 640) : EReal :=
  if h : p.val < 32 then 0 else dot x0 x1 x2 x3 k t b ⟨p.val - 32, by omega⟩ n

/-- The tap one image row down: nothing on the last image row. -/
def down (k : Fin 3) (t : Fin 9) (b : Fin 2) (p : Fin 768) (n : Fin 640) : EReal :=
  if h : p.val < 736 then dot x0 x1 x2 x3 k t b ⟨p.val + 32, by omega⟩ n else 0

/-- The convolution, tap after tap in the kernel's order. -/
def conv (b : Fin 2) (p : Fin 768) (n : Fin 640) : EReal :=
  up x0 x1 x2 x3 0 0 b p n + dot x0 x1 x2 x3 0 3 b p n + down x0 x1 x2 x3 0 6 b p n
    + up x0 x1 x2 x3 1 1 b p n + dot x0 x1 x2 x3 1 4 b p n + down x0 x1 x2 x3 1 7 b p n
    + up x0 x1 x2 x3 2 2 b p n + dot x0 x1 x2 x3 2 5 b p n + down x0 x1 x2 x3 2 8 b p n

/-- The demodulation factor of image `b` and output channel `n`. -/
def demod (b : Fin 2) (n : Fin 640) : EReal := Ideal.rsqrt (norm x2 x3 x4 b n + Ideal.ofBits .f32 0x322BCC77#32)

/-- The output at pixel `p` of image `b`, output channel `n`. -/
def outAt (b : Fin 2) (p : Fin 768) (n : Fin 640) : EReal :=
  conv x0 x1 x2 x3 b p n * x4 (ix2 0 n) * demod x2 x3 x4 b n

/-- Nine equal terms and two equal scales give equal outputs. -/
theorem nine_congr {a0 a1 a2 a3 a4 a5 a6 a7 a8 s d b0 b1 b2 b3 b4 b5 b6 b7 b8 s' d' : EReal} (h0 : a0 = b0) (h1 : a1 = b1) (h2 : a2 = b2)
    (h3 : a3 = b3) (h4 : a4 = b4) (h5 : a5 = b5) (h6 : a6 = b6) (h7 : a7 = b7) (h8 : a8 = b8) (hs : s = s') (hd : d = d') :
    (a0 + a1 + a2 + a3 + a4 + a5 + a6 + a7 + a8) * s * d = (b0 + b1 + b2 + b3 + b4 + b5 + b6 + b7 + b8) * s' * d' := by
  subst h0 h1 h2 h3 h4 h5 h6 h7 h8 hs hd
  rfl

/-- Rows loaded for the upward term: copy `k` of image `b` from its first row. -/
def UpRows (k : Fin 3) (b : Fin 2) (u : FVec Ideal S1x736x1024 .bf16) : Prop :=
  ∀ (i : Fin 736) (c : Fin 1024), u (ix3 0 i c) = taps x0 x1 x2 (ix3 k ⟨768 * b.val + i.val, by omega⟩ c)

/-- Rows loaded for the middle term: copy `k` of image `b`, all rows. -/
def MidRows (k : Fin 3) (b : Fin 2) (u : FVec Ideal S1x768x1024 .bf16) : Prop :=
  ∀ (i : Fin 768) (c : Fin 1024), u (ix3 0 i c) = taps x0 x1 x2 (ix3 k ⟨768 * b.val + i.val, by omega⟩ c)

/-- Rows loaded for the downward term: copy `k` of image `b` from its second image row. -/
def DownRows (k : Fin 3) (b : Fin 2) (u : FVec Ideal S1x736x1024 .bf16) : Prop :=
  ∀ (i : Fin 736) (c : Fin 1024), u (ix3 0 i c) = taps x0 x1 x2 (ix3 k ⟨768 * b.val + (i.val + 32), by omega⟩ c)

/-- Tap `t`'s weights for 256 output channels from `n0`. -/
def Wts256 (t : Fin 9) (n0 : ℕ) (hn : n0 + 256 ≤ 640) (w : FVec Ideal S1x1024x256 .fp8e4m3) : Prop :=
  ∀ (c : Fin 1024) (l : Fin 256), w (ix3 0 c l) = x3 (ix3 t c ⟨n0 + l.val, by omega⟩)

/-- Tap `t`'s weights for 128 output channels from `n0`. -/
def Wts128 (t : Fin 9) (n0 : ℕ) (hn : n0 + 128 ≤ 640) (w : FVec Ideal S1x1024x128 .fp8e4m3) : Prop :=
  ∀ (c : Fin 1024) (l : Fin 128), w (ix3 0 c l) = x3 (ix3 t c ⟨n0 + l.val, by omega⟩)

/-- The upward term from the loaded rows and weights. -/
theorem up_of256 {k : Fin 3} {t : Fin 9} {b : Fin 2} {n0 : ℕ} (hn : n0 + 256 ≤ 640) {u : FVec Ideal S1x736x1024 .bf16} {w : FVec Ideal S1x1024x256 .fp8e4m3}
    (hu : UpRows x0 x1 x2 k b u)
    (hw : Wts256 x3 t n0 hn w) (p : Fin 768) (l : Fin 256) :
    (if h : p.val < 32 then 0 else ∑ x : Fin 1024, (u (ix3 0 ⟨p.val - 32, by omega⟩ x) : EReal) * w (ix3 0 x l))
      = up x0 x1 x2 x3 k t b p ⟨n0 + l.val, by omega⟩ := by
  unfold up
  split
  · rfl
  · exact Finset.sum_congr rfl fun c _ => congrArg₂ (fun a b : EReal => a * b) (hu _ c) (hw c l)

/-- The middle term from the loaded rows and weights. -/
theorem mid_of256 {k : Fin 3} {t : Fin 9} {b : Fin 2} {n0 : ℕ} (hn : n0 + 256 ≤ 640) {u : FVec Ideal S1x768x1024 .bf16} {w : FVec Ideal S1x1024x256 .fp8e4m3}
    (hu : MidRows x0 x1 x2 k b u)
    (hw : Wts256 x3 t n0 hn w) (p : Fin 768) (l : Fin 256) :
    ∑ x : Fin 1024, (u (ix3 0 p x) : EReal) * w (ix3 0 x l)
      = dot x0 x1 x2 x3 k t b p ⟨n0 + l.val, by omega⟩ :=
  Finset.sum_congr rfl fun c _ => congrArg₂ (fun a b : EReal => a * b) (hu _ c) (hw c l)

/-- The downward term from the loaded rows and weights. -/
theorem down_of256 {k : Fin 3} {t : Fin 9} {b : Fin 2} {n0 : ℕ} (hn : n0 + 256 ≤ 640) {u : FVec Ideal S1x736x1024 .bf16} {w : FVec Ideal S1x1024x256 .fp8e4m3}
    (hu : DownRows x0 x1 x2 k b u)
    (hw : Wts256 x3 t n0 hn w) (p : Fin 768) (l : Fin 256) :
    (if h : p.val < 736 then ∑ x : Fin 1024, (u (ix3 0 ⟨p.val, h⟩ x) : EReal) * w (ix3 0 x l) else 0)
      = down x0 x1 x2 x3 k t b p ⟨n0 + l.val, by omega⟩ := by
  unfold down
  split
  · exact Finset.sum_congr rfl fun c _ => congrArg₂ (fun a b : EReal => a * b) (hu _ c) (hw c l)
  · rfl

/-- The upward term from the loaded rows and weights. -/
theorem up_of128 {k : Fin 3} {t : Fin 9} {b : Fin 2} {n0 : ℕ} (hn : n0 + 128 ≤ 640) {u : FVec Ideal S1x736x1024 .bf16} {w : FVec Ideal S1x1024x128 .fp8e4m3}
    (hu : UpRows x0 x1 x2 k b u)
    (hw : Wts128 x3 t n0 hn w) (p : Fin 768) (l : Fin 128) :
    (if h : p.val < 32 then 0 else ∑ x : Fin 1024, (u (ix3 0 ⟨p.val - 32, by omega⟩ x) : EReal) * w (ix3 0 x l))
      = up x0 x1 x2 x3 k t b p ⟨n0 + l.val, by omega⟩ := by
  unfold up
  split
  · rfl
  · exact Finset.sum_congr rfl fun c _ => congrArg₂ (fun a b : EReal => a * b) (hu _ c) (hw c l)

/-- The middle term from the loaded rows and weights. -/
theorem mid_of128 {k : Fin 3} {t : Fin 9} {b : Fin 2} {n0 : ℕ} (hn : n0 + 128 ≤ 640) {u : FVec Ideal S1x768x1024 .bf16} {w : FVec Ideal S1x1024x128 .fp8e4m3}
    (hu : MidRows x0 x1 x2 k b u)
    (hw : Wts128 x3 t n0 hn w) (p : Fin 768) (l : Fin 128) :
    ∑ x : Fin 1024, (u (ix3 0 p x) : EReal) * w (ix3 0 x l)
      = dot x0 x1 x2 x3 k t b p ⟨n0 + l.val, by omega⟩ :=
  Finset.sum_congr rfl fun c _ => congrArg₂ (fun a b : EReal => a * b) (hu _ c) (hw c l)

/-- The downward term from the loaded rows and weights. -/
theorem down_of128 {k : Fin 3} {t : Fin 9} {b : Fin 2} {n0 : ℕ} (hn : n0 + 128 ≤ 640) {u : FVec Ideal S1x736x1024 .bf16} {w : FVec Ideal S1x1024x128 .fp8e4m3}
    (hu : DownRows x0 x1 x2 k b u)
    (hw : Wts128 x3 t n0 hn w) (p : Fin 768) (l : Fin 128) :
    (if h : p.val < 736 then ∑ x : Fin 1024, (u (ix3 0 ⟨p.val, h⟩ x) : EReal) * w (ix3 0 x l) else 0)
      = down x0 x1 x2 x3 k t b p ⟨n0 + l.val, by omega⟩ := by
  unfold down
  split
  · exact Finset.sum_congr rfl fun c _ => congrArg₂ (fun a b : EReal => a * b) (hu _ c) (hw c l)
  · rfl

/-- The tile of image 0, output channels 0 to 255. -/
theorem tile_0 (b : Fin 2) {n0 : ℕ} (hn : n0 + 256 ≤ 640) {ws d : FVec Ideal S1x256 .f32} {u0 z0 u1 z1 u2 z2 : FVec Ideal S1x736x1024 .bf16} {m0 m1 m2 : FVec Ideal S1x768x1024 .bf16}
    {w0 w1 w2 w3 w4 w5 w6 w7 w8 : FVec Ideal S1x1024x256 .fp8e4m3}
    (hu0 : UpRows x0 x1 x2 0 b u0) (hm0 : MidRows x0 x1 x2 0 b m0) (hz0 : DownRows x0 x1 x2 0 b z0)
    (hu1 : UpRows x0 x1 x2 1 b u1) (hm1 : MidRows x0 x1 x2 1 b m1) (hz1 : DownRows x0 x1 x2 1 b z1)
    (hu2 : UpRows x0 x1 x2 2 b u2) (hm2 : MidRows x0 x1 x2 2 b m2) (hz2 : DownRows x0 x1 x2 2 b z2)
    (hw0 : Wts256 x3 0 n0 hn w0)
    (hw1 : Wts256 x3 1 n0 hn w1)
    (hw2 : Wts256 x3 2 n0 hn w2)
    (hw3 : Wts256 x3 3 n0 hn w3)
    (hw4 : Wts256 x3 4 n0 hn w4)
    (hw5 : Wts256 x3 5 n0 hn w5)
    (hw6 : Wts256 x3 6 n0 hn w6)
    (hw7 : Wts256 x3 7 n0 hn w7)
    (hw8 : Wts256 x3 8 n0 hn w8)
    (hs : ∀ l : Fin 256, ws (ix2 0 l) = x4 (ix2 0 ⟨n0 + l.val, by omega⟩))
    (hd : ∀ l : Fin 256, d (ix2 0 l) = demod x2 x3 x4 b ⟨n0 + l.val, by omega⟩) (p : Fin 768) (l : Fin 256) :
    k0_pay150 (F := Ideal) ws d (k0_pay149 (F := Ideal) (k0_pay147 (F := Ideal) u0 w0 m0 w3 z0 w6) (k0_pay148 (F := Ideal) u1) w1 m1 w4 z1 w7 u2 w2) m2 w5 z2 w8 (ix2 p l) = outAt x0 x1 x2 x3 x4 b p ⟨n0 + l.val, by omega⟩ := by
  pointwise [k0_pay150, k0_pay149, k0_pay148, k0_pay147]
  exact nine_congr (up_of256 x0 x1 x2 x3 hn hu0 hw0 p l) (mid_of256 x0 x1 x2 x3 hn hm0 hw3 p l) (down_of256 x0 x1 x2 x3 hn hz0 hw6 p l) (up_of256 x0 x1 x2 x3 hn hu1 hw1 p l) (mid_of256 x0 x1 x2 x3 hn hm1 hw4 p l) (down_of256 x0 x1 x2 x3 hn hz1 hw7 p l) (up_of256 x0 x1 x2 x3 hn hu2 hw2 p l) (mid_of256 x0 x1 x2 x3 hn hm2 hw5 p l) (down_of256 x0 x1 x2 x3 hn hz2 hw8 p l) (hs l) (hd l)

/-- The tile of image 1, output channels 0 to 255. -/
theorem tile_1 (b : Fin 2) {n0 : ℕ} (hn : n0 + 256 ≤ 640) {ws d : FVec Ideal S1x256 .f32} {u0 z0 u1 z1 u2 z2 : FVec Ideal S1x736x1024 .bf16} {m0 m1 m2 : FVec Ideal S1x768x1024 .bf16}
    {w0 w1 w2 w3 w4 w5 w6 w7 w8 : FVec Ideal S1x1024x256 .fp8e4m3}
    (hu0 : UpRows x0 x1 x2 0 b u0) (hm0 : MidRows x0 x1 x2 0 b m0) (hz0 : DownRows x0 x1 x2 0 b z0)
    (hu1 : UpRows x0 x1 x2 1 b u1) (hm1 : MidRows x0 x1 x2 1 b m1) (hz1 : DownRows x0 x1 x2 1 b z1)
    (hu2 : UpRows x0 x1 x2 2 b u2) (hm2 : MidRows x0 x1 x2 2 b m2) (hz2 : DownRows x0 x1 x2 2 b z2)
    (hw0 : Wts256 x3 0 n0 hn w0)
    (hw1 : Wts256 x3 1 n0 hn w1)
    (hw2 : Wts256 x3 2 n0 hn w2)
    (hw3 : Wts256 x3 3 n0 hn w3)
    (hw4 : Wts256 x3 4 n0 hn w4)
    (hw5 : Wts256 x3 5 n0 hn w5)
    (hw6 : Wts256 x3 6 n0 hn w6)
    (hw7 : Wts256 x3 7 n0 hn w7)
    (hw8 : Wts256 x3 8 n0 hn w8)
    (hs : ∀ l : Fin 256, ws (ix2 0 l) = x4 (ix2 0 ⟨n0 + l.val, by omega⟩))
    (hd : ∀ l : Fin 256, d (ix2 0 l) = demod x2 x3 x4 b ⟨n0 + l.val, by omega⟩) (p : Fin 768) (l : Fin 256) :
    k0_pay156 (F := Ideal) ws d (k0_pay155 (F := Ideal) (k0_pay154 (F := Ideal) (k0_pay153 (F := Ideal) u0) w0 m0 w3 z0 w6 u1 w1) m1 w4 z1 w7 u2 w2 m2 w5) z2 w8 (ix2 p l) = outAt x0 x1 x2 x3 x4 b p ⟨n0 + l.val, by omega⟩ := by
  pointwise [k0_pay156, k0_pay155, k0_pay154, k0_pay153]
  exact nine_congr (up_of256 x0 x1 x2 x3 hn hu0 hw0 p l) (mid_of256 x0 x1 x2 x3 hn hm0 hw3 p l) (down_of256 x0 x1 x2 x3 hn hz0 hw6 p l) (up_of256 x0 x1 x2 x3 hn hu1 hw1 p l) (mid_of256 x0 x1 x2 x3 hn hm1 hw4 p l) (down_of256 x0 x1 x2 x3 hn hz1 hw7 p l) (up_of256 x0 x1 x2 x3 hn hu2 hw2 p l) (mid_of256 x0 x1 x2 x3 hn hm2 hw5 p l) (down_of256 x0 x1 x2 x3 hn hz2 hw8 p l) (hs l) (hd l)

/-- The tile of image 0, output channels 256 to 511. -/
theorem tile_2 (b : Fin 2) {n0 : ℕ} (hn : n0 + 256 ≤ 640) {ws d : FVec Ideal S1x256 .f32} {u0 z0 u1 z1 u2 z2 : FVec Ideal S1x736x1024 .bf16} {m0 m1 m2 : FVec Ideal S1x768x1024 .bf16}
    {w0 w1 w2 w3 w4 w5 w6 w7 w8 : FVec Ideal S1x1024x256 .fp8e4m3}
    (hu0 : UpRows x0 x1 x2 0 b u0) (hm0 : MidRows x0 x1 x2 0 b m0) (hz0 : DownRows x0 x1 x2 0 b z0)
    (hu1 : UpRows x0 x1 x2 1 b u1) (hm1 : MidRows x0 x1 x2 1 b m1) (hz1 : DownRows x0 x1 x2 1 b z1)
    (hu2 : UpRows x0 x1 x2 2 b u2) (hm2 : MidRows x0 x1 x2 2 b m2) (hz2 : DownRows x0 x1 x2 2 b z2)
    (hw0 : Wts256 x3 0 n0 hn w0)
    (hw1 : Wts256 x3 1 n0 hn w1)
    (hw2 : Wts256 x3 2 n0 hn w2)
    (hw3 : Wts256 x3 3 n0 hn w3)
    (hw4 : Wts256 x3 4 n0 hn w4)
    (hw5 : Wts256 x3 5 n0 hn w5)
    (hw6 : Wts256 x3 6 n0 hn w6)
    (hw7 : Wts256 x3 7 n0 hn w7)
    (hw8 : Wts256 x3 8 n0 hn w8)
    (hs : ∀ l : Fin 256, ws (ix2 0 l) = x4 (ix2 0 ⟨n0 + l.val, by omega⟩))
    (hd : ∀ l : Fin 256, d (ix2 0 l) = demod x2 x3 x4 b ⟨n0 + l.val, by omega⟩) (p : Fin 768) (l : Fin 256) :
    k0_pay169 (F := Ideal) ws d (k0_pay168 (F := Ideal) (k0_pay166 (F := Ideal) (k0_pay165 (F := Ideal) u0) w0 m0 w3 z0 w6 u1 w1) (k0_pay167 (F := Ideal) m1) w4 z1 w7 u2 w2 m2 w5) z2 w8 (ix2 p l) = outAt x0 x1 x2 x3 x4 b p ⟨n0 + l.val, by omega⟩ := by
  pointwise [k0_pay169, k0_pay168, k0_pay167, k0_pay166, k0_pay165]
  exact nine_congr (up_of256 x0 x1 x2 x3 hn hu0 hw0 p l) (mid_of256 x0 x1 x2 x3 hn hm0 hw3 p l) (down_of256 x0 x1 x2 x3 hn hz0 hw6 p l) (up_of256 x0 x1 x2 x3 hn hu1 hw1 p l) (mid_of256 x0 x1 x2 x3 hn hm1 hw4 p l) (down_of256 x0 x1 x2 x3 hn hz1 hw7 p l) (up_of256 x0 x1 x2 x3 hn hu2 hw2 p l) (mid_of256 x0 x1 x2 x3 hn hm2 hw5 p l) (down_of256 x0 x1 x2 x3 hn hz2 hw8 p l) (hs l) (hd l)

/-- The tile of image 1, output channels 256 to 511. -/
theorem tile_3 (b : Fin 2) {n0 : ℕ} (hn : n0 + 256 ≤ 640) {ws d : FVec Ideal S1x256 .f32} {u0 z0 u1 z1 u2 z2 : FVec Ideal S1x736x1024 .bf16} {m0 m1 m2 : FVec Ideal S1x768x1024 .bf16}
    {w0 w1 w2 w3 w4 w5 w6 w7 w8 : FVec Ideal S1x1024x256 .fp8e4m3}
    (hu0 : UpRows x0 x1 x2 0 b u0) (hm0 : MidRows x0 x1 x2 0 b m0) (hz0 : DownRows x0 x1 x2 0 b z0)
    (hu1 : UpRows x0 x1 x2 1 b u1) (hm1 : MidRows x0 x1 x2 1 b m1) (hz1 : DownRows x0 x1 x2 1 b z1)
    (hu2 : UpRows x0 x1 x2 2 b u2) (hm2 : MidRows x0 x1 x2 2 b m2) (hz2 : DownRows x0 x1 x2 2 b z2)
    (hw0 : Wts256 x3 0 n0 hn w0)
    (hw1 : Wts256 x3 1 n0 hn w1)
    (hw2 : Wts256 x3 2 n0 hn w2)
    (hw3 : Wts256 x3 3 n0 hn w3)
    (hw4 : Wts256 x3 4 n0 hn w4)
    (hw5 : Wts256 x3 5 n0 hn w5)
    (hw6 : Wts256 x3 6 n0 hn w6)
    (hw7 : Wts256 x3 7 n0 hn w7)
    (hw8 : Wts256 x3 8 n0 hn w8)
    (hs : ∀ l : Fin 256, ws (ix2 0 l) = x4 (ix2 0 ⟨n0 + l.val, by omega⟩))
    (hd : ∀ l : Fin 256, d (ix2 0 l) = demod x2 x3 x4 b ⟨n0 + l.val, by omega⟩) (p : Fin 768) (l : Fin 256) :
    k0_pay178 (F := Ideal) d (k0_pay176 (F := Ideal) (k0_pay174 (F := Ideal) (k0_pay172 (F := Ideal) u0 w0) (k0_pay173 (F := Ideal) m0) w3 z0 w6 u1 w1 m1 w4) (k0_pay175 (F := Ideal) z1) w7 u2 w2 m2 w5 z2 w8) (k0_pay177 (F := Ideal) ws) (ix2 p l) = outAt x0 x1 x2 x3 x4 b p ⟨n0 + l.val, by omega⟩ := by
  pointwise [k0_pay178, k0_pay177, k0_pay176, k0_pay175, k0_pay174, k0_pay173, k0_pay172]
  exact nine_congr (up_of256 x0 x1 x2 x3 hn hu0 hw0 p l) (mid_of256 x0 x1 x2 x3 hn hm0 hw3 p l) (down_of256 x0 x1 x2 x3 hn hz0 hw6 p l) (up_of256 x0 x1 x2 x3 hn hu1 hw1 p l) (mid_of256 x0 x1 x2 x3 hn hm1 hw4 p l) (down_of256 x0 x1 x2 x3 hn hz1 hw7 p l) (up_of256 x0 x1 x2 x3 hn hu2 hw2 p l) (mid_of256 x0 x1 x2 x3 hn hm2 hw5 p l) (down_of256 x0 x1 x2 x3 hn hz2 hw8 p l) (hs l) (hd l)

/-- The tile of image 0, output channels 512 to 639. -/
theorem tile_4 (b : Fin 2) {n0 : ℕ} (hn : n0 + 128 ≤ 640) {ws d : FVec Ideal S1x128 .f32} {u0 z0 u1 z1 u2 z2 : FVec Ideal S1x736x1024 .bf16} {m0 m1 m2 : FVec Ideal S1x768x1024 .bf16}
    {w0 w1 w2 w3 w4 w5 w6 w7 w8 : FVec Ideal S1x1024x128 .fp8e4m3}
    (hu0 : UpRows x0 x1 x2 0 b u0) (hm0 : MidRows x0 x1 x2 0 b m0) (hz0 : DownRows x0 x1 x2 0 b z0)
    (hu1 : UpRows x0 x1 x2 1 b u1) (hm1 : MidRows x0 x1 x2 1 b m1) (hz1 : DownRows x0 x1 x2 1 b z1)
    (hu2 : UpRows x0 x1 x2 2 b u2) (hm2 : MidRows x0 x1 x2 2 b m2) (hz2 : DownRows x0 x1 x2 2 b z2)
    (hw0 : Wts128 x3 0 n0 hn w0)
    (hw1 : Wts128 x3 1 n0 hn w1)
    (hw2 : Wts128 x3 2 n0 hn w2)
    (hw3 : Wts128 x3 3 n0 hn w3)
    (hw4 : Wts128 x3 4 n0 hn w4)
    (hw5 : Wts128 x3 5 n0 hn w5)
    (hw6 : Wts128 x3 6 n0 hn w6)
    (hw7 : Wts128 x3 7 n0 hn w7)
    (hw8 : Wts128 x3 8 n0 hn w8)
    (hs : ∀ l : Fin 128, ws (ix2 0 l) = x4 (ix2 0 ⟨n0 + l.val, by omega⟩))
    (hd : ∀ l : Fin 128, d (ix2 0 l) = demod x2 x3 x4 b ⟨n0 + l.val, by omega⟩) (p : Fin 768) (l : Fin 128) :
    k0_pay192 (F := Ideal) d (k0_pay191 (F := Ideal) ws (k0_pay189 (F := Ideal) (k0_pay187 (F := Ideal) u0 w0) (k0_pay188 (F := Ideal) m0) w3 z0 w6 u1 w1 m1 w4) (k0_pay190 (F := Ideal) z1) w7 u2 w2 m2 w5 z2 w8) (ix2 p l) = outAt x0 x1 x2 x3 x4 b p ⟨n0 + l.val, by omega⟩ := by
  pointwise [k0_pay192, k0_pay191, k0_pay190, k0_pay189, k0_pay188, k0_pay187]
  exact nine_congr (up_of128 x0 x1 x2 x3 hn hu0 hw0 p l) (mid_of128 x0 x1 x2 x3 hn hm0 hw3 p l) (down_of128 x0 x1 x2 x3 hn hz0 hw6 p l) (up_of128 x0 x1 x2 x3 hn hu1 hw1 p l) (mid_of128 x0 x1 x2 x3 hn hm1 hw4 p l) (down_of128 x0 x1 x2 x3 hn hz1 hw7 p l) (up_of128 x0 x1 x2 x3 hn hu2 hw2 p l) (mid_of128 x0 x1 x2 x3 hn hm2 hw5 p l) (down_of128 x0 x1 x2 x3 hn hz2 hw8 p l) (hs l) (hd l)

/-- The tile of image 1, output channels 512 to 639. -/
theorem tile_5 (b : Fin 2) {n0 : ℕ} (hn : n0 + 128 ≤ 640) {ws d : FVec Ideal S1x128 .f32} {u0 z0 u1 z1 u2 z2 : FVec Ideal S1x736x1024 .bf16} {m0 m1 m2 : FVec Ideal S1x768x1024 .bf16}
    {w0 w1 w2 w3 w4 w5 w6 w7 w8 : FVec Ideal S1x1024x128 .fp8e4m3}
    (hu0 : UpRows x0 x1 x2 0 b u0) (hm0 : MidRows x0 x1 x2 0 b m0) (hz0 : DownRows x0 x1 x2 0 b z0)
    (hu1 : UpRows x0 x1 x2 1 b u1) (hm1 : MidRows x0 x1 x2 1 b m1) (hz1 : DownRows x0 x1 x2 1 b z1)
    (hu2 : UpRows x0 x1 x2 2 b u2) (hm2 : MidRows x0 x1 x2 2 b m2) (hz2 : DownRows x0 x1 x2 2 b z2)
    (hw0 : Wts128 x3 0 n0 hn w0)
    (hw1 : Wts128 x3 1 n0 hn w1)
    (hw2 : Wts128 x3 2 n0 hn w2)
    (hw3 : Wts128 x3 3 n0 hn w3)
    (hw4 : Wts128 x3 4 n0 hn w4)
    (hw5 : Wts128 x3 5 n0 hn w5)
    (hw6 : Wts128 x3 6 n0 hn w6)
    (hw7 : Wts128 x3 7 n0 hn w7)
    (hw8 : Wts128 x3 8 n0 hn w8)
    (hs : ∀ l : Fin 128, ws (ix2 0 l) = x4 (ix2 0 ⟨n0 + l.val, by omega⟩))
    (hd : ∀ l : Fin 128, d (ix2 0 l) = demod x2 x3 x4 b ⟨n0 + l.val, by omega⟩) (p : Fin 768) (l : Fin 128) :
    k0_pay1 (F := Ideal) ws d (k0_pay200 (F := Ideal) (k0_pay198 (F := Ideal) (k0_pay195 (F := Ideal) u0 w0 m0 w3) (k0_pay196 (F := Ideal) z0) (k0_pay197 (F := Ideal) w6) u1 w1 m1 w4 z1 w7) (k0_pay199 (F := Ideal) u2) w2 m2 w5) (k0_pay201 (F := Ideal) z2) (k0_pay202 (F := Ideal) w8) (ix2 p l) = outAt x0 x1 x2 x3 x4 b p ⟨n0 + l.val, by omega⟩ := by
  pointwise [k0_pay1, k0_pay195, k0_pay196, k0_pay197, k0_pay198, k0_pay199, k0_pay200, k0_pay201, k0_pay202]
  exact nine_congr (up_of128 x0 x1 x2 x3 hn hu0 hw0 p l) (mid_of128 x0 x1 x2 x3 hn hm0 hw3 p l) (down_of128 x0 x1 x2 x3 hn hz0 hw6 p l) (up_of128 x0 x1 x2 x3 hn hu1 hw1 p l) (mid_of128 x0 x1 x2 x3 hn hm1 hw4 p l) (down_of128 x0 x1 x2 x3 hn hz1 hw7 p l) (up_of128 x0 x1 x2 x3 hn hu2 hw2 p l) (mid_of128 x0 x1 x2 x3 hn hm2 hw5 p l) (down_of128 x0 x1 x2 x3 hn hz2 hw8 p l) (hs l) (hd l)

end Cert.KernelIdeal.Hand

end
-- ==== Proof.Loads.lean ====
module

public import proofs.«01_k».proof.Proof.Tile

@[expose] public section

/-! The loads the tiles and the norms are made of, and the norms and factors from the loops' partial sums. -/

set_option maxRecDepth 16384

noncomputable section

namespace Cert.KernelIdeal.Hand

open Cert.KernelIdeal Cert.KernelIdeal.Gen
open Idealize.ShloMosaic Idealize.ShloMosaic.TcCoe Idealize.ShloMosaic.Tactic

variable (x0 : Vec Ideal S1536x1024 .fp8e4m3) (x1 : Vec Ideal S2 .f32) (x2 : Vec Ideal S2x1024 .f32)
  (x3 : Vec Ideal S9x1024x640 .fp8e4m3) (x4 : Vec Ideal S1x640 .f32)

/-- A tile of the copies, read from the scratch array: 736 rows. -/
theorem copy_load736 {m : Memref sig .tc .vmem S3x1536x1024 .bf16} {X : BufTy.Contents (Elt Ideal) m.view.ty}
    (hX : m.view.read (Elt Ideal) X = taps x0 x1 x2) {o : Fin 3 → ℕ} (inb) {k : Fin 3} {r : ℕ}
    (ho : o = ![k.val, r, 0]) (hr : r + 736 ≤ 1536) (i : Fin 736) (c : Fin 1024) :
    View.readAt (Elt Ideal) m.view (Rect.unit (s := S3x1536x1024) o S1x736x1024.size inb).toLoadRect X (ix3 0 i c)
      = taps x0 x1 x2 (ix3 k ⟨r + i.val, by omega⟩ c) := by
  subst ho
  rw [show View.readAt (Elt Ideal) m.view (Rect.unit (s := S3x1536x1024) ![k.val, r, 0] S1x736x1024.size inb).toLoadRect X (ix3 0 i c)
    = m.view.read (Elt Ideal) X ((Rect.unit (s := S3x1536x1024) ![k.val, r, 0] S1x736x1024.size inb).toLoadRect.idx (ix3 0 i c)) from rfl, hX]
  pointwise

/-- A tile of the copies, read from the scratch array: 768 rows. -/
theorem copy_load768 {m : Memref sig .tc .vmem S3x1536x1024 .bf16} {X : BufTy.Contents (Elt Ideal) m.view.ty}
    (hX : m.view.read (Elt Ideal) X = taps x0 x1 x2) {o : Fin 3 → ℕ} (inb) {k : Fin 3} {r : ℕ}
    (ho : o = ![k.val, r, 0]) (hr : r + 768 ≤ 1536) (i : Fin 768) (c : Fin 1024) :
    View.readAt (Elt Ideal) m.view (Rect.unit (s := S3x1536x1024) o S1x768x1024.size inb).toLoadRect X (ix3 0 i c)
      = taps x0 x1 x2 (ix3 k ⟨r + i.val, by omega⟩ c) := by
  subst ho
  rw [show View.readAt (Elt Ideal) m.view (Rect.unit (s := S3x1536x1024) ![k.val, r, 0] S1x768x1024.size inb).toLoadRect X (ix3 0 i c)
    = m.view.read (Elt Ideal) X ((Rect.unit (s := S3x1536x1024) ![k.val, r, 0] S1x768x1024.size inb).toLoadRect.idx (ix3 0 i c)) from rfl, hX]
  pointwise

/-- The rows loaded for an upward term. -/
theorem up_rows {m : Memref sig .tc .vmem S3x1536x1024 .bf16} {X : BufTy.Contents (Elt Ideal) m.view.ty}
    (hX : m.view.read (Elt Ideal) X = taps x0 x1 x2) (k : Fin 3) (b : Fin 2) {o : Fin 3 → ℕ} (inb) (ho : o = ![k.val, 768 * b.val, 0]) :
    UpRows x0 x1 x2 k b (View.readAt (Elt Ideal) m.view (Rect.unit (s := S3x1536x1024) o S1x736x1024.size inb).toLoadRect X) :=
  fun i c => copy_load736 x0 x1 x2 hX inb ho (by omega) i c

/-- The rows loaded for a middle term. -/
theorem mid_rows {m : Memref sig .tc .vmem S3x1536x1024 .bf16} {X : BufTy.Contents (Elt Ideal) m.view.ty}
    (hX : m.view.read (Elt Ideal) X = taps x0 x1 x2) (k : Fin 3) (b : Fin 2) {o : Fin 3 → ℕ} (inb) (ho : o = ![k.val, 768 * b.val, 0]) :
    MidRows x0 x1 x2 k b (View.readAt (Elt Ideal) m.view (Rect.unit (s := S3x1536x1024) o S1x768x1024.size inb).toLoadRect X) :=
  fun i c => copy_load768 x0 x1 x2 hX inb ho (by omega) i c

/-- The rows loaded for a downward term. -/
theorem down_rows {m : Memref sig .tc .vmem S3x1536x1024 .bf16} {X : BufTy.Contents (Elt Ideal) m.view.ty}
    (hX : m.view.read (Elt Ideal) X = taps x0 x1 x2) (k : Fin 3) (b : Fin 2) {o : Fin 3 → ℕ} (inb) (ho : o = ![k.val, 768 * b.val + 32, 0]) :
    DownRows x0 x1 x2 k b (View.readAt (Elt Ideal) m.view (Rect.unit (s := S3x1536x1024) o S1x736x1024.size inb).toLoadRect X) := by
  intro i c
  rw [copy_load736 x0 x1 x2 hX inb ho (by omega) i c,
    show (⟨768 * b.val + 32 + i.val, by omega⟩ : Fin 1536) = ⟨768 * b.val + (i.val + 32), by omega⟩ from Fin.ext (by dsimp only; omega)]

/-- One tap's weights, 256 output channels wide. -/
theorem wts256_load {m : Memref sig .tc .vmem S9x1024x640 .fp8e4m3} (hm : m.IsWhole) (t : Fin 9) {n0 : ℕ} (hn : n0 + 256 ≤ 640) {o : Fin 3 → ℕ} (inb)
    (ho : o = ![t.val, 0, n0]) :
    Wts256 x3 t n0 hn (View.readAt (Elt Ideal) m.view (Rect.unit (s := S9x1024x640) o S1x1024x256.size inb).toLoadRect (hm.unread x3)) := by
  intro c l
  subst ho
  rw [hm.readAt_unread]
  pointwise

/-- A row of 256 scales from `n0`. -/
def Scale256 (n0 : ℕ) (hn : n0 + 256 ≤ 640) (w : FVec Ideal S1x256 .f32) : Prop :=
  ∀ l : Fin 256, w (ix2 0 l) = x4 (ix2 0 ⟨n0 + l.val, by omega⟩)

/-- The scales as loaded. -/
theorem scale256_load {m : Memref sig .tc .vmem S1x640 .f32} (hm : m.IsWhole) {n0 : ℕ} (hn : n0 + 256 ≤ 640) (inb) :
    Scale256 x4 n0 hn (View.readAt (Elt Ideal) m.view (Rect.unit (s := S1x640) ![0, n0] S1x256.size inb).toLoadRect (hm.unread x4)) := by
  intro l
  rw [hm.readAt_unread]
  pointwise

/-- The eight partial sums of image `b` for 256 output channels from `n0`. -/
def Acc256 (b : Fin 2) (n0 : ℕ) (hn : n0 + 256 ≤ 640) (acc : FVec Ideal S8x256 .f32) : Prop :=
  ∀ (s : Fin 8) (l : Fin 256), acc (ix2 s l)
    = ∑ g ∈ Finset.range 32, ∑ i : Fin 4, partN x2 x3 b ⟨n0 + l.val, by omega⟩ (32 * g + (i.val * 8 + s.val))

/-- The norm from the partial sums and the scales. -/
theorem norm_eq256 {b : Fin 2} {n0 : ℕ} {hn : n0 + 256 ≤ 640} {acc : FVec Ideal S8x256 .f32} {w : FVec Ideal S1x256 .f32}
    (ha : Acc256 x2 x3 b n0 hn acc) (hw : Scale256 x4 n0 hn w) (l : Fin 256) :
    (∑ s : Fin 8, acc (ix2 s l)) * w (ix2 0 l) * w (ix2 0 l) = norm x2 x3 x4 b ⟨n0 + l.val, by omega⟩ := by
  have e : ∑ s : Fin 8, acc (ix2 s l) = ∑ d : Fin 1024, part x2 x3 b ⟨n0 + l.val, by omega⟩ d :=
    (Finset.sum_congr rfl fun s _ => ha s l).trans (sum_part x2 x3 b ⟨n0 + l.val, by omega⟩)
  rw [e, hw l]
  rfl

/-- The scales, reshaped to themselves. -/
theorem scale256_id144 {n0 : ℕ} {hn : n0 + 256 ≤ 640} {w : FVec Ideal S1x256 .f32} (hw : Scale256 x4 n0 hn w) :
    Scale256 x4 n0 hn (k0_pay144 (F := Ideal) w) := by
  intro l
  have e : k0_pay144 (F := Ideal) w (ix2 0 l) = w (ix2 0 l) := by pointwise [k0_pay144]
  exact e.trans (hw l)

/-- The scales, reshaped to themselves. -/
theorem scale256_id162 {n0 : ℕ} {hn : n0 + 256 ≤ 640} {w : FVec Ideal S1x256 .f32} (hw : Scale256 x4 n0 hn w) :
    Scale256 x4 n0 hn (k0_pay162 (F := Ideal) w) := by
  intro l
  have e : k0_pay162 (F := Ideal) w (ix2 0 l) = w (ix2 0 l) := by pointwise [k0_pay162]
  exact e.trans (hw l)

/-- The norms stored by payload 145. -/
theorem sig145 {b : Fin 2} {n0 : ℕ} {hn : n0 + 256 ≤ 640} {acc : FVec Ideal S8x256 .f32} {w : FVec Ideal S1x256 .f32}
    (ha : Acc256 x2 x3 b n0 hn acc) (hw : Scale256 x4 n0 hn w) (l : Fin 256) :
    k0_pay145 (F := Ideal) acc w (ix2 0 l) = norm x2 x3 x4 b ⟨n0 + l.val, by omega⟩ := by
  have e : k0_pay145 (F := Ideal) acc w (ix2 0 l) = (∑ s : Fin 8, acc (ix2 s l)) * w (ix2 0 l) * w (ix2 0 l) := by
    pointwise [k0_pay145, k0_pay151, k0_pay163, k0_pay170, k0_pay146, k0_pay152, k0_pay164, k0_pay171, k0_pay144, k0_pay162]
  exact e.trans (norm_eq256 x2 x3 x4 ha hw l)

/-- The norms stored by payload 151. -/
theorem sig151 {b : Fin 2} {n0 : ℕ} {hn : n0 + 256 ≤ 640} {acc : FVec Ideal S8x256 .f32} {w : FVec Ideal S1x256 .f32}
    (ha : Acc256 x2 x3 b n0 hn acc) (hw : Scale256 x4 n0 hn w) (l : Fin 256) :
    k0_pay151 (F := Ideal) acc w (ix2 0 l) = norm x2 x3 x4 b ⟨n0 + l.val, by omega⟩ := by
  have e : k0_pay151 (F := Ideal) acc w (ix2 0 l) = (∑ s : Fin 8, acc (ix2 s l)) * w (ix2 0 l) * w (ix2 0 l) := by
    pointwise [k0_pay145, k0_pay151, k0_pay163, k0_pay170, k0_pay146, k0_pay152, k0_pay164, k0_pay171, k0_pay144, k0_pay162]
  exact e.trans (norm_eq256 x2 x3 x4 ha hw l)

/-- The norms stored by payload 163. -/
theorem sig163 {b : Fin 2} {n0 : ℕ} {hn : n0 + 256 ≤ 640} {acc : FVec Ideal S8x256 .f32} {w : FVec Ideal S1x256 .f32}
    (ha : Acc256 x2 x3 b n0 hn acc) (hw : Scale256 x4 n0 hn w) (l : Fin 256) :
    k0_pay163 (F := Ideal) acc w (ix2 0 l) = norm x2 x3 x4 b ⟨n0 + l.val, by omega⟩ := by
  have e : k0_pay163 (F := Ideal) acc w (ix2 0 l) = (∑ s : Fin 8, acc (ix2 s l)) * w (ix2 0 l) * w (ix2 0 l) := by
    pointwise [k0_pay145, k0_pay151, k0_pay163, k0_pay170, k0_pay146, k0_pay152, k0_pay164, k0_pay171, k0_pay144, k0_pay162]
  exact e.trans (norm_eq256 x2 x3 x4 ha hw l)

/-- The norms stored by payload 170. -/
theorem sig170 {b : Fin 2} {n0 : ℕ} {hn : n0 + 256 ≤ 640} {acc : FVec Ideal S8x256 .f32} {w : FVec Ideal S1x256 .f32}
    (ha : Acc256 x2 x3 b n0 hn acc) (hw : Scale256 x4 n0 hn w) (l : Fin 256) :
    k0_pay170 (F := Ideal) acc w (ix2 0 l) = norm x2 x3 x4 b ⟨n0 + l.val, by omega⟩ := by
  have e : k0_pay170 (F := Ideal) acc w (ix2 0 l) = (∑ s : Fin 8, acc (ix2 s l)) * w (ix2 0 l) * w (ix2 0 l) := by
    pointwise [k0_pay145, k0_pay151, k0_pay163, k0_pay170, k0_pay146, k0_pay152, k0_pay164, k0_pay171, k0_pay144, k0_pay162]
  exact e.trans (norm_eq256 x2 x3 x4 ha hw l)

/-- The factors computed by payload 146. -/
theorem dem146 {b : Fin 2} {n0 : ℕ} {hn : n0 + 256 ≤ 640} {acc : FVec Ideal S8x256 .f32} {w : FVec Ideal S1x256 .f32}
    (ha : Acc256 x2 x3 b n0 hn acc) (hw : Scale256 x4 n0 hn w) (l : Fin 256) :
    k0_pay146 (F := Ideal) (k0_pay145 (F := Ideal) acc w) (ix2 0 l) = demod x2 x3 x4 b ⟨n0 + l.val, by omega⟩ := by
  have e : k0_pay146 (F := Ideal) (k0_pay145 (F := Ideal) acc w) (ix2 0 l)
      = Ideal.rsqrt ((∑ s : Fin 8, acc (ix2 s l)) * w (ix2 0 l) * w (ix2 0 l) + Ideal.ofBits .f32 0x322BCC77#32) := by
    pointwise [k0_pay145, k0_pay151, k0_pay163, k0_pay170, k0_pay146, k0_pay152, k0_pay164, k0_pay171, k0_pay144, k0_pay162]
  rw [e, norm_eq256 x2 x3 x4 ha hw l]
  rfl

/-- The factors computed by payload 152. -/
theorem dem152 {b : Fin 2} {n0 : ℕ} {hn : n0 + 256 ≤ 640} {acc : FVec Ideal S8x256 .f32} {w : FVec Ideal S1x256 .f32}
    (ha : Acc256 x2 x3 b n0 hn acc) (hw : Scale256 x4 n0 hn w) (l : Fin 256) :
    k0_pay152 (F := Ideal) acc w (ix2 0 l) = demod x2 x3 x4 b ⟨n0 + l.val, by omega⟩ := by
  have e : k0_pay152 (F := Ideal) acc w (ix2 0 l)
      = Ideal.rsqrt ((∑ s : Fin 8, acc (ix2 s l)) * w (ix2 0 l) * w (ix2 0 l) + Ideal.ofBits .f32 0x322BCC77#32) := by
    pointwise [k0_pay145, k0_pay151, k0_pay163, k0_pay170, k0_pay146, k0_pay152, k0_pay164, k0_pay171, k0_pay144, k0_pay162]
  rw [e, norm_eq256 x2 x3 x4 ha hw l]
  rfl

/-- The factors computed by payload 164. -/
theorem dem164 {b : Fin 2} {n0 : ℕ} {hn : n0 + 256 ≤ 640} {acc : FVec Ideal S8x256 .f32} {w : FVec Ideal S1x256 .f32}
    (ha : Acc256 x2 x3 b n0 hn acc) (hw : Scale256 x4 n0 hn w) (l : Fin 256) :
    k0_pay164 (F := Ideal) acc w (ix2 0 l) = demod x2 x3 x4 b ⟨n0 + l.val, by omega⟩ := by
  have e : k0_pay164 (F := Ideal) acc w (ix2 0 l)
      = Ideal.rsqrt ((∑ s : Fin 8, acc (ix2 s l)) * w (ix2 0 l) * w (ix2 0 l) + Ideal.ofBits .f32 0x322BCC77#32) := by
    pointwise [k0_pay145, k0_pay151, k0_pay163, k0_pay170, k0_pay146, k0_pay152, k0_pay164, k0_pay171, k0_pay144, k0_pay162]
  rw [e, norm_eq256 x2 x3 x4 ha hw l]
  rfl

/-- The factors computed by payload 171. -/
theorem dem171 {b : Fin 2} {n0 : ℕ} {hn : n0 + 256 ≤ 640} {acc : FVec Ideal S8x256 .f32} {w : FVec Ideal S1x256 .f32}
    (ha : Acc256 x2 x3 b n0 hn acc) (hw : Scale256 x4 n0 hn w) (l : Fin 256) :
    k0_pay171 (F := Ideal) acc w (ix2 0 l) = demod x2 x3 x4 b ⟨n0 + l.val, by omega⟩ := by
  have e : k0_pay171 (F := Ideal) acc w (ix2 0 l)
      = Ideal.rsqrt ((∑ s : Fin 8, acc (ix2 s l)) * w (ix2 0 l) * w (ix2 0 l) + Ideal.ofBits .f32 0x322BCC77#32) := by
    pointwise [k0_pay145, k0_pay151, k0_pay163, k0_pay170, k0_pay146, k0_pay152, k0_pay164, k0_pay171, k0_pay144, k0_pay162]
  rw [e, norm_eq256 x2 x3 x4 ha hw l]
  rfl

/-- One tap's weights, 128 output channels wide. -/
theorem wts128_load {m : Memref sig .tc .vmem S9x1024x640 .fp8e4m3} (hm : m.IsWhole) (t : Fin 9) {n0 : ℕ} (hn : n0 + 128 ≤ 640) {o : Fin 3 → ℕ} (inb)
    (ho : o = ![t.val, 0, n0]) :
    Wts128 x3 t n0 hn (View.readAt (Elt Ideal) m.view (Rect.unit (s := S9x1024x640) o S1x1024x128.size inb).toLoadRect (hm.unread x3)) := by
  intro c l
  subst ho
  rw [hm.readAt_unread]
  pointwise

/-- A row of 128 scales from `n0`. -/
def Scale128 (n0 : ℕ) (hn : n0 + 128 ≤ 640) (w : FVec Ideal S1x128 .f32) : Prop :=
  ∀ l : Fin 128, w (ix2 0 l) = x4 (ix2 0 ⟨n0 + l.val, by omega⟩)

/-- The scales as loaded. -/
theorem scale128_load {m : Memref sig .tc .vmem S1x640 .f32} (hm : m.IsWhole) {n0 : ℕ} (hn : n0 + 128 ≤ 640) (inb) :
    Scale128 x4 n0 hn (View.readAt (Elt Ideal) m.view (Rect.unit (s := S1x640) ![0, n0] S1x128.size inb).toLoadRect (hm.unread x4)) := by
  intro l
  rw [hm.readAt_unread]
  pointwise

/-- The eight partial sums of image `b` for 128 output channels from `n0`. -/
def Acc128 (b : Fin 2) (n0 : ℕ) (hn : n0 + 128 ≤ 640) (acc : FVec Ideal S8x128 .f32) : Prop :=
  ∀ (s : Fin 8) (l : Fin 128), acc (ix2 s l)
    = ∑ g ∈ Finset.range 32, ∑ i : Fin 4, partN x2 x3 b ⟨n0 + l.val, by omega⟩ (32 * g + (i.val * 8 + s.val))

/-- The norm from the partial sums and the scales. -/
theorem norm_eq128 {b : Fin 2} {n0 : ℕ} {hn : n0 + 128 ≤ 640} {acc : FVec Ideal S8x128 .f32} {w : FVec Ideal S1x128 .f32}
    (ha : Acc128 x2 x3 b n0 hn acc) (hw : Scale128 x4 n0 hn w) (l : Fin 128) :
    (∑ s : Fin 8, acc (ix2 s l)) * w (ix2 0 l) * w (ix2 0 l) = norm x2 x3 x4 b ⟨n0 + l.val, by omega⟩ := by
  have e : ∑ s : Fin 8, acc (ix2 s l) = ∑ d : Fin 1024, part x2 x3 b ⟨n0 + l.val, by omega⟩ d :=
    (Finset.sum_congr rfl fun s _ => ha s l).trans (sum_part x2 x3 b ⟨n0 + l.val, by omega⟩)
  rw [e, hw l]
  rfl

/-- The scales, reshaped to themselves. -/
theorem scale128_id184 {n0 : ℕ} {hn : n0 + 128 ≤ 640} {w : FVec Ideal S1x128 .f32} (hw : Scale128 x4 n0 hn w) :
    Scale128 x4 n0 hn (k0_pay184 (F := Ideal) w) := by
  intro l
  have e : k0_pay184 (F := Ideal) w (ix2 0 l) = w (ix2 0 l) := by pointwise [k0_pay184]
  exact e.trans (hw l)

/-- The norms stored by payload 185. -/
theorem sig185 {b : Fin 2} {n0 : ℕ} {hn : n0 + 128 ≤ 640} {acc : FVec Ideal S8x128 .f32} {w : FVec Ideal S1x128 .f32}
    (ha : Acc128 x2 x3 b n0 hn acc) (hw : Scale128 x4 n0 hn w) (l : Fin 128) :
    k0_pay185 (F := Ideal) acc w (ix2 0 l) = norm x2 x3 x4 b ⟨n0 + l.val, by omega⟩ := by
  have e : k0_pay185 (F := Ideal) acc w (ix2 0 l) = (∑ s : Fin 8, acc (ix2 s l)) * w (ix2 0 l) * w (ix2 0 l) := by
    pointwise [k0_pay185, k0_pay193, k0_pay186, k0_pay194, k0_pay184]
  exact e.trans (norm_eq128 x2 x3 x4 ha hw l)

/-- The norms stored by payload 193. -/
theorem sig193 {b : Fin 2} {n0 : ℕ} {hn : n0 + 128 ≤ 640} {acc : FVec Ideal S8x128 .f32} {w : FVec Ideal S1x128 .f32}
    (ha : Acc128 x2 x3 b n0 hn acc) (hw : Scale128 x4 n0 hn w) (l : Fin 128) :
    k0_pay193 (F := Ideal) acc w (ix2 0 l) = norm x2 x3 x4 b ⟨n0 + l.val, by omega⟩ := by
  have e : k0_pay193 (F := Ideal) acc w (ix2 0 l) = (∑ s : Fin 8, acc (ix2 s l)) * w (ix2 0 l) * w (ix2 0 l) := by
    pointwise [k0_pay185, k0_pay193, k0_pay186, k0_pay194, k0_pay184]
  exact e.trans (norm_eq128 x2 x3 x4 ha hw l)

/-- The factors computed by payload 186. -/
theorem dem186 {b : Fin 2} {n0 : ℕ} {hn : n0 + 128 ≤ 640} {acc : FVec Ideal S8x128 .f32} {w : FVec Ideal S1x128 .f32}
    (ha : Acc128 x2 x3 b n0 hn acc) (hw : Scale128 x4 n0 hn w) (l : Fin 128) :
    k0_pay186 (F := Ideal) acc w (ix2 0 l) = demod x2 x3 x4 b ⟨n0 + l.val, by omega⟩ := by
  have e : k0_pay186 (F := Ideal) acc w (ix2 0 l)
      = Ideal.rsqrt ((∑ s : Fin 8, acc (ix2 s l)) * w (ix2 0 l) * w (ix2 0 l) + Ideal.ofBits .f32 0x322BCC77#32) := by
    pointwise [k0_pay185, k0_pay193, k0_pay186, k0_pay194, k0_pay184]
  rw [e, norm_eq128 x2 x3 x4 ha hw l]
  rfl

/-- The factors computed by payload 194. -/
theorem dem194 {b : Fin 2} {n0 : ℕ} {hn : n0 + 128 ≤ 640} {acc : FVec Ideal S8x128 .f32} {w : FVec Ideal S1x128 .f32}
    (ha : Acc128 x2 x3 b n0 hn acc) (hw : Scale128 x4 n0 hn w) (l : Fin 128) :
    k0_pay194 (F := Ideal) acc w (ix2 0 l) = demod x2 x3 x4 b ⟨n0 + l.val, by omega⟩ := by
  have e : k0_pay194 (F := Ideal) acc w (ix2 0 l)
      = Ideal.rsqrt ((∑ s : Fin 8, acc (ix2 s l)) * w (ix2 0 l) * w (ix2 0 l) + Ideal.ofBits .f32 0x322BCC77#32) := by
    pointwise [k0_pay185, k0_pay193, k0_pay186, k0_pay194, k0_pay184]
  rw [e, norm_eq128 x2 x3 x4 ha hw l]
  rfl

end Cert.KernelIdeal.Hand

end
-- ==== Proof.Out.lean ====
module

public import proofs.«01_k».proof.Proof.Loads

@[expose] public section

/-! The two results of the body, as functions of its five inputs: whatever the scratch arrays and the results held before. -/

set_option maxRecDepth 16384

noncomputable section

namespace Cert.KernelIdeal.Hand

open Cert.KernelIdeal Cert.KernelIdeal.Gen
open Idealize.ShloMosaic Idealize.ShloMosaic.TcCoe Idealize.ShloMosaic.Tactic

variable (x0 : Vec Ideal S1536x1024 .fp8e4m3) (x1 : Vec Ideal S2 .f32) (x2 : Vec Ideal S2x1024 .f32)
  (x3 : Vec Ideal S9x1024x640 .fp8e4m3) (x4 : Vec Ideal S1x640 .f32)

/-- The output array. -/
def ySpec : Vec Ideal S1536x640 .bf16 := fun y =>
  outAt x0 x1 x2 x3 x4 ⟨(y 0).val / 768, by have h : (y 0).val < 1536 := (y 0).isLt; omega⟩ ⟨(y 0).val % 768, by omega⟩ (y 1)

/-- The norms array. -/
def sSpec : Vec Ideal S2x640 .f32 := fun y => norm x2 x3 x4 (y 0) (y 1)

/-- The output array on a tile 256 channels wide. -/
theorem ySpec_tile256 (b : Fin 2) {r n0 : ℕ} (hr : r = 768 * b.val) (hn : n0 + 256 ≤ 640) (inb : ∀ a, ![r, n0] a + S768x256.size a ≤ S1536x640.size a)
    (p : Fin 768) (l : Fin 256) :
    ySpec x0 x1 x2 x3 x4 ((Rect.unit (s := S1536x640) ![r, n0] S768x256.size inb).emb (ix2 p l)) = outAt x0 x1 x2 x3 x4 b p ⟨n0 + l.val, by omega⟩ := by
  subst hr
  have a0 : ((Rect.unit (s := S1536x640) ![768 * b.val, n0] S768x256.size inb).emb (ix2 p l) 0).val = 768 * b.val + p.val :=
    ValueKit.rect_emb_unit_val (s := S1536x640) _ _ inb _ 0
  have a1 : (Rect.unit (s := S1536x640) ![768 * b.val, n0] S768x256.size inb).emb (ix2 p l) 1 = (⟨n0 + l.val, by omega⟩ : Fin 640) :=
    Fin.ext (ValueKit.rect_emb_unit_val (s := S1536x640) _ _ inb _ 1)
  unfold ySpec
  rw [a1]
  congr 1
  · exact Fin.ext (by dsimp only; rw [a0]; omega)
  · exact Fin.ext (by dsimp only; rw [a0]; omega)

/-- A tile 256 channels wide covers its pixels and channels. -/
theorem yCover256 {r n0 : ℕ} (inb : ∀ a, ![r, n0] a + S768x256.size a ≤ S1536x640.size a) (y : S1536x640.Idx)
    (h0 : r ≤ (y 0).val) (h0' : (y 0).val < r + 768) (h1 : n0 ≤ (y 1).val) (h1' : (y 1).val < n0 + 256) :
    y ∈ (Rect.unit (s := S1536x640) ![r, n0] S768x256.size inb).set := by
  rw [Rect.mem_set_unit]
  intro a
  match a with
  | 0 => exact ⟨h0, h0'⟩
  | 1 => exact ⟨h1, h1'⟩

/-- The norms array on a row of 256 channels. -/
theorem sSpec_tile256 (b : Fin 2) {r n0 : ℕ} (hr : r = b.val) (hn : n0 + 256 ≤ 640) (inb : ∀ a, ![r, n0] a + S1x256.size a ≤ S2x640.size a)
    (l : Fin 256) :
    sSpec x2 x3 x4 ((Rect.unit (s := S2x640) ![r, n0] S1x256.size inb).emb (ix2 0 l)) = norm x2 x3 x4 b ⟨n0 + l.val, by omega⟩ := by
  subst hr
  have a0 : (Rect.unit (s := S2x640) ![b.val, n0] S1x256.size inb).emb (ix2 0 l) 0 = b :=
    Fin.ext (ValueKit.rect_emb_unit_val (s := S2x640) _ _ inb _ 0)
  have a1 : (Rect.unit (s := S2x640) ![b.val, n0] S1x256.size inb).emb (ix2 0 l) 1 = (⟨n0 + l.val, by omega⟩ : Fin 640) :=
    Fin.ext (ValueKit.rect_emb_unit_val (s := S2x640) _ _ inb _ 1)
  unfold sSpec
  rw [a0, a1]

/-- A row of 256 channels covers its image and channels. -/
theorem sCover256 {r n0 : ℕ} (inb : ∀ a, ![r, n0] a + S1x256.size a ≤ S2x640.size a) (y : S2x640.Idx)
    (h0 : (y 0).val = r) (h1 : n0 ≤ (y 1).val) (h1' : (y 1).val < n0 + 256) :
    y ∈ (Rect.unit (s := S2x640) ![r, n0] S1x256.size inb).set := by
  rw [Rect.mem_set_unit]
  intro a
  match a with
  | 0 => exact ⟨h0.symm.le, by show (y 0).val < r + 1; omega⟩
  | 1 => exact ⟨h1, h1'⟩

/-- The output array on a tile 128 channels wide. -/
theorem ySpec_tile128 (b : Fin 2) {r n0 : ℕ} (hr : r = 768 * b.val) (hn : n0 + 128 ≤ 640) (inb : ∀ a, ![r, n0] a + S768x128.size a ≤ S1536x640.size a)
    (p : Fin 768) (l : Fin 128) :
    ySpec x0 x1 x2 x3 x4 ((Rect.unit (s := S1536x640) ![r, n0] S768x128.size inb).emb (ix2 p l)) = outAt x0 x1 x2 x3 x4 b p ⟨n0 + l.val, by omega⟩ := by
  subst hr
  have a0 : ((Rect.unit (s := S1536x640) ![768 * b.val, n0] S768x128.size inb).emb (ix2 p l) 0).val = 768 * b.val + p.val :=
    ValueKit.rect_emb_unit_val (s := S1536x640) _ _ inb _ 0
  have a1 : (Rect.unit (s := S1536x640) ![768 * b.val, n0] S768x128.size inb).emb (ix2 p l) 1 = (⟨n0 + l.val, by omega⟩ : Fin 640) :=
    Fin.ext (ValueKit.rect_emb_unit_val (s := S1536x640) _ _ inb _ 1)
  unfold ySpec
  rw [a1]
  congr 1
  · exact Fin.ext (by dsimp only; rw [a0]; omega)
  · exact Fin.ext (by dsimp only; rw [a0]; omega)

/-- A tile 128 channels wide covers its pixels and channels. -/
theorem yCover128 {r n0 : ℕ} (inb : ∀ a, ![r, n0] a + S768x128.size a ≤ S1536x640.size a) (y : S1536x640.Idx)
    (h0 : r ≤ (y 0).val) (h0' : (y 0).val < r + 768) (h1 : n0 ≤ (y 1).val) (h1' : (y 1).val < n0 + 128) :
    y ∈ (Rect.unit (s := S1536x640) ![r, n0] S768x128.size inb).set := by
  rw [Rect.mem_set_unit]
  intro a
  match a with
  | 0 => exact ⟨h0, h0'⟩
  | 1 => exact ⟨h1, h1'⟩

/-- The norms array on a row of 128 channels. -/
theorem sSpec_tile128 (b : Fin 2) {r n0 : ℕ} (hr : r = b.val) (hn : n0 + 128 ≤ 640) (inb : ∀ a, ![r, n0] a + S1x128.size a ≤ S2x640.size a)
    (l : Fin 128) :
    sSpec x2 x3 x4 ((Rect.unit (s := S2x640) ![r, n0] S1x128.size inb).emb (ix2 0 l)) = norm x2 x3 x4 b ⟨n0 + l.val, by omega⟩ := by
  subst hr
  have a0 : (Rect.unit (s := S2x640) ![b.val, n0] S1x128.size inb).emb (ix2 0 l) 0 = b :=
    Fin.ext (ValueKit.rect_emb_unit_val (s := S2x640) _ _ inb _ 0)
  have a1 : (Rect.unit (s := S2x640) ![b.val, n0] S1x128.size inb).emb (ix2 0 l) 1 = (⟨n0 + l.val, by omega⟩ : Fin 640) :=
    Fin.ext (ValueKit.rect_emb_unit_val (s := S2x640) _ _ inb _ 1)
  unfold sSpec
  rw [a0, a1]

/-- A row of 128 channels covers its image and channels. -/
theorem sCover128 {r n0 : ℕ} (inb : ∀ a, ![r, n0] a + S1x128.size a ≤ S2x640.size a) (y : S2x640.Idx)
    (h0 : (y 0).val = r) (h1 : n0 ≤ (y 1).val) (h1' : (y 1).val < n0 + 128) :
    y ∈ (Rect.unit (s := S2x640) ![r, n0] S1x128.size inb).set := by
  rw [Rect.mem_set_unit]
  intro a
  match a with
  | 0 => exact ⟨h0.symm.le, by show (y 0).val < r + 1; omega⟩
  | 1 => exact ⟨h1, h1'⟩

/-- The body's stores to its first result leave `ySpec` there. -/
theorem y_read (c : Dev nD) (arg0 : Memref sig .tc .vmem S1536x1024 .fp8e4m3) (harg0 : arg0.IsWhole) (arg1 : Memref sig .tc .smem S2 .f32) (harg1 : arg1.IsWhole) (arg2 : Memref sig .tc .vmem S2x1024 .f32) (harg2 : arg2.IsWhole) (arg3 : Memref sig .tc .vmem S9x1024x640 .fp8e4m3) (harg3 : arg3.IsWhole) (arg4 : Memref sig .tc .vmem S1x640 .f32) (harg4 : arg4.IsWhole) (arg5 : Memref sig .tc .vmem S1536x640 .bf16) (harg5 : arg5.IsWhole) (arg6 : Memref sig .tc .vmem S2x640 .f32) (harg6 : arg6.IsWhole) (arg7 : Memref sig .tc .vmem S3x1536x1024 .bf16) (harg7 : arg7.IsWhole) (arg8 : Memref sig .tc .vmem S2x1024x128 .f32) (harg8 : arg8.IsWhole) (s0 : BufTy.Contents (Elt Ideal) arg7.view.ty) (s1 : BufTy.Contents (Elt Ideal) arg8.view.ty) (f5 : BufTy.Contents (Elt Ideal) arg5.view.ty) :
    arg5.view.read (Elt Ideal) (arg5.view.writes (Elt Ideal) f5 (krun (F := Ideal) c arg0 harg0 arg1 harg1 arg2 harg2 arg3 harg3 arg4 harg4 arg5 harg5 arg6 harg6 arg7 harg7 arg8 harg8 (harg0.unread x0) (harg1.unread x1) (harg2.unread x2) (harg3.unread x3) (harg4.unread x4) s0 s1).1) = ySpec x0 x1 x2 x3 x4 := by
  have hT := taps_read x0 x1 x2 c arg0 harg0 arg1 harg1 arg2 harg2 arg3 harg3 arg4 harg4 arg5 harg5 arg6 harg6 arg7 harg7 arg8 harg8 s0
  funext y
  refine View.read_writes_apply_of_pieces _ _ (ySpec x0 x1 x2 x3 x4) _ ?_ y ?_
  · unfold krun
    dsimp only
    intro p hp
    simp only [List.mem_cons, List.not_mem_nil, or_false] at hp
    rcases hp with rfl | rfl | rfl | rfl | rfl | rfl
    · intro x
      obtain ⟨p, l, rfl⟩ : ∃ (p : Fin 768) (l : Fin 128), x = ix2 p l := ⟨x 0, x 1, eq_ix2 x⟩
      refine Eq.trans (tile_5 x0 x1 x2 x3 x4 1 (n0 := 512) (by omega) ?_ ?_ ?_ ?_ ?_ ?_ ?_ ?_ ?_ ?_ ?_ ?_ ?_ ?_ ?_ ?_ ?_ ?_ ?_ ?_ p l) (ySpec_tile128 x0 x1 x2 x3 x4 1 rfl (by omega) (by decide) p l).symm
      · exact up_rows x0 x1 x2 hT 0 1 _ rfl
      · exact mid_rows x0 x1 x2 hT 0 1 _ rfl
      · exact down_rows x0 x1 x2 hT 0 1 _ rfl
      · exact up_rows x0 x1 x2 hT 1 1 _ rfl
      · exact mid_rows x0 x1 x2 hT 1 1 _ rfl
      · exact down_rows x0 x1 x2 hT 1 1 _ rfl
      · exact up_rows x0 x1 x2 hT 2 1 _ rfl
      · exact mid_rows x0 x1 x2 hT 2 1 _ rfl
      · exact down_rows x0 x1 x2 hT 2 1 _ rfl
      · exact wts128_load x3 harg3 0 _ _ rfl
      · exact wts128_load x3 harg3 1 _ _ rfl
      · exact wts128_load x3 harg3 2 _ _ rfl
      · exact wts128_load x3 harg3 3 _ _ rfl
      · exact wts128_load x3 harg3 4 _ _ rfl
      · exact wts128_load x3 harg3 5 _ _ rfl
      · exact wts128_load x3 harg3 6 _ _ rfl
      · exact wts128_load x3 harg3 7 _ _ rfl
      · exact wts128_load x3 harg3 8 _ _ rfl
      · exact (scale128_id184 x4 (scale128_load x4 harg4 (n0 := 512) (by omega) _))
      · exact dem194 x2 x3 x4 (norm_t19_1 x2 x3 c arg0 harg0 arg1 harg1 arg2 harg2 arg3 harg3 arg4 harg4 arg5 harg5 arg6 harg6 arg7 harg7 arg8 harg8 _ _ _ _ (sq_read x2 arg2 harg2 arg8 _)) (scale128_id184 x4 (scale128_load x4 harg4 (n0 := 512) (by omega) _))
    · intro x
      obtain ⟨p, l, rfl⟩ : ∃ (p : Fin 768) (l : Fin 128), x = ix2 p l := ⟨x 0, x 1, eq_ix2 x⟩
      refine Eq.trans (tile_4 x0 x1 x2 x3 x4 0 (n0 := 512) (by omega) ?_ ?_ ?_ ?_ ?_ ?_ ?_ ?_ ?_ ?_ ?_ ?_ ?_ ?_ ?_ ?_ ?_ ?_ ?_ ?_ p l) (ySpec_tile128 x0 x1 x2 x3 x4 0 rfl (by omega) (by decide) p l).symm
      · exact up_rows x0 x1 x2 hT 0 0 _ rfl
      · exact mid_rows x0 x1 x2 hT 0 0 _ rfl
      · exact down_rows x0 x1 x2 hT 0 0 _ rfl
      · exact up_rows x0 x1 x2 hT 1 0 _ rfl
      · exact mid_rows x0 x1 x2 hT 1 0 _ rfl
      · exact down_rows x0 x1 x2 hT 1 0 _ rfl
      · exact up_rows x0 x1 x2 hT 2 0 _ rfl
      · exact mid_rows x0 x1 x2 hT 2 0 _ rfl
      · exact down_rows x0 x1 x2 hT 2 0 _ rfl
      · exact wts128_load x3 harg3 0 _ _ rfl
      · exact wts128_load x3 harg3 1 _ _ rfl
      · exact wts128_load x3 harg3 2 _ _ rfl
      · exact wts128_load x3 harg3 3 _ _ rfl
      · exact wts128_load x3 harg3 4 _ _ rfl
      · exact wts128_load x3 harg3 5 _ _ rfl
      · exact wts128_load x3 harg3 6 _ _ rfl
      · exact wts128_load x3 harg3 7 _ _ rfl
      · exact wts128_load x3 harg3 8 _ _ rfl
      · exact (scale128_id184 x4 (scale128_load x4 harg4 (n0 := 512) (by omega) _))
      · exact dem186 x2 x3 x4 (norm_t19_0 x2 x3 c arg0 harg0 arg1 harg1 arg2 harg2 arg3 harg3 arg4 harg4 arg5 harg5 arg6 harg6 arg7 harg7 arg8 harg8 _ _ _ _ (sq_read x2 arg2 harg2 arg8 _)) (scale128_load x4 harg4 (n0 := 512) (by omega) _)
    · intro x
      obtain ⟨p, l, rfl⟩ : ∃ (p : Fin 768) (l : Fin 256), x = ix2 p l := ⟨x 0, x 1, eq_ix2 x⟩
      refine Eq.trans (tile_3 x0 x1 x2 x3 x4 1 (n0 := 256) (by omega) ?_ ?_ ?_ ?_ ?_ ?_ ?_ ?_ ?_ ?_ ?_ ?_ ?_ ?_ ?_ ?_ ?_ ?_ ?_ ?_ p l) (ySpec_tile256 x0 x1 x2 x3 x4 1 rfl (by omega) (by decide) p l).symm
      · exact up_rows x0 x1 x2 hT 0 1 _ rfl
      · exact mid_rows x0 x1 x2 hT 0 1 _ rfl
      · exact down_rows x0 x1 x2 hT 0 1 _ rfl
      · exact up_rows x0 x1 x2 hT 1 1 _ rfl
      · exact mid_rows x0 x1 x2 hT 1 1 _ rfl
      · exact down_rows x0 x1 x2 hT 1 1 _ rfl
      · exact up_rows x0 x1 x2 hT 2 1 _ rfl
      · exact mid_rows x0 x1 x2 hT 2 1 _ rfl
      · exact down_rows x0 x1 x2 hT 2 1 _ rfl
      · exact wts256_load x3 harg3 0 _ _ rfl
      · exact wts256_load x3 harg3 1 _ _ rfl
      · exact wts256_load x3 harg3 2 _ _ rfl
      · exact wts256_load x3 harg3 3 _ _ rfl
      · exact wts256_load x3 harg3 4 _ _ rfl
      · exact wts256_load x3 harg3 5 _ _ rfl
      · exact wts256_load x3 harg3 6 _ _ rfl
      · exact wts256_load x3 harg3 7 _ _ rfl
      · exact wts256_load x3 harg3 8 _ _ rfl
      · exact (scale256_id162 x4 (scale256_load x4 harg4 (n0 := 256) (by omega) _))
      · exact dem171 x2 x3 x4 (norm_t18_1 x2 x3 c arg0 harg0 arg1 harg1 arg2 harg2 arg3 harg3 arg4 harg4 arg5 harg5 arg6 harg6 arg7 harg7 arg8 harg8 _ _ _ _ (sq_read x2 arg2 harg2 arg8 _)) (scale256_id162 x4 (scale256_load x4 harg4 (n0 := 256) (by omega) _))
    · intro x
      obtain ⟨p, l, rfl⟩ : ∃ (p : Fin 768) (l : Fin 256), x = ix2 p l := ⟨x 0, x 1, eq_ix2 x⟩
      refine Eq.trans (tile_2 x0 x1 x2 x3 x4 0 (n0 := 256) (by omega) ?_ ?_ ?_ ?_ ?_ ?_ ?_ ?_ ?_ ?_ ?_ ?_ ?_ ?_ ?_ ?_ ?_ ?_ ?_ ?_ p l) (ySpec_tile256 x0 x1 x2 x3 x4 0 rfl (by omega) (by decide) p l).symm
      · exact up_rows x0 x1 x2 hT 0 0 _ rfl
      · exact mid_rows x0 x1 x2 hT 0 0 _ rfl
      · exact down_rows x0 x1 x2 hT 0 0 _ rfl
      · exact up_rows x0 x1 x2 hT 1 0 _ rfl
      · exact mid_rows x0 x1 x2 hT 1 0 _ rfl
      · exact down_rows x0 x1 x2 hT 1 0 _ rfl
      · exact up_rows x0 x1 x2 hT 2 0 _ rfl
      · exact mid_rows x0 x1 x2 hT 2 0 _ rfl
      · exact down_rows x0 x1 x2 hT 2 0 _ rfl
      · exact wts256_load x3 harg3 0 _ _ rfl
      · exact wts256_load x3 harg3 1 _ _ rfl
      · exact wts256_load x3 harg3 2 _ _ rfl
      · exact wts256_load x3 harg3 3 _ _ rfl
      · exact wts256_load x3 harg3 4 _ _ rfl
      · exact wts256_load x3 harg3 5 _ _ rfl
      · exact wts256_load x3 harg3 6 _ _ rfl
      · exact wts256_load x3 harg3 7 _ _ rfl
      · exact wts256_load x3 harg3 8 _ _ rfl
      · exact (scale256_id162 x4 (scale256_load x4 harg4 (n0 := 256) (by omega) _))
      · exact dem164 x2 x3 x4 (norm_t18_0 x2 x3 c arg0 harg0 arg1 harg1 arg2 harg2 arg3 harg3 arg4 harg4 arg5 harg5 arg6 harg6 arg7 harg7 arg8 harg8 _ _ _ _ (sq_read x2 arg2 harg2 arg8 _)) (scale256_load x4 harg4 (n0 := 256) (by omega) _)
    · intro x
      obtain ⟨p, l, rfl⟩ : ∃ (p : Fin 768) (l : Fin 256), x = ix2 p l := ⟨x 0, x 1, eq_ix2 x⟩
      refine Eq.trans (tile_1 x0 x1 x2 x3 x4 1 (n0 := 0) (by omega) ?_ ?_ ?_ ?_ ?_ ?_ ?_ ?_ ?_ ?_ ?_ ?_ ?_ ?_ ?_ ?_ ?_ ?_ ?_ ?_ p l) (ySpec_tile256 x0 x1 x2 x3 x4 1 rfl (by omega) (by decide) p l).symm
      · exact up_rows x0 x1 x2 hT 0 1 _ rfl
      · exact mid_rows x0 x1 x2 hT 0 1 _ rfl
      · exact down_rows x0 x1 x2 hT 0 1 _ rfl
      · exact up_rows x0 x1 x2 hT 1 1 _ rfl
      · exact mid_rows x0 x1 x2 hT 1 1 _ rfl
      · exact down_rows x0 x1 x2 hT 1 1 _ rfl
      · exact up_rows x0 x1 x2 hT 2 1 _ rfl
      · exact mid_rows x0 x1 x2 hT 2 1 _ rfl
      · exact down_rows x0 x1 x2 hT 2 1 _ rfl
      · exact wts256_load x3 harg3 0 _ _ rfl
      · exact wts256_load x3 harg3 1 _ _ rfl
      · exact wts256_load x3 harg3 2 _ _ rfl
      · exact wts256_load x3 harg3 3 _ _ rfl
      · exact wts256_load x3 harg3 4 _ _ rfl
      · exact wts256_load x3 harg3 5 _ _ rfl
      · exact wts256_load x3 harg3 6 _ _ rfl
      · exact wts256_load x3 harg3 7 _ _ rfl
      · exact wts256_load x3 harg3 8 _ _ rfl
      · exact (scale256_id144 x4 (scale256_load x4 harg4 (n0 := 0) (by omega) _))
      · exact dem152 x2 x3 x4 (norm_t17_1 x2 x3 c arg0 harg0 arg1 harg1 arg2 harg2 arg3 harg3 arg4 harg4 arg5 harg5 arg6 harg6 arg7 harg7 arg8 harg8 _ _ _ (sq_read x2 arg2 harg2 arg8 _)) (scale256_id144 x4 (scale256_load x4 harg4 (n0 := 0) (by omega) _))
    · intro x
      obtain ⟨p, l, rfl⟩ : ∃ (p : Fin 768) (l : Fin 256), x = ix2 p l := ⟨x 0, x 1, eq_ix2 x⟩
      refine Eq.trans (tile_0 x0 x1 x2 x3 x4 0 (n0 := 0) (by omega) ?_ ?_ ?_ ?_ ?_ ?_ ?_ ?_ ?_ ?_ ?_ ?_ ?_ ?_ ?_ ?_ ?_ ?_ ?_ ?_ p l) (ySpec_tile256 x0 x1 x2 x3 x4 0 rfl (by omega) (by decide) p l).symm
      · exact up_rows x0 x1 x2 hT 0 0 _ rfl
      · exact mid_rows x0 x1 x2 hT 0 0 _ rfl
      · exact down_rows x0 x1 x2 hT 0 0 _ rfl
      · exact up_rows x0 x1 x2 hT 1 0 _ rfl
      · exact mid_rows x0 x1 x2 hT 1 0 _ rfl
      · exact down_rows x0 x1 x2 hT 1 0 _ rfl
      · exact up_rows x0 x1 x2 hT 2 0 _ rfl
      · exact mid_rows x0 x1 x2 hT 2 0 _ rfl
      · exact down_rows x0 x1 x2 hT 2 0 _ rfl
      · exact wts256_load x3 harg3 0 _ _ rfl
      · exact wts256_load x3 harg3 1 _ _ rfl
      · exact wts256_load x3 harg3 2 _ _ rfl
      · exact wts256_load x3 harg3 3 _ _ rfl
      · exact wts256_load x3 harg3 4 _ _ rfl
      · exact wts256_load x3 harg3 5 _ _ rfl
      · exact wts256_load x3 harg3 6 _ _ rfl
      · exact wts256_load x3 harg3 7 _ _ rfl
      · exact wts256_load x3 harg3 8 _ _ rfl
      · exact (scale256_id144 x4 (scale256_load x4 harg4 (n0 := 0) (by omega) _))
      · exact dem146 x2 x3 x4 (norm_t17_0 x2 x3 c arg0 harg0 arg1 harg1 arg2 harg2 arg3 harg3 arg4 harg4 arg5 harg5 arg6 harg6 arg7 harg7 arg8 harg8 _ _ _ (sq_read x2 arg2 harg2 arg8 _)) (scale256_load x4 harg4 (n0 := 0) (by omega) _)
  · have y0 : (y 0).val < 1536 := (y 0).isLt
    have y1 : (y 1).val < 640 := (y 1).isLt
    unfold krun
    dsimp only
    rcases Nat.lt_or_ge (y 0).val 768 with h | h <;> rcases Nat.lt_or_ge (y 1).val 256 with h1 | h1
    · exact ⟨_, List.mem_cons_of_mem _ (List.mem_cons_of_mem _ (List.mem_cons_of_mem _ (List.mem_cons_of_mem _ (List.mem_cons_of_mem _ (List.mem_cons_self ..))))), yCover256 (r := 0) (n0 := 0) (by decide) y (by omega) (by omega) (by omega) (by omega)⟩
    · rcases Nat.lt_or_ge (y 1).val 512 with h2 | h2
      · exact ⟨_, List.mem_cons_of_mem _ (List.mem_cons_of_mem _ (List.mem_cons_of_mem _ (List.mem_cons_self ..))), yCover256 (r := 0) (n0 := 256) (by decide) y (by omega) (by omega) (by omega) (by omega)⟩
      · exact ⟨_, List.mem_cons_of_mem _ (List.mem_cons_self ..), yCover128 (r := 0) (n0 := 512) (by decide) y (by omega) (by omega) (by omega) (by omega)⟩
    · exact ⟨_, List.mem_cons_of_mem _ (List.mem_cons_of_mem _ (List.mem_cons_of_mem _ (List.mem_cons_of_mem _ (List.mem_cons_self ..)))), yCover256 (r := 768) (n0 := 0) (by decide) y (by omega) (by omega) (by omega) (by omega)⟩
    · rcases Nat.lt_or_ge (y 1).val 512 with h2 | h2
      · exact ⟨_, List.mem_cons_of_mem _ (List.mem_cons_of_mem _ (List.mem_cons_self ..)), yCover256 (r := 768) (n0 := 256) (by decide) y (by omega) (by omega) (by omega) (by omega)⟩
      · exact ⟨_, List.mem_cons_self .., yCover128 (r := 768) (n0 := 512) (by decide) y (by omega) (by omega) (by omega) (by omega)⟩

/-- The body's stores to its second result leave `sSpec` there. -/
theorem s_read (c : Dev nD) (arg0 : Memref sig .tc .vmem S1536x1024 .fp8e4m3) (harg0 : arg0.IsWhole) (arg1 : Memref sig .tc .smem S2 .f32) (harg1 : arg1.IsWhole) (arg2 : Memref sig .tc .vmem S2x1024 .f32) (harg2 : arg2.IsWhole) (arg3 : Memref sig .tc .vmem S9x1024x640 .fp8e4m3) (harg3 : arg3.IsWhole) (arg4 : Memref sig .tc .vmem S1x640 .f32) (harg4 : arg4.IsWhole) (arg5 : Memref sig .tc .vmem S1536x640 .bf16) (harg5 : arg5.IsWhole) (arg6 : Memref sig .tc .vmem S2x640 .f32) (harg6 : arg6.IsWhole) (arg7 : Memref sig .tc .vmem S3x1536x1024 .bf16) (harg7 : arg7.IsWhole) (arg8 : Memref sig .tc .vmem S2x1024x128 .f32) (harg8 : arg8.IsWhole) (s0 : BufTy.Contents (Elt Ideal) arg7.view.ty) (s1 : BufTy.Contents (Elt Ideal) arg8.view.ty) (f6 : BufTy.Contents (Elt Ideal) arg6.view.ty) :
    arg6.view.read (Elt Ideal) (arg6.view.writes (Elt Ideal) f6 (krun (F := Ideal) c arg0 harg0 arg1 harg1 arg2 harg2 arg3 harg3 arg4 harg4 arg5 harg5 arg6 harg6 arg7 harg7 arg8 harg8 (harg0.unread x0) (harg1.unread x1) (harg2.unread x2) (harg3.unread x3) (harg4.unread x4) s0 s1).2.1) = sSpec x2 x3 x4 := by
  funext y
  refine View.read_writes_apply_of_pieces _ _ (sSpec x2 x3 x4) _ ?_ y ?_
  · unfold krun
    dsimp only
    intro p hp
    simp only [List.mem_cons, List.not_mem_nil, or_false] at hp
    rcases hp with rfl | rfl | rfl | rfl | rfl | rfl
    · intro x
      obtain ⟨l, rfl⟩ : ∃ l : Fin 128, x = ix2 0 l := ⟨x 1, by rw [eq_ix2 x]; congr 1; exact Subsingleton.elim _ _⟩
      refine Eq.trans ?_ (sSpec_tile128 x2 x3 x4 1 (n0 := 512) rfl (by omega) (by decide) l).symm
      exact sig193 x2 x3 x4 (norm_t19_1 x2 x3 c arg0 harg0 arg1 harg1 arg2 harg2 arg3 harg3 arg4 harg4 arg5 harg5 arg6 harg6 arg7 harg7 arg8 harg8 _ _ _ _ (sq_read x2 arg2 harg2 arg8 _)) (scale128_id184 x4 (scale128_load x4 harg4 (n0 := 512) (by omega) _)) l
    · intro x
      obtain ⟨l, rfl⟩ : ∃ l : Fin 128, x = ix2 0 l := ⟨x 1, by rw [eq_ix2 x]; congr 1; exact Subsingleton.elim _ _⟩
      refine Eq.trans ?_ (sSpec_tile128 x2 x3 x4 0 (n0 := 512) rfl (by omega) (by decide) l).symm
      exact sig185 x2 x3 x4 (norm_t19_0 x2 x3 c arg0 harg0 arg1 harg1 arg2 harg2 arg3 harg3 arg4 harg4 arg5 harg5 arg6 harg6 arg7 harg7 arg8 harg8 _ _ _ _ (sq_read x2 arg2 harg2 arg8 _)) (scale128_load x4 harg4 (n0 := 512) (by omega) _) l
    · intro x
      obtain ⟨l, rfl⟩ : ∃ l : Fin 256, x = ix2 0 l := ⟨x 1, by rw [eq_ix2 x]; congr 1; exact Subsingleton.elim _ _⟩
      refine Eq.trans ?_ (sSpec_tile256 x2 x3 x4 1 (n0 := 256) rfl (by omega) (by decide) l).symm
      exact sig170 x2 x3 x4 (norm_t18_1 x2 x3 c arg0 harg0 arg1 harg1 arg2 harg2 arg3 harg3 arg4 harg4 arg5 harg5 arg6 harg6 arg7 harg7 arg8 harg8 _ _ _ _ (sq_read x2 arg2 harg2 arg8 _)) (scale256_id162 x4 (scale256_load x4 harg4 (n0 := 256) (by omega) _)) l
    · intro x
      obtain ⟨l, rfl⟩ : ∃ l : Fin 256, x = ix2 0 l := ⟨x 1, by rw [eq_ix2 x]; congr 1; exact Subsingleton.elim _ _⟩
      refine Eq.trans ?_ (sSpec_tile256 x2 x3 x4 0 (n0 := 256) rfl (by omega) (by decide) l).symm
      exact sig163 x2 x3 x4 (norm_t18_0 x2 x3 c arg0 harg0 arg1 harg1 arg2 harg2 arg3 harg3 arg4 harg4 arg5 harg5 arg6 harg6 arg7 harg7 arg8 harg8 _ _ _ _ (sq_read x2 arg2 harg2 arg8 _)) (scale256_load x4 harg4 (n0 := 256) (by omega) _) l
    · intro x
      obtain ⟨l, rfl⟩ : ∃ l : Fin 256, x = ix2 0 l := ⟨x 1, by rw [eq_ix2 x]; congr 1; exact Subsingleton.elim _ _⟩
      refine Eq.trans ?_ (sSpec_tile256 x2 x3 x4 1 (n0 := 0) rfl (by omega) (by decide) l).symm
      exact sig151 x2 x3 x4 (norm_t17_1 x2 x3 c arg0 harg0 arg1 harg1 arg2 harg2 arg3 harg3 arg4 harg4 arg5 harg5 arg6 harg6 arg7 harg7 arg8 harg8 _ _ _ (sq_read x2 arg2 harg2 arg8 _)) (scale256_id144 x4 (scale256_load x4 harg4 (n0 := 0) (by omega) _)) l
    · intro x
      obtain ⟨l, rfl⟩ : ∃ l : Fin 256, x = ix2 0 l := ⟨x 1, by rw [eq_ix2 x]; congr 1; exact Subsingleton.elim _ _⟩
      refine Eq.trans ?_ (sSpec_tile256 x2 x3 x4 0 (n0 := 0) rfl (by omega) (by decide) l).symm
      exact sig145 x2 x3 x4 (norm_t17_0 x2 x3 c arg0 harg0 arg1 harg1 arg2 harg2 arg3 harg3 arg4 harg4 arg5 harg5 arg6 harg6 arg7 harg7 arg8 harg8 _ _ _ (sq_read x2 arg2 harg2 arg8 _)) (scale256_load x4 harg4 (n0 := 0) (by omega) _) l
  · have y0 : (y 0).val < 2 := (y 0).isLt
    have y1 : (y 1).val < 640 := (y 1).isLt
    unfold krun
    dsimp only
    rcases Nat.lt_or_ge (y 0).val 1 with h | h <;> rcases Nat.lt_or_ge (y 1).val 256 with h1 | h1
    · exact ⟨_, List.mem_cons_of_mem _ (List.mem_cons_of_mem _ (List.mem_cons_of_mem _ (List.mem_cons_of_mem _ (List.mem_cons_of_mem _ (List.mem_cons_self ..))))), sCover256 (r := 0) (n0 := 0) (by decide) y (by omega) (by omega) (by omega)⟩
    · rcases Nat.lt_or_ge (y 1).val 512 with h2 | h2
      · exact ⟨_, List.mem_cons_of_mem _ (List.mem_cons_of_mem _ (List.mem_cons_of_mem _ (List.mem_cons_self ..))), sCover256 (r := 0) (n0 := 256) (by decide) y (by omega) (by omega) (by omega)⟩
      · exact ⟨_, List.mem_cons_of_mem _ (List.mem_cons_self ..), sCover128 (r := 0) (n0 := 512) (by decide) y (by omega) (by omega) (by omega)⟩
    · exact ⟨_, List.mem_cons_of_mem _ (List.mem_cons_of_mem _ (List.mem_cons_of_mem _ (List.mem_cons_of_mem _ (List.mem_cons_self ..)))), sCover256 (r := 1) (n0 := 0) (by decide) y (by omega) (by omega) (by omega)⟩
    · rcases Nat.lt_or_ge (y 1).val 512 with h2 | h2
      · exact ⟨_, List.mem_cons_of_mem _ (List.mem_cons_of_mem _ (List.mem_cons_self ..)), sCover256 (r := 1) (n0 := 256) (by decide) y (by omega) (by omega) (by omega)⟩
      · exact ⟨_, List.mem_cons_self .., sCover128 (r := 1) (n0 := 512) (by decide) y (by omega) (by omega) (by omega)⟩

end Cert.KernelIdeal.Hand

end
-- ==== Proof.Body.lean ====
module

public import proofs.«01_k».proof.Proof.Out
public import Idealize.ShloMosaic.Lib.Claim

@[expose] public section

/-! The launch of the kernel over the extended reals: the body's triple with both results named, the pipeline's proof data,
the run, and that the arguments end unchanged. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The body's triple: from the five inputs at their contents, the results and the scratch arrays at anything, the body runs to
    the inputs as they were, the results at `ySpec` and `sSpec` of the inputs, the scratch arrays at anything. -/
theorem triple (c : Dev nD) (arg0 : Memref sig .tc .vmem S1536x1024 .fp8e4m3) (harg0 : arg0.IsWhole) (arg1 : Memref sig .tc .smem S2 .f32) (harg1 : arg1.IsWhole) (arg2 : Memref sig .tc .vmem S2x1024 .f32) (harg2 : arg2.IsWhole) (arg3 : Memref sig .tc .vmem S9x1024x640 .fp8e4m3) (harg3 : arg3.IsWhole) (arg4 : Memref sig .tc .vmem S1x640 .f32) (harg4 : arg4.IsWhole) (arg5 : Memref sig .tc .vmem S1536x640 .bf16) (harg5 : arg5.IsWhole) (arg6 : Memref sig .tc .vmem S2x640 .f32) (harg6 : arg6.IsWhole) (arg7 : Memref sig .tc .vmem S3x1536x1024 .bf16) (harg7 : arg7.IsWhole) (arg8 : Memref sig .tc .vmem S2x1024x128 .f32) (harg8 : arg8.IsWhole)
    (x0 : Vec Ideal S1536x1024 .fp8e4m3) (x1 : Vec Ideal S2 .f32) (x2 : Vec Ideal S2x1024 .f32) (x3 : Vec Ideal S9x1024x640 .fp8e4m3) (x4 : Vec Ideal S1x640 .f32)
    (E : Set ℕ) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (ySpec x0 x1 x2 x3 x4) ∗ owns (c : Thread nD τ) arg6 fullShare (sSpec x2 x3 x4) ∗ (∃ d, owns (c : Thread nD τ) arg7 fullShare d) ∗ (∃ d, owns (c : Thread nD τ) arg8 fullShare d)) -∗ K ⟨⟩))
      ⊢ wp frame (wpE (defs₀ (F := Ideal)) Variants.none c none) E (cc0_modconv arg0 harg0 arg1 harg1 arg2 harg2 arg3 harg3 arg4 harg4 arg5 harg5 arg6 harg6 arg7 harg7 arg8 harg8) K := by
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %s0, -, H7⟩, ⟨%ds1, %s1, -, H8⟩, Hk⟩
  obtain rfl := harg0.eq_unread hf0; obtain rfl := harg1.eq_unread hf1; obtain rfl := harg2.eq_unread hf2; obtain rfl := harg3.eq_unread hf3; obtain rfl := harg4.eq_unread hf4
  have hrun := (krun (F := Ideal) c arg0 harg0 arg1 harg1 arg2 harg2 arg3 harg3 arg4 harg4 arg5 harg5 arg6 harg6 arg7 harg7 arg8 harg8 (harg0.unread x0) (harg1.unread x1) (harg2.unread x2) (harg3.unread x3) (harg4.unread x4) s0 s1).2.2.2.2 E f5 f6
  have hy := y_read x0 x1 x2 x3 x4 c arg0 harg0 arg1 harg1 arg2 harg2 arg3 harg3 arg4 harg4 arg5 harg5 arg6 harg6 arg7 harg7 arg8 harg8 s0 s1 f5
  have hs := s_read x0 x1 x2 x3 x4 c arg0 harg0 arg1 harg1 arg2 harg2 arg3 harg3 arg4 harg4 arg5 harg5 arg6 harg6 arg7 harg7 arg8 harg8 s0 s1 f6
  generalize krun (F := Ideal) c arg0 harg0 arg1 harg1 arg2 harg2 arg3 harg3 arg4 harg4 arg5 harg5 arg6 harg6 arg7 harg7 arg8 harg8 (harg0.unread x0) (harg1.unread x1) (harg2.unread x2) (harg3.unread x3) (harg4.unread x4) s0 s1 = kr at hrun hy hs
  obtain ⟨L5, L6, g0, g1, hkr⟩ := kr
  dsimp only at hrun hy hs
  iapply (wp_wand_r frame (wpE (defs₀ (F := Ideal)) Variants.none c none) E)
  isplitl [H0 H1 H2 H3 H4 H5 H6 H7 H8]
  · iapply hrun
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro %a ⟨H0, H1, H2, H3, H4, H5, H6, H7, H8⟩
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact hy
    iexact H5
  isplitl [H6]
  · iexists _; isplitr; · ipureintro; exact hs
    iexact H6
  isplitl [H7]
  · iexists _, _; isplitr; swap; · iexact H7
    ipureintro; rfl
  iexists _, _; isplitr; swap; · iexact H8
  ipureintro; rfl

variable (m : (ℓ : Loc nD τ sig) → Buf (Elt Ideal) ℓ) (ρ : Dev nD → PrngReg)

/-- The proof data of the one pipeline: the arrays as the region finds them; after the body each input's buffer at its block, the
    results at `ySpec` and `sSpec` of the blocks; the scratch arrays at anything. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => ySpec (iblk m c 0 t) (iblk m c 1 t) (iblk m c 2 t) (iblk m c 3 t) (iblk m c 4 t)
    | ⟨6, _⟩ => sSpec (iblk m c 2 t) (iblk m c 3 t) (iblk m c 4 t)
  Φ _ := Pipeline.ΦA spec0 c
  q _ := fullShare
  owed _ := 0

/-- The proof data's arrays are the contents at region entry. -/
theorem A_eq (c : Dev nD) (w : Fin cfg0.W) : (dats m 0 c).A w = V m c (Pipeline.arrRef spec0 w) := by
  dsimp only [dats]

/-- The body leaves input 0's block in place. -/
theorem after0_0 (c : Dev nD) (t : Fin cfg0.N) : (dats m 0 c).after 0 t = iblk m c 0 t := by dsimp only [dats]
/-- The body leaves input 1's block in place. -/
theorem after0_1 (c : Dev nD) (t : Fin cfg0.N) : (dats m 0 c).after 1 t = iblk m c 1 t := by dsimp only [dats]
/-- The body leaves input 2's block in place. -/
theorem after0_2 (c : Dev nD) (t : Fin cfg0.N) : (dats m 0 c).after 2 t = iblk m c 2 t := by dsimp only [dats]
/-- The body leaves input 3's block in place. -/
theorem after0_3 (c : Dev nD) (t : Fin cfg0.N) : (dats m 0 c).after 3 t = iblk m c 3 t := by dsimp only [dats]
/-- The body leaves input 4's block in place. -/
theorem after0_4 (c : Dev nD) (t : Fin cfg0.N) : (dats m 0 c).after 4 t = iblk m c 4 t := by dsimp only [dats]
/-- The body leaves `ySpec` of the input blocks in result window 5. -/
theorem after0_5 (c : Dev nD) (t : Fin cfg0.N) : (dats m 0 c).after 5 t = ySpec (iblk m c 0 t) (iblk m c 1 t) (iblk m c 2 t) (iblk m c 3 t) (iblk m c 4 t) := by dsimp only [dats]
/-- The body leaves `sSpec` of the input blocks in result window 6. -/
theorem after0_6 (c : Dev nD) (t : Fin cfg0.N) : (dats m 0 c).after 6 t = sSpec (iblk m c 2 t) (iblk m c 3 t) (iblk m c 4 t) := by dsimp only [dats]

/-- The body finds input 0's block in its buffer. -/
theorem before0_0 (c : Dev nD) (t : Fin cfg0.N) (d) : (dats m 0 c).before 0 t d = iblk m c 0 t :=
  before0_0_of m (dats m 0 c) (A_eq m c 0) (after0_0 m c) t d
/-- The body finds input 1's block in its buffer. -/
theorem before0_1 (c : Dev nD) (t : Fin cfg0.N) (d) : (dats m 0 c).before 1 t d = iblk m c 1 t :=
  before0_1_of m (dats m 0 c) (A_eq m c 1) (after0_1 m c) t d
/-- The body finds input 2's block in its buffer. -/
theorem before0_2 (c : Dev nD) (t : Fin cfg0.N) (d) : (dats m 0 c).before 2 t d = iblk m c 2 t :=
  before0_2_of m (dats m 0 c) (A_eq m c 2) (after0_2 m c) t d
/-- The body finds input 3's block in its buffer. -/
theorem before0_3 (c : Dev nD) (t : Fin cfg0.N) (d) : (dats m 0 c).before 3 t d = iblk m c 3 t :=
  before0_3_of m (dats m 0 c) (A_eq m c 3) (after0_3 m c) t d
/-- The body finds input 4's block in its buffer. -/
theorem before0_4 (c : Dev nD) (t : Fin cfg0.N) (d) : (dats m 0 c).before 4 t d = iblk m c 4 t :=
  before0_4_of m (dats m 0 c) (A_eq m c 4) (after0_4 m c) t d

/-- What the body is called with at a point, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What the body returns at a point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The invariant with the two scratch arrays as whole memrefs at some contents. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

set_option maxHeartbeats 800000 in
/-- The body at any point, by its triple. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply (triple c _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t` is the body at that point. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every execution ends, with every array at what the proof data say and every semaphore at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the semaphores. -/
theorem run_main : θ_run defs (onTc (τ := τ) (main (F := Ideal))) (s₀ m ρ) (Pipeline.FramePost cfgs (dats m) 0 (V m)) :=
  (θ_run defs _ _).mono (fun _ h => h.1) (run_main_quiescent m ρ)

/-- The frame: every execution ends, the arguments are unchanged, and every semaphore is at zero. -/
theorem frame_claim : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Final.lean ====
module

public import proofs.«01_k».proof.Proof.Body
public import Idealize.ShloMosaic.Lib.StableHlo.Run

@[expose] public section

/-! The two result arrays after every run, as functions of the arguments. -/

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-- The region finds the first input as the activations flattened to rows. -/
theorem V_main_v0 (c : Dev nD) : V m c main_v0 = shapeCast S1536x1024 (m ((c : Thread nD τ).loc main_arg0)) shapeCasts_S2x24x32x1024_S1536x1024 := by
  show StableHlo.after hostOps0 _ (Proc.devRef .tc main_v0) = _
  after_results
  rfl
/-- The region finds the fourth input as the weights with the two kernel axes flattened. -/
theorem V_main_v1 (c : Dev nD) : V m c main_v1 = shapeCast S9x1024x640 (m ((c : Thread nD τ).loc main_arg3)) shapeCasts_S3x3x1024x640_S9x1024x640 := by
  show StableHlo.after hostOps0 _ (Proc.devRef .tc main_v1) = _
  after_results
  rfl
/-- The region finds the fifth input as the weights' scales in one row. -/
theorem V_main_v2 (c : Dev nD) : V m c main_v2 = shapeCast S1x640 (m ((c : Thread nD τ).loc main_arg4)) shapeCasts_S640_S1x640 := by
  show StableHlo.after hostOps0 _ (Proc.devRef .tc main_v2) = _
  after_results
  rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S1536x1024.Idx) : ((cfg0.win 0).blk t).view.emb j = j := by
  obtain ⟨e0, e1⟩ := idx_zero0 t
  funext a; apply Fin.ext
  match a with
  | ⟨0, _⟩ => show win0_0.index t (0 : Fin 2) * 1536 + 1 * (j 0).val = (j 0).val; omega
  | ⟨1, _⟩ => show win0_0.index t (1 : Fin 2) * 1024 + 1 * (j 1).val = (j 1).val; omega

/-- Input window 0's block at the point is its array as the region finds it. -/
theorem iblk0_eq (c : Dev nD) (t : Fin cfg0.N) : iblk m c 0 t = V m c main_v0 := by
  funext j; show V m c main_v0 (((cfg0.win 0).blk t).view.emb j) = V m c main_v0 j; rw [emb0]

/-- Window 1's block index at the one point is zero on every axis. -/
theorem idx_zero1 : ∀ t : Fin cfg0.N, win0_1.index t (0 : Fin 1) = 0 :=
  (by decide +kernel : ∀ t : Fin grid0.N, _)

/-- An index of window 1's block is the same index of its array. -/
theorem emb1 (t : Fin cfg0.N) (j : S2.Idx) : ((cfg0.win 1).blk t).view.emb j = j := by
  have e0 := idx_zero1 t
  funext a; apply Fin.ext
  match a with
  | ⟨0, _⟩ => show win0_1.index t (0 : Fin 1) * 2 + 1 * (j 0).val = (j 0).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S2x1024.Idx) : ((cfg0.win 2).blk t).view.emb j = j := by
  obtain ⟨e0, e1⟩ := idx_zero2 t
  funext a; apply Fin.ext
  match a with
  | ⟨0, _⟩ => show win0_2.index t (0 : Fin 2) * 2 + 1 * (j 0).val = (j 0).val; omega
  | ⟨1, _⟩ => show win0_2.index t (1 : Fin 2) * 1024 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S9x1024x640.Idx) : ((cfg0.win 3).blk t).view.emb j = j := by
  obtain ⟨e0, e1, e2⟩ := idx_zero3 t
  funext a; apply Fin.ext
  match a with
  | ⟨0, _⟩ => show win0_3.index t (0 : Fin 3) * 9 + 1 * (j 0).val = (j 0).val; omega
  | ⟨1, _⟩ => show win0_3.index t (1 : Fin 3) * 1024 + 1 * (j 1).val = (j 1).val; omega
  | ⟨2, _⟩ => show win0_3.index t (2 : Fin 3) * 640 + 1 * (j 2).val = (j 2).val; omega

/-- Input window 3's block at the point is its array as the region finds it. -/
theorem iblk3_eq (c : Dev nD) (t : Fin cfg0.N) : iblk m c 3 t = V m c main_v1 := by
  funext j; show V m c main_v1 (((cfg0.win 3).blk t).view.emb j) = V m c main_v1 j; rw [emb3]

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S1x640.Idx) : ((cfg0.win 4).blk t).view.emb j = j := by
  obtain ⟨e0, e1⟩ := idx_zero4 t
  funext a; apply Fin.ext
  match a with
  | ⟨0, _⟩ => show win0_4.index t (0 : Fin 2) * 1 + 1 * (j 0).val = (j 0).val; omega
  | ⟨1, _⟩ => show win0_4.index t (1 : Fin 2) * 640 + 1 * (j 1).val = (j 1).val; omega

/-- Input window 4's block at the point is its array as the region finds it. -/
theorem iblk4_eq (c : Dev nD) (t : Fin cfg0.N) : iblk m c 4 t = V m c main_v2 := by
  funext j; show V m c main_v2 (((cfg0.win 4).blk t).view.emb j) = V m c main_v2 j; rw [emb4]

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S1536x640.Idx) : ((cfg0.win 5).blk t).view.emb j = j := by
  obtain ⟨e0, e1⟩ := idx_zero5 t
  funext a; apply Fin.ext
  match a with
  | ⟨0, _⟩ => show win0_5.index t (0 : Fin 2) * 1536 + 1 * (j 0).val = (j 0).val; omega
  | ⟨1, _⟩ => show win0_5.index t (1 : Fin 2) * 640 + 1 * (j 1).val = (j 1).val; omega

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S2x640.Idx) : ((cfg0.win 6).blk t).view.emb j = j := by
  obtain ⟨e0, e1⟩ := idx_zero6 t
  funext a; apply Fin.ext
  match a with
  | ⟨0, _⟩ => show win0_6.index t (0 : Fin 2) * 2 + 1 * (j 0).val = (j 0).val; omega
  | ⟨1, _⟩ => show win0_6.index t (1 : Fin 2) * 640 + 1 * (j 1).val = (j 1).val; omega

/-- The result array: `ySpec` of the arguments reshaped. -/
def yOf (a0 : Vec Ideal S2x24x32x1024 .fp8e4m3) (a1 : Vec Ideal S2 .f32) (a2 : Vec Ideal S2x1024 .f32) (a3 : Vec Ideal S3x3x1024x640 .fp8e4m3) (a4 : Vec Ideal S640 .f32) : Vec Ideal S1536x640 .bf16 :=
  ySpec (shapeCast S1536x1024 a0 shapeCasts_S2x24x32x1024_S1536x1024) a1 a2 (shapeCast S9x1024x640 a3 shapeCasts_S3x3x1024x640_S9x1024x640) (shapeCast S1x640 a4 shapeCasts_S640_S1x640)

/-- The norms array: `sSpec` of the arguments reshaped. -/
def sOf (a2 : Vec Ideal S2x1024 .f32) (a3 : Vec Ideal S3x3x1024x640 .fp8e4m3) (a4 : Vec Ideal S640 .f32) : Vec Ideal S2x640 .f32 :=
  sSpec a2 (shapeCast S9x1024x640 a3 shapeCasts_S3x3x1024x640_S9x1024x640) (shapeCast S1x640 a4 shapeCasts_S640_S1x640)

/-- Cutting the point's block out of an array and reading the array through the block's view give the same. -/
theorem cut5_eq (t : Fin cfg0.N) (X : Vec Ideal S1536x640 .bf16) :
    (cfg0.win 5).cut (grid0.coords t) X = ((cfg0.win 5).blk t).view.read (Elt Ideal) X := by
  funext j
  show X j = X (((cfg0.win 5).blk t).view.emb j)
  rw [emb5]

/-- What the point writes back to result window 5 is its block of `ySpec` of the arrays as the region finds them. -/
theorem flushed5_eq (c : Dev nD) (t : Fin cfg0.N) :
    (dats m 0 c).flushed 5 t = ((cfg0.win 5).blk t).view.read (Elt Ideal) (ySpec (V m c main_v0) (V m c main_arg1) (V m c main_arg2) (V m c main_v1) (V m c main_v2)) := by
  show (cfg0.win 5).cut (grid0.coords t) ((dats m 0 c).after 5 t) = _
  rw [after0_5, iblk0_eq, iblk1_eq, iblk2_eq, iblk3_eq, iblk4_eq]
  exact cut5_eq t _

/-- Every index of the array is in the point's block. -/
theorem covered5 (i : S1536x640.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- The array of result window 5 after the run: `yOf` of the arguments as launched. -/
theorem final5 (c : Dev nD) : (dats m 0 c).arrAt 5 cfg0.N = yOf (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 5 (ySpec (V m c main_v0) (V m c main_arg1) (V m c main_arg2) (V m c main_v1) (V m c main_v2)) (fun t _ => flushed5_eq m c t) covered5).trans (by rw [V_main_v0, V_main_arg1, V_main_arg2, V_main_v1, V_main_v2]; rfl)

/-- Cutting the point's block out of an array and reading the array through the block's view give the same. -/
theorem cut6_eq (t : Fin cfg0.N) (X : Vec Ideal S2x640 .f32) :
    (cfg0.win 6).cut (grid0.coords t) X = ((cfg0.win 6).blk t).view.read (Elt Ideal) X := by
  funext j
  show X j = X (((cfg0.win 6).blk t).view.emb j)
  rw [emb6]

/-- What the point writes back to result window 6 is its block of `sSpec` of the arrays as the region finds them. -/
theorem flushed6_eq (c : Dev nD) (t : Fin cfg0.N) :
    (dats m 0 c).flushed 6 t = ((cfg0.win 6).blk t).view.read (Elt Ideal) (sSpec (V m c main_arg2) (V m c main_v1) (V m c main_v2)) := by
  show (cfg0.win 6).cut (grid0.coords t) ((dats m 0 c).after 6 t) = _
  rw [after0_6, iblk2_eq, iblk3_eq, iblk4_eq]
  exact cut6_eq t _

/-- Every index of the array is in the point's block. -/
theorem covered6 (i : S2x640.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- The array of result window 6 after the run: `sOf` of the arguments as launched. -/
theorem final6 (c : Dev nD) : (dats m 0 c).arrAt 6 cfg0.N = sOf (m ((c : Thread nD τ).loc main_arg2)) (m ((c : Thread nD τ).loc main_arg3)) (m ((c : Thread nD τ).loc main_arg4)) :=
  ((dats m 0 c).arrAt_eq_of_cover 6 (sSpec (V m c main_arg2) (V m c main_v1) (V m c main_v2)) (fun t _ => flushed6_eq m c t) covered6).trans (by rw [V_main_arg2, V_main_v1, V_main_v2]; rfl)

/-- The run: each result array at its function of the arguments, the arguments unchanged. -/
theorem run : θ_run defs (onTc (τ := τ) (main (F := Ideal))) ⟨m, fun _ => 0, ρ⟩ fun r => ∀ c : Dev nD,
      r.2.mem ((c.tc : Thread nD τ).loc main_v3_0) = yOf (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v3_1) = sOf (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (θ_run_and (run_main m ρ) (frame_of m ρ (dats m) (A_eq m) (run_main m ρ)))
  exact ⟨((h.1 c).1 5).trans (final5 m c), ((h.1 c).1 6).trans (final6 m c), h.2 c⟩

end Cert.KernelIdeal.Hand

end
-- ==== Proof.Ref.lean ====
module

public import proofs.«01_k».proof.Proof.Gen.ReferenceIdeal.Value
public import Idealize.ShloMosaic.Lib.Pointwise

@[expose] public section

/-! What the reference computes, index by index: the zero-padded modulated image, one tap of the convolution, the norm, and the
two results. -/

set_option maxRecDepth 16384

noncomputable section

namespace Cert.ReferenceIdeal.Hand

open Cert.ReferenceIdeal Cert.ReferenceIdeal.Gen
open Idealize.ShloMosaic Idealize.ShloMosaic.TcCoe Idealize.ShloMosaic.Tactic

variable (a0 : Vec Ideal S2x24x32x1024 .fp8e4m3) (a1 : Vec Ideal S2 .f32) (a2 : Vec Ideal S2x1024 .f32)
  (a3 : Vec Ideal S3x3x1024x640 .fp8e4m3) (a4 : Vec Ideal S640 .f32)

/-- The modulated image with a border of zeros one pixel wide: pixel `(i, j)` of the 26 by 34 pixels. -/
def pad (b : Fin 2) (i : Fin 26) (j : Fin 34) (c : Fin 1024) : EReal :=
  if h : 1 ≤ i.val ∧ i.val ≤ 24 ∧ 1 ≤ j.val ∧ j.val ≤ 32 then
    a0 (ix4 b ⟨i.val - 1, by omega⟩ ⟨j.val - 1, by omega⟩ c) * (a1 (ix1 b) * a2 (ix2 b c))
  else 0

/-- The integer zero read as a real is zero. -/
theorem int_zero : (((((0#32 : BitVec 32).toInt : ℤ) : ℝ)) : EReal) = 0 := by simp

/-- The reference's padded image. -/
theorem pad_apply (b : Fin 2) (i : Fin 26) (j : Fin 34) (c : Fin 1024) : k0_pay5 (F := Ideal) a2 a1 a0 (ix4 b i j c) = pad a0 a1 a2 b i j c := by
  pointwise [k0_pay5]
  unfold pad
  by_cases h1 : j.val < 33
  · by_cases h2 : j.val < 1
    · rw [dif_pos h1, dif_pos h2, dif_neg (by omega)]
      exact int_zero
    · by_cases h3 : i.val < 25
      · by_cases h4 : i.val < 1
        · rw [dif_pos h1, dif_neg h2, dif_pos h3, dif_pos h4, dif_neg (by omega)]
          exact int_zero
        · rw [dif_pos h1, dif_neg h2, dif_pos h3, dif_neg h4, dif_pos (by omega)]
      · rw [dif_pos h1, dif_neg h2, dif_neg h3, dif_neg (by omega)]
        exact int_zero
  · rw [dif_neg h1, dif_neg (by omega)]
    exact int_zero

/-- Tap `(ky, kx)` of the convolution at row `r` of the flattened image. -/
def tap (ky kx : Fin 3) (r : Fin 1536) (n : Fin 640) : EReal :=
  ∑ c : Fin 1024, pad a0 a1 a2 ⟨r.val / 768, by omega⟩ ⟨r.val / 32 % 24 + ky.val, by omega⟩ ⟨r.val % 32 + kx.val, by omega⟩ c * a3 (ix4 ky kx c n)

/-- A product over an array that holds the padded image and one that holds the weights is a tap. -/
theorem tap_of {P : FVec Ideal S2x26x34x1024 .bf16} (hP : ∀ b i j c, P (ix4 b i j c) = pad a0 a1 a2 b i j c)
    {V : FVec Ideal S3x3x1024x640 .bf16} (hV : ∀ (ky kx : Fin 3) (c : Fin 1024) (n : Fin 640), V (ix4 ky kx c n) = a3 (ix4 ky kx c n))
    {b : Fin 2} {i : Fin 26} {j : Fin 34} {ky kx : Fin 3} {r : Fin 1536} {n : Fin 640}
    (hb : b.val = r.val / 768) (hi : i.val = r.val / 32 % 24 + ky.val) (hj : j.val = r.val % 32 + kx.val) :
    ∑ c : Fin 1024, P (ix4 b i j c) * V (ix4 ky kx c n) = tap a0 a1 a2 a3 ky kx r n := by
  unfold tap
  refine Finset.sum_congr rfl fun c _ => ?_
  rw [hP, hV]
  congr 2 <;> exact Fin.ext (by assumption)

/-- The norm of image `b` and output channel `n`: over the input channels, the square of the style times the sum over the nine
    taps of the squares of the scaled weight. -/
def sigma (b : Fin 2) (n : Fin 640) : EReal :=
  ∑ d : Fin 1024, (a2 (ix2 b d) * a2 (ix2 b d)) * ∑ p : Fin 3 × Fin 3, (a3 (ix4 p.1 p.2 d n) * a4 (ix1 n)) * (a3 (ix4 p.1 p.2 d n) * a4 (ix1 n))

/-- A sum over the first two axes of an array of four axes. -/
theorem reduce_taps (v : S3x3x1024x640.Idx → EReal) (d : Fin 1024) (n : Fin 640) :
    Ideal.reduceAdd reduces_S3x3x1024x640_S1024x640 v (ix2 d n) = ∑ p : Fin 3 × Fin 3, v (ix4 p.1 p.2 d n) := by
  unfold Ideal.reduceAdd
  refine (Finset.sum_nbij' (fun p : Fin 3 × Fin 3 => (ix4 p.1 p.2 d n : S3x3x1024x640.Idx)) (fun i => ((i 0 : Fin 3), (i 1 : Fin 3))) ?_ ?_ ?_ ?_ ?_).symm
  · intro p _
    rw [Finset.mem_filter]
    refine ⟨Finset.mem_univ _, ?_⟩
    funext a; apply Fin.ext
    match a with
    | ⟨0, _⟩ => rfl
    | ⟨1, _⟩ => rfl
  · intro i _
    exact Finset.mem_univ _
  · intro p _
    rfl
  · intro i hi
    rw [Finset.mem_filter] at hi
    have e := hi.2
    have e2 : (i 2).val = d.val := congrArg Fin.val (congrFun e 0)
    have e3 : (i 3).val = n.val := congrArg Fin.val (congrFun e 1)
    funext a; apply Fin.ext
    match a with
    | ⟨0, _⟩ => rfl
    | ⟨1, _⟩ => rfl
    | ⟨2, _⟩ => exact e2.symm
    | ⟨3, _⟩ => exact e3.symm
  · intro p _
    rfl

/-- The reference's norms. -/
theorem sigma_apply (b : Fin 2) (n : Fin 640) : k0_pay2 (F := Ideal) a2 a4 a3 (ix2 b n) = sigma a2 a3 a4 b n := by
  pointwise [k0_pay2]
  unfold sigma
  refine Finset.sum_congr rfl fun d _ => congrArg _ ?_
  rw [reduce_taps]
  refine Finset.sum_congr rfl fun p _ => ?_
  pointwise

/-- The reference's demodulation factors. -/
theorem demod_apply (b : Fin 2) (n : Fin 640) :
    k0_pay3 (F := Ideal) a2 a4 a3 (ix2 b n) = Ideal.rsqrt (sigma a2 a3 a4 b n + Ideal.ofBits .f32 0x322BCC77#32) := by
  rw [← sigma_apply]
  pointwise [k0_pay3]

/-- The weights as the reference's products read them. -/
theorem weights_apply (x0 : Vec Ideal S2x24x32x1024 .fp8e4m3) (x1 : Vec Ideal S2 .f32) (x2 : Vec Ideal S2x1024 .f32) (x4 : Vec Ideal S640 .f32) : k0_pay11 (F := Ideal) x0 x1 x2 a3 x4 = k0_pay4 (F := Ideal) a3 := by
  unfold k0_pay11
  rw [View.ld_unit_zero (S := S3x3x1024x640) Cert.ReferenceIdeal.Value.hz3 _ a3]

/-- The padded image as the reference's products read it. -/
theorem image_apply : k0_pay12 (F := Ideal) a0 a1 a2 a3 a4 = k0_pay5 (F := Ideal) a2 a1 a0 := by
  unfold k0_pay12
  rw [View.ld_unit_zero (S := S2x1024) Cert.ReferenceIdeal.Value.hz2 _ a2, View.ld_unit_zero (S := S2) Cert.ReferenceIdeal.Value.hz1 _ a1, View.ld_unit_zero (S := S2x24x32x1024) Cert.ReferenceIdeal.Value.hz0 _ a0]

set_option maxHeartbeats 1000000 in
/-- The reference's first result at row `r` and output channel `n`: nine taps, the weights' scale, the demodulation. -/
theorem y_apply (r : Fin 1536) (n : Fin 640) :
    Cert.ReferenceIdeal.Value.G5 (F := Ideal) a0 a1 a2 a3 a4 (ix2 r n)
      = (tap a0 a1 a2 a3 0 0 r n + tap a0 a1 a2 a3 0 1 r n + tap a0 a1 a2 a3 0 2 r n + tap a0 a1 a2 a3 1 0 r n + tap a0 a1 a2 a3 1 1 r n
          + tap a0 a1 a2 a3 1 2 r n + tap a0 a1 a2 a3 2 0 r n + tap a0 a1 a2 a3 2 1 r n + tap a0 a1 a2 a3 2 2 r n) * a4 (ix1 n)
        * Ideal.rsqrt (sigma a2 a3 a4 ⟨r.val / 768, by omega⟩ n + Ideal.ofBits .f32 0x322BCC77#32) := by
  unfold Cert.ReferenceIdeal.Value.G5
  rw [weights_apply, image_apply]
  have hw : ∀ (ky kx : Fin 3) (c : Fin 1024) (n : Fin 640), k0_pay4 (F := Ideal) a3 (ix4 ky kx c n) = a3 (ix4 ky kx c n) := fun ky kx c n => by
    pointwise [k0_pay4]
  have h7 : ∀ (q : Fin 1536) (c : Fin 1024), k0_pay7 (F := Ideal) a2 a1 a0 (ix2 q c) = k0_pay5 (F := Ideal) a2 a1 a0 (ix4 ⟨q.val / 768, by omega⟩ ⟨q.val / 32 % 24, by omega⟩ ⟨q.val % 32, by omega⟩ c) := fun q c => by
    generalize hP : k0_pay5 (F := Ideal) a2 a1 a0 = P
    unfold k0_pay7
    rw [hP]
    pointwise
  have h8 : ∀ (c : Fin 1024) (n : Fin 640), k0_pay8 (F := Ideal) a3 (ix4 0 0 c n) = a3 (ix4 0 0 c n) := fun c n => by
    unfold k0_pay8
    generalize hP : k0_pay4 (F := Ideal) a3 = P
    pointwise
    rw [← hP]
    exact hw 0 0 c n
  have h6 : ∀ i, k0_pay6 (F := Ideal) i = (0 : EReal) := fun i => by
    obtain ⟨a, b, c, d, rfl⟩ : ∃ a b c d, i = ix4 a b c d := ⟨_, _, _, _, eq_ix4 i⟩
    pointwise [k0_pay6]
  rw [← demod_apply]
  have h5 := pad_apply a0 a1 a2
  generalize k0_pay5 (F := Ideal) a2 a1 a0 = P at h5 h7 ⊢
  generalize k0_pay4 (F := Ideal) a3 = V at hw ⊢
  generalize k0_pay7 (F := Ideal) a2 a1 a0 = P7 at h7 ⊢
  generalize k0_pay8 (F := Ideal) a3 = V8 at h8 ⊢
  generalize k0_pay6 (F := Ideal) = Z at h6 ⊢
  generalize k0_pay3 (F := Ideal) a2 a4 a3 = D
  pointwise [k0_pay1, k0_pay9, k0_pay10]
  rw [h6, zero_add]
  refine congrArg₂ (· * ·) (congrArg₂ (· * ·) ?_ rfl) rfl
  refine congrArg₂ (· + ·) (congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_) ?_
  · simp only [h7, h8, ← hw 0 0]
    exact tap_of a0 a1 a2 a3 h5 hw rfl rfl rfl
  · exact tap_of a0 a1 a2 a3 h5 hw rfl rfl (Nat.add_comm _ _)
  · exact tap_of a0 a1 a2 a3 h5 hw rfl rfl (Nat.add_comm _ _)
  · exact tap_of a0 a1 a2 a3 h5 hw rfl (Nat.add_comm _ _) rfl
  · exact tap_of a0 a1 a2 a3 h5 hw rfl (Nat.add_comm _ _) (Nat.add_comm _ _)
  · exact tap_of a0 a1 a2 a3 h5 hw rfl (Nat.add_comm _ _) (Nat.add_comm _ _)
  · exact tap_of a0 a1 a2 a3 h5 hw rfl (Nat.add_comm _ _) rfl
  · exact tap_of a0 a1 a2 a3 h5 hw rfl (Nat.add_comm _ _) (Nat.add_comm _ _)
  · exact tap_of a0 a1 a2 a3 h5 hw rfl (Nat.add_comm _ _) (Nat.add_comm _ _)

end Cert.ReferenceIdeal.Hand

end
-- ==== Proof.Equation.lean ====
module

public import proofs.«01_k».proof.Proof.Final
public import proofs.«01_k».proof.Proof.Ref

@[expose] public section

/-! The equation: the kernel's two results are the reference's, for all arguments. -/

set_option maxRecDepth 16384

noncomputable section

namespace Cert.Equation

open Cert.KernelIdeal Cert.KernelIdeal.Gen Cert.KernelIdeal.Hand
open Cert.ReferenceIdeal.Hand (tap sigma)
open Idealize.ShloMosaic Idealize.ShloMosaic.TcCoe Idealize.ShloMosaic.Tactic

variable (a0 : Vec Ideal S2x24x32x1024 .fp8e4m3) (a1 : Vec Ideal S2 .f32) (a2 : Vec Ideal S2x1024 .f32)
  (a3 : Vec Ideal S3x3x1024x640 .fp8e4m3) (a4 : Vec Ideal S640 .f32)

/-- The kernel's first input: the image's pixels in rows. -/
abbrev rows : Vec Ideal S1536x1024 .fp8e4m3 := shapeCast S1536x1024 a0 shapeCasts_S2x24x32x1024_S1536x1024
/-- The kernel's fourth input: the weights' taps in a row. -/
abbrev wts : Vec Ideal S9x1024x640 .fp8e4m3 := shapeCast S9x1024x640 a3 shapeCasts_S3x3x1024x640_S9x1024x640
/-- The kernel's fifth input: the scales in one row. -/
abbrev scl : Vec Ideal S1x640 .f32 := shapeCast S1x640 a4 shapeCasts_S640_S1x640

/-- A row of the flattened image is a pixel. -/
theorem rows_apply (r : Fin 1536) (c : Fin 1024) :
    rows a0 (ix2 r c) = a0 (ix4 ⟨r.val / 768, by omega⟩ ⟨r.val / 32 % 24, by omega⟩ ⟨r.val % 32, by omega⟩ c) := by
  pointwise [rows]

/-- The tap `(ky, kx)` is the flattened tap `3 ky + kx`. -/
theorem wts_apply (ky kx : Fin 3) (c : Fin 1024) (n : Fin 640) :
    wts a3 (ix3 ⟨3 * ky.val + kx.val, by omega⟩ c n) = a3 (ix4 ky kx c n) := by
  pointwise [wts]

/-- The scale of an output channel. -/
theorem scl_apply (n : Fin 640) : scl a4 (ix2 0 n) = a4 (ix1 n) := by
  pointwise [scl]

/-! ### The norms -/

/-- A square is not negative. -/
theorem sq_nonneg' (x : EReal) : 0 ≤ x * x := by
  rcases le_total 0 x with h | h
  · exact mul_nonneg h h
  · rw [← EReal.neg_le_neg_iff, neg_zero] at h
    have h2 := mul_nonneg h h
    rwa [neg_mul, mul_neg, neg_neg] at h2

/-- A factor comes out of a sum of numbers that are not negative. -/
theorem sum_mul_of_nonneg {ι : Type} [DecidableEq ι] (s : Finset ι) (f : ι → EReal) (hf : ∀ i, 0 ≤ f i) (x : EReal) :
    ∑ i ∈ s, f i * x = (∑ i ∈ s, f i) * x := by
  induction s using Finset.induction_on with
  | empty => simp
  | insert a s ha ih =>
    rw [Finset.sum_insert ha, Finset.sum_insert ha, ih, EReal.right_distrib_of_nonneg (hf a) (Finset.sum_nonneg fun i _ => hf i)]

/-- The kernel's sum over nine taps is the reference's over three by three. -/
theorem qsum_eq (d : Fin 1024) (n : Fin 640) :
    qsum (wts a3) d n = ∑ p : Fin 3 × Fin 3, (a3 (ix4 p.1 p.2 d n) : EReal) * a3 (ix4 p.1 p.2 d n) := by
  unfold qsum
  rw [← (finProdFinEquiv (m := 3) (n := 3)).sum_comp]
  refine Finset.sum_congr rfl fun p _ => ?_
  have e : (finProdFinEquiv (m := 3) (n := 3) p : Fin 9) = ⟨3 * p.1.val + p.2.val, by omega⟩ := Fin.ext (Nat.add_comm _ _)
  have h := wts_apply a3 p.1 p.2 d n
  rw [← e] at h
  exact congrArg₂ (· * ·) h h

/-- The kernel's norms are the reference's: the scale's square comes out of the sums of squares. -/
theorem norm_eq (b : Fin 2) (n : Fin 640) : Cert.KernelIdeal.Hand.norm a2 (wts a3) (scl a4) b n = sigma a2 a3 a4 b n := by
  unfold Cert.KernelIdeal.Hand.norm sigma part
  rw [scl_apply, mul_assoc, ← sum_mul_of_nonneg _ _ (fun d => ?_)]
  · refine Finset.sum_congr rfl fun d _ => ?_
    rw [qsum_eq, mul_assoc, ← sum_mul_of_nonneg _ _ (fun p => sq_nonneg' _)]
    refine congrArg _ (Finset.sum_congr rfl fun p _ => ?_)
    exact mul_mul_mul_comm _ _ _ _
  · rw [qsum_eq]
    exact mul_nonneg (sq_nonneg' _) (Finset.sum_nonneg fun p _ => sq_nonneg' _)

/-- The second result, whole. -/
theorem s_eq : sOf a2 a3 a4 = Cert.ReferenceIdeal.Value.G6 (F := Ideal) a0 a1 a2 a3 a4 := by
  funext y
  obtain ⟨b, n, rfl⟩ : ∃ (b : Fin 2) (n : Fin 640), y = ix2 b n := ⟨y 0, y 1, eq_ix2 y⟩
  exact (norm_eq a2 a3 a4 b n).trans (Cert.ReferenceIdeal.Hand.sigma_apply a2 a3 a4 b n).symm

/-! ### The convolution -/

/-- The padded image is zero on its border. -/
theorem pad_border (b : Fin 2) (i : Fin 26) (j : Fin 34) (c : Fin 1024) (h : i.val < 1 ∨ 24 < i.val ∨ j.val < 1 ∨ 32 < j.val) :
    Cert.ReferenceIdeal.Hand.pad a0 a1 a2 b i j c = 0 := by
  unfold Cert.ReferenceIdeal.Hand.pad
  exact dif_neg (by omega)

/-- A modulated pixel of the kernel is the padded image one row down and one column along. -/
theorem xs_eq (b : Fin 2) (r : Fin 1536) (c : Fin 1024) (i : Fin 26) (j : Fin 34) (hr : r.val + 33 = 768 * b.val + 32 * i.val + j.val)
    (hi : 1 ≤ i.val ∧ i.val ≤ 24) (hj : 1 ≤ j.val ∧ j.val ≤ 32) :
    xs (rows a0) a1 a2 r c = Cert.ReferenceIdeal.Hand.pad a0 a1 a2 b i j c := by
  unfold xs Cert.ReferenceIdeal.Hand.pad
  rw [dif_pos ⟨hi.1, hi.2, hj.1, hj.2⟩, rows_apply]
  have eb : (⟨r.val / 768, by omega⟩ : Fin 2) = b := Fin.ext (by dsimp only; omega)
  have ei : (⟨r.val / 32 % 24, by omega⟩ : Fin 24) = ⟨i.val - 1, by omega⟩ := Fin.ext (by dsimp only; omega)
  have ej : (⟨r.val % 32, by omega⟩ : Fin 32) = ⟨j.val - 1, by omega⟩ := Fin.ext (by dsimp only; omega)
  rw [eb, ei, ej]

/-- The kernel's shifted copies are the reference's padded image: copy `k` at a pixel of image `b` is the padded pixel one row
    down and `k` columns along. -/
theorem taps_eq (k : Fin 3) (b : Fin 2) (q : Fin 768) (c : Fin 1024) (j : Fin 34) (hj : j.val = q.val % 32 + k.val) :
    (taps (rows a0) a1 a2 (ix3 k ⟨768 * b.val + q.val, by omega⟩ c) : EReal)
      = Cert.ReferenceIdeal.Hand.pad a0 a1 a2 b ⟨q.val / 32 + 1, by omega⟩ j c := by
  unfold taps
  match k, hj with
  | ⟨0, _⟩, hj =>
    dsimp only at hj
    refine (if_neg (by decide : ¬ (0 : ℕ) = 1)).trans ((if_pos rfl).trans ?_)
    by_cases h : q.val % 32 = 0
    · exact (if_pos (show (768 * b.val + q.val) % 32 = 0 by omega)).trans (pad_border a0 a1 a2 b _ j c (by omega)).symm
    · exact (if_neg (show ¬ (768 * b.val + q.val) % 32 = 0 by omega)).trans
        (xs_eq a0 a1 a2 b ⟨768 * b.val + q.val - 1, by omega⟩ c ⟨q.val / 32 + 1, by omega⟩ j (by dsimp only; omega) (by dsimp only; omega) (by omega))
  | ⟨1, _⟩, hj =>
    dsimp only at hj
    exact (if_pos rfl).trans
      (xs_eq a0 a1 a2 b ⟨768 * b.val + q.val, by omega⟩ c ⟨q.val / 32 + 1, by omega⟩ j (by dsimp only; omega) (by dsimp only; omega) (by omega))
  | ⟨2, _⟩, hj =>
    dsimp only at hj
    refine (if_neg (by decide : ¬ (2 : ℕ) = 1)).trans ((if_neg (by decide : ¬ (2 : ℕ) = 0)).trans ?_)
    by_cases h : q.val % 32 = 31
    · exact (dif_pos (show (768 * b.val + q.val) % 32 = 31 by omega)).trans (pad_border a0 a1 a2 b _ j c (by omega)).symm
    · exact (dif_neg (show ¬ (768 * b.val + q.val) % 32 = 31 by omega)).trans
        (xs_eq a0 a1 a2 b ⟨768 * b.val + q.val + 1, by omega⟩ c ⟨q.val / 32 + 1, by omega⟩ j (by dsimp only; omega) (by dsimp only; omega) (by omega))

/-- A product of the kernel, the pixel given by the row of the padded image it reads. -/
theorem dot_eq (ky kx : Fin 3) (t : Fin 9) (ht : t.val = 3 * ky.val + kx.val) (b : Fin 2) (q : Fin 768) (n : Fin 640) (i : Fin 26) (j : Fin 34) (hi : i.val = q.val / 32 + 1) (hj : j.val = q.val % 32 + kx.val) :
    dot (rows a0) a1 a2 (wts a3) kx t b q n = ∑ c : Fin 1024, Cert.ReferenceIdeal.Hand.pad a0 a1 a2 b i j c * a3 (ix4 ky kx c n) := by
  have ei : i = ⟨q.val / 32 + 1, by omega⟩ := Fin.ext hi
  have et : t = ⟨3 * ky.val + kx.val, by omega⟩ := Fin.ext ht
  rw [ei, et]
  unfold dot
  exact Finset.sum_congr rfl fun c _ => congrArg₂ (· * ·) (taps_eq a0 a1 a2 kx b q c j hj) (wts_apply a3 ky kx c n)

/-- The padded image is zero on its first and last row. -/
theorem sum_border (b : Fin 2) (i : Fin 26) (j : Fin 34) (ky kx : Fin 3) (n : Fin 640) (h : i.val < 1 ∨ 24 < i.val) :
    ∑ c : Fin 1024, Cert.ReferenceIdeal.Hand.pad a0 a1 a2 b i j c * a3 (ix4 ky kx c n) = 0 := by
  refine Finset.sum_eq_zero fun c _ => ?_
  rw [pad_border a0 a1 a2 b i j c (by omega), zero_mul]

/-- A tap at row `768 b + p`. -/
theorem tap_row (ky kx : Fin 3) (b : Fin 2) (p : Fin 768) (n : Fin 640) (r : Fin 1536) (hr : r.val = 768 * b.val + p.val) :
    tap a0 a1 a2 a3 ky kx r n = ∑ c : Fin 1024, Cert.ReferenceIdeal.Hand.pad a0 a1 a2 b ⟨p.val / 32 + ky.val, by omega⟩ ⟨p.val % 32 + kx.val, by omega⟩ c * a3 (ix4 ky kx c n) := by
  unfold tap
  have e0 : (⟨r.val / 768, by omega⟩ : Fin 2) = b := Fin.ext (by dsimp only; omega)
  have e1 : (⟨r.val / 32 % 24 + ky.val, by omega⟩ : Fin 26) = ⟨p.val / 32 + ky.val, by omega⟩ := Fin.ext (by dsimp only; omega)
  have e2 : (⟨r.val % 32 + kx.val, by omega⟩ : Fin 34) = ⟨p.val % 32 + kx.val, by omega⟩ := Fin.ext (by dsimp only; omega)
  rw [e0, e1, e2]

/-- The kernel's tap one row up is the reference's tap `ky = 0`. -/
theorem up_eq (kx : Fin 3) (t : Fin 9) (ht : t.val = kx.val) (b : Fin 2) (p : Fin 768) (n : Fin 640) (r : Fin 1536) (hr : r.val = 768 * b.val + p.val) :
    up (rows a0) a1 a2 (wts a3) kx t b p n = tap a0 a1 a2 a3 0 kx r n := by
  rw [tap_row a0 a1 a2 a3 0 kx b p n r hr]
  unfold up
  by_cases h : p.val < 32
  · rw [dif_pos h, sum_border]
    dsimp only
    omega
  · rw [dif_neg h]
    exact dot_eq a0 a1 a2 a3 0 kx t (by simpa using ht) b _ n _ _ (by dsimp only; omega) (by dsimp only; omega)

/-- The kernel's middle tap is the reference's tap `ky = 1`. -/
theorem mid_eq (kx : Fin 3) (t : Fin 9) (ht : t.val = 3 + kx.val) (b : Fin 2) (p : Fin 768) (n : Fin 640) (r : Fin 1536) (hr : r.val = 768 * b.val + p.val) :
    dot (rows a0) a1 a2 (wts a3) kx t b p n = tap a0 a1 a2 a3 1 kx r n := by
  rw [tap_row a0 a1 a2 a3 1 kx b p n r hr]
  exact dot_eq a0 a1 a2 a3 1 kx t (by simpa using ht) b _ n _ _ rfl rfl

/-- The kernel's tap one row down is the reference's tap `ky = 2`. -/
theorem down_eq (kx : Fin 3) (t : Fin 9) (ht : t.val = 6 + kx.val) (b : Fin 2) (p : Fin 768) (n : Fin 640) (r : Fin 1536) (hr : r.val = 768 * b.val + p.val) :
    down (rows a0) a1 a2 (wts a3) kx t b p n = tap a0 a1 a2 a3 2 kx r n := by
  rw [tap_row a0 a1 a2 a3 2 kx b p n r hr]
  unfold down
  by_cases h : p.val < 736
  · rw [dif_pos h]
    exact dot_eq a0 a1 a2 a3 2 kx t (by simpa using ht) b _ n _ _ (by dsimp only; omega) (by dsimp only; omega)
  · rw [dif_neg h, sum_border]
    dsimp only
    omega

/-- Nine terms added column after column are the nine added row after row. -/
theorem nine_comm (t00 t01 t02 t10 t11 t12 t20 t21 t22 : EReal) :
    t00 + t10 + t20 + t01 + t11 + t21 + t02 + t12 + t22 = t00 + t01 + t02 + t10 + t11 + t12 + t20 + t21 + t22 := by
  simp only [add_assoc, add_left_comm, add_comm]

/-- The first result, whole. -/
theorem y_eq : yOf a0 a1 a2 a3 a4 = Cert.ReferenceIdeal.Value.G5 (F := Ideal) a0 a1 a2 a3 a4 := by
  funext y
  obtain ⟨r, n, rfl⟩ : ∃ (r : Fin 1536) (n : Fin 640), y = ix2 r n := ⟨y 0, y 1, eq_ix2 y⟩
  refine Eq.trans ?_ (Cert.ReferenceIdeal.Hand.y_apply a0 a1 a2 a3 a4 r n).symm
  show outAt (rows a0) a1 a2 (wts a3) (scl a4) ⟨r.val / 768, by omega⟩ ⟨r.val % 768, by omega⟩ n = _
  have hr : r.val = 768 * (r.val / 768) + r.val % 768 := by omega
  unfold outAt demod conv
  rw [norm_eq, scl_apply,
    up_eq a0 a1 a2 a3 0 0 rfl _ _ n r hr, mid_eq a0 a1 a2 a3 0 3 rfl _ _ n r hr, down_eq a0 a1 a2 a3 0 6 rfl _ _ n r hr,
    up_eq a0 a1 a2 a3 1 1 rfl _ _ n r hr, mid_eq a0 a1 a2 a3 1 4 rfl _ _ n r hr, down_eq a0 a1 a2 a3 1 7 rfl _ _ n r hr,
    up_eq a0 a1 a2 a3 2 2 rfl _ _ n r hr, mid_eq a0 a1 a2 a3 2 5 rfl _ _ n r hr, down_eq a0 a1 a2 a3 2 8 rfl _ _ n r hr,
    nine_comm]

end Cert.Equation

end
-- ==== Proof.lean ====
module

public import proofs.«01_k».proof.Defs
public import proofs.«01_k».proof.Proof.Gen.Kernel
public import proofs.«01_k».proof.Proof.KernelFrame
public import proofs.«01_k».proof.Proof.Gen.KernelIdeal
public import proofs.«01_k».proof.Proof.Gen.ReferenceIdeal
public import proofs.«01_k».proof.Proof.Gen.ReferenceIdeal.Value
public import proofs.«01_k».proof.Proof.Equation
public import Idealize.ShloMosaic.Lib.Bf16Pair
public import Idealize.ShloMosaic.Adequacy
public import Idealize.ShloMosaic.Init

@[expose] public section

noncomputable section

namespace Cert.Proof

open Idealize.ShloMosaic Idealize.SL.Sem

/-- The ideal reading's rewrites are sound: sixteen-bit rows against the words that pair them, at the kernel's shapes, and the
    select against zero words. -/
theorem preserves : Cert.preserves_Kernel_KernelIdeal :=
  have h := IdealRules.bf16_pair.statement Cert.KernelIdeal.S32x128 Cert.KernelIdeal.S16x128
  have hz := IdealRules.bf16_pair.selectZeroStatement Cert.KernelIdeal.S16x128
  ⟨h, hz⟩

/-- Over the extended reals kernel and reference end with equal results: the kernel's are `yOf` and `sOf` of the arguments, the
    reference's `G5` and `G6`, and the two pairs are equal functions. -/
theorem algebraic : Cert.algebraic_KernelIdeal_ReferenceIdeal := by
  intro m ρ m' ρ' _ hagree
  refine ⟨_, _, Cert.KernelIdeal.Hand.run m ρ, ?_⟩
  refine (θ_run Cert.ReferenceIdeal.defs _ _).mono (fun _ h c => ?_) (Cert.ReferenceIdeal.Value.run (F := Ideal) m' ρ')
  obtain ⟨h5, h6, hargs⟩ := h c
  obtain ⟨e0, e1, e2, e3, e4⟩ := hagree c
  refine ⟨h5.trans ?_, h6.trans ?_, hargs⟩
  · rw [e0, e1, e2, e3, e4]
    exact (Cert.Equation.y_eq _ _ _ _ _).symm
  · rw [e0, e1, e2, e3, e4]
    exact (Cert.Equation.s_eq _ _ _ _ _).symm

/-- The five claims. -/
theorem claim : Cert.Claim :=
  ⟨Cert.Kernel.Gen.facts, Cert.KernelIdeal.Gen.facts, Cert.ReferenceIdeal.Gen.facts,
    fun m ρ _ => Cert.Kernel.Hand.frame_claim m ρ,
    fun m ρ _ => Cert.KernelIdeal.Hand.frame_claim m ρ,
    fun m ρ _ => Cert.ReferenceIdeal.Gen.frame m ρ,
    preserves,
    algebraic⟩

end Cert.Proof

end
